-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_projection_inputs [hPre_finite_projection_inputs : Cert.Pre_finite_projection_inputs.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_projection_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite_projection_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite_projection_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite_projection_inputs.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_projection_inputs [hPre_finite_projection_inputs : Cert.Pre_finite_projection_inputs.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_projection_inputs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite_projection_inputs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite_projection_inputs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite_projection_inputs.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_projection_inputs [hKernel3Ideal : Cert.Kernel3Ideal.Facts] [hPre_finite_projection_inputs : Cert.Pre_finite_projection_inputs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_projection_inputs m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_projection_inputs [hReference3Ideal : Cert.Reference3Ideal.Facts] [hPre_finite_projection_inputs : Cert.Pre_finite_projection_inputs.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_projection_inputs m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_projection_inputs [hKernel3Ideal : Cert.Kernel3Ideal.Facts] [hReference3Ideal : Cert.Reference3Ideal.Facts] [hPre_finite_projection_inputs : Cert.Pre_finite_projection_inputs.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_projection_inputs m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v71_0)) (v1 : (c : Dev Cert.Kernel3Ideal.nD) → Buf (Elt Ideal) ((c.tc : Thread Cert.Kernel3Ideal.nD Cert.Kernel3Ideal.τ).loc Cert.Kernel3Ideal.main_v71_1)) (v2 : (c : Dev Cert.Kernel3Ideal.nD) → Buf (Elt Ideal) ((c.tc : Thread Cert.Kernel3Ideal.nD Cert.Kernel3Ideal.τ).loc Cert.Kernel3Ideal.main_v71_2)) (v3 : (c : Dev Cert.Kernel3Ideal.nD) → Buf (Elt Ideal) ((c.tc : Thread Cert.Kernel3Ideal.nD Cert.Kernel3Ideal.τ).loc Cert.Kernel3Ideal.main_v71_3)) (v4 : (c : Dev Cert.Kernel3Ideal.nD) → Buf (Elt Ideal) ((c.tc : Thread Cert.Kernel3Ideal.nD Cert.Kernel3Ideal.τ).loc Cert.Kernel3Ideal.main_v71_4)) (v5 : (c : Dev Cert.Kernel3Ideal.nD) → Buf (Elt Ideal) ((c.tc : Thread Cert.Kernel3Ideal.nD Cert.Kernel3Ideal.τ).loc Cert.Kernel3Ideal.main_v71_5)) (v6 : (c : Dev Cert.Kernel3Ideal.nD) → Buf (Elt Ideal) ((c.tc : Thread Cert.Kernel3Ideal.nD Cert.Kernel3Ideal.τ).loc Cert.Kernel3Ideal.main_v71_6)) (v7 : (c : Dev Cert.Kernel3Ideal.nD) → Buf (Elt Ideal) ((c.tc : Thread Cert.Kernel3Ideal.nD Cert.Kernel3Ideal.τ).loc Cert.Kernel3Ideal.main_v71_7)) (v8 : (c : Dev Cert.Kernel3Ideal.nD) → Buf (Elt Ideal) ((c.tc : Thread Cert.Kernel3Ideal.nD Cert.Kernel3Ideal.τ).loc Cert.Kernel3Ideal.main_v71_8)) (v9 : (c : Dev Cert.Kernel3Ideal.nD) → Buf (Elt Ideal) ((c.tc : Thread Cert.Kernel3Ideal.nD Cert.Kernel3Ideal.τ).loc Cert.Kernel3Ideal.main_v71_9)) (v10 : (c : Dev Cert.Kernel3Ideal.nD) → Buf (Elt Ideal) ((c.tc : Thread Cert.Kernel3Ideal.nD Cert.Kernel3Ideal.τ).loc Cert.Kernel3Ideal.main_v71_10)) (v11 : (c : Dev Cert.Kernel3Ideal.nD) → Buf (Elt Ideal) ((c.tc : Thread Cert.Kernel3Ideal.nD Cert.Kernel3Ideal.τ).loc Cert.Kernel3Ideal.main_v71_11)) (v12 : (c : Dev Cert.Kernel3Ideal.nD) → Buf (Elt Ideal) ((c.tc : Thread Cert.Kernel3Ideal.nD Cert.Kernel3Ideal.τ).loc Cert.Kernel3Ideal.main_v71_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v71_0) = v0 c
          ∧ r.2.mem ((c.tc : Thread Cert.Kernel3Ideal.nD Cert.Kernel3Ideal.τ).loc Cert.Kernel3Ideal.main_v71_1) = v1 c
          ∧ r.2.mem ((c.tc : Thread Cert.Kernel3Ideal.nD Cert.Kernel3Ideal.τ).loc Cert.Kernel3Ideal.main_v71_2) = v2 c
          ∧ r.2.mem ((c.tc : Thread Cert.Kernel3Ideal.nD Cert.Kernel3Ideal.τ).loc Cert.Kernel3Ideal.main_v71_3) = v3 c
          ∧ r.2.mem ((c.tc : Thread Cert.Kernel3Ideal.nD Cert.Kernel3Ideal.τ).loc Cert.Kernel3Ideal.main_v71_4) = v4 c
          ∧ r.2.mem ((c.tc : Thread Cert.Kernel3Ideal.nD Cert.Kernel3Ideal.τ).loc Cert.Kernel3Ideal.main_v71_5) = v5 c
          ∧ r.2.mem ((c.tc : Thread Cert.Kernel3Ideal.nD Cert.Kernel3Ideal.τ).loc Cert.Kernel3Ideal.main_v71_6) = v6 c
          ∧ r.2.mem ((c.tc : Thread Cert.Kernel3Ideal.nD Cert.Kernel3Ideal.τ).loc Cert.Kernel3Ideal.main_v71_7) = v7 c
          ∧ r.2.mem ((c.tc : Thread Cert.Kernel3Ideal.nD Cert.Kernel3Ideal.τ).loc Cert.Kernel3Ideal.main_v71_8) = v8 c
          ∧ r.2.mem ((c.tc : Thread Cert.Kernel3Ideal.nD Cert.Kernel3Ideal.τ).loc Cert.Kernel3Ideal.main_v71_9) = v9 c
          ∧ r.2.mem ((c.tc : Thread Cert.Kernel3Ideal.nD Cert.Kernel3Ideal.τ).loc Cert.Kernel3Ideal.main_v71_10) = v10 c
          ∧ r.2.mem ((c.tc : Thread Cert.Kernel3Ideal.nD Cert.Kernel3Ideal.τ).loc Cert.Kernel3Ideal.main_v71_11) = v11 c
          ∧ r.2.mem ((c.tc : Thread Cert.Kernel3Ideal.nD Cert.Kernel3Ideal.τ).loc Cert.Kernel3Ideal.main_v71_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v238) = v0 c
          ∧ r.2.mem ((c.tc : Thread Cert.Reference3Ideal.nD Cert.Reference3Ideal.τ).loc Cert.Reference3Ideal.main_v199) = v1 c
          ∧ r.2.mem ((c.tc : Thread Cert.Reference3Ideal.nD Cert.Reference3Ideal.τ).loc Cert.Reference3Ideal.main_v200) = v2 c
          ∧ r.2.mem ((c.tc : Thread Cert.Reference3Ideal.nD Cert.Reference3Ideal.τ).loc Cert.Reference3Ideal.main_v239) = v3 c
          ∧ r.2.mem ((c.tc : Thread Cert.Reference3Ideal.nD Cert.Reference3Ideal.τ).loc Cert.Reference3Ideal.main_v241) = v4 c
          ∧ r.2.mem ((c.tc : Thread Cert.Reference3Ideal.nD Cert.Reference3Ideal.τ).loc Cert.Reference3Ideal.main_v242) = v5 c
          ∧ r.2.mem ((c.tc : Thread Cert.Reference3Ideal.nD Cert.Reference3Ideal.τ).loc Cert.Reference3Ideal.main_v244) = v6 c
          ∧ r.2.mem ((c.tc : Thread Cert.Reference3Ideal.nD Cert.Reference3Ideal.τ).loc Cert.Reference3Ideal.main_v245) = v7 c
          ∧ r.2.mem ((c.tc : Thread Cert.Reference3Ideal.nD Cert.Reference3Ideal.τ).loc Cert.Reference3Ideal.main_v246) = v8 c
          ∧ r.2.mem ((c.tc : Thread Cert.Reference3Ideal.nD Cert.Reference3Ideal.τ).loc Cert.Reference3Ideal.main_v247) = v9 c
          ∧ r.2.mem ((c.tc : Thread Cert.Reference3Ideal.nD Cert.Reference3Ideal.τ).loc Cert.Reference3Ideal.main_v248) = v10 c
          ∧ r.2.mem ((c.tc : Thread Cert.Reference3Ideal.nD Cert.Reference3Ideal.τ).loc Cert.Reference3Ideal.main_v249) = v11 c
          ∧ r.2.mem ((c.tc : Thread Cert.Reference3Ideal.nD Cert.Reference3Ideal.τ).loc Cert.Reference3Ideal.main_v250) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v161) = v0 c
          ∧ r.2.mem ((c.tc : Thread Cert.Reference4Ideal.nD Cert.Reference4Ideal.τ).loc Cert.Reference4Ideal.main_v164) = v1 c
          ∧ r.2.mem ((c.tc : Thread Cert.Reference4Ideal.nD Cert.Reference4Ideal.τ).loc Cert.Reference4Ideal.main_v165) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_queries_keys : Cert.Pre_finite_queries_keys.Facts) (hPre_finite_projection_inputs : Cert.Pre_finite_projection_inputs.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_projection_inputs (hKernel3Ideal := hKernel3Ideal) (hPre_finite_projection_inputs := hPre_finite_projection_inputs)
    ∧ quiescent_Reference3Ideal (hReference3Ideal := hReference3Ideal)
    ∧ quiescent_Reference3Ideal_pre_finite_projection_inputs (hReference3Ideal := hReference3Ideal) (hPre_finite_projection_inputs := hPre_finite_projection_inputs)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_projection_inputs (hKernel3Ideal := hKernel3Ideal) (hReference3Ideal := hReference3Ideal) (hPre_finite_projection_inputs := hPre_finite_projection_inputs)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_projection_inputs.lean ====
abbrev S8x4352x1024 : Shape := ⟨3, ![8, 4352, 1024]⟩
abbrev S9x1x6144 : Shape := ⟨3, ![9, 1, 6144]⟩
abbrev S1024 : Shape := ⟨1, ![1024]⟩
abbrev S1024x12800 : Shape := ⟨2, ![1024, 12800]⟩
abbrev S64 : Shape := ⟨1, ![64]⟩
abbrev S1024x1280 : Shape := ⟨2, ![1024, 1280]⟩
abbrev S_ : Shape := ⟨0, ![]⟩
abbrev S9x1x2048 : Shape := ⟨3, ![9, 1, 2048]⟩

class Facts : Prop where
  slices_S1024x12800_S1024x1280_0_8192 : S1024x12800.Slices ![0, 8192] S1024x1280
  bcast_S_S8x4352x1024 : S_.BroadcastsInDim S8x4352x1024 (![] : Fin 0 → Fin S8x4352x1024.rank)
  slices_S9x1x6144_S9x1x2048_0_0_0 : S9x1x6144.Slices ![0, 0, 0] S9x1x2048
  bcast_S_S9x1x2048 : S_.BroadcastsInDim S9x1x2048 (![] : Fin 0 → Fin S9x1x2048.rank)
  bcast_S_S1024 : S_.BroadcastsInDim S1024 (![] : Fin 0 → Fin S1024.rank)
  bcast_S_S1024x1280 : S_.BroadcastsInDim S1024x1280 (![] : Fin 0 → Fin S1024x1280.rank)

variable [Facts]

def fn {F : FTy → Type} [FloatOps F] (main_arg0 : FVec F S8x4352x1024 .f32) (main_arg1 : FVec F S9x1x6144 .f32) (main_arg2 : FVec F S1024 .f32) (main_arg3 : FVec F S1024x12800 .f32) (main_arg4 : FVec F S64 .f32) (main_arg5 : FVec F S64 .f32) : IVec S8x4352x1024 1 × IVec S9x1x2048 1 × IVec S1024 1 × IVec S1024x1280 1 :=
  let main_v0 : FVec F S1024x1280 .f32 := (extractStridedSlice S1024x1280 ![0, 8192] · slices_S1024x12800_S1024x1280_0_8192) main_arg3
  let main_v1 : FVec F S8x4352x1024 .f32 := Host.absf main_arg0
  let main_cst : FVec F S_ .f32 := constant S_ .f32 0x7F800000#32
  let main_v2 : FVec F S8x4352x1024 .f32 := broadcastInDim S8x4352x1024 ![] bcast_S_S8x4352x1024 main_cst
  let main_v3 : IVec S8x4352x1024 1 := cmpf .olt main_v1 main_v2
  let main_v4 : FVec F S9x1x2048 .f32 := (extractStridedSlice S9x1x2048 ![0, 0, 0] · slices_S9x1x6144_S9x1x2048_0_0_0) main_arg1
  let main_v5 : FVec F S9x1x2048 .f32 := Host.absf main_v4
  let main_cst_0 : FVec F S_ .f32 := constant S_ .f32 0x7F800000#32
  let main_v6 : FVec F S9x1x2048 .f32 := broadcastInDim S9x1x2048 ![] bcast_S_S9x1x2048 main_cst_0
  let main_v7 : IVec S9x1x2048 1 := cmpf .olt main_v5 main_v6
  let main_v8 : FVec F S1024 .f32 := Host.absf main_arg2
  let main_cst_1 : FVec F S_ .f32 := constant S_ .f32 0x7F800000#32
  let main_v9 : FVec F S1024 .f32 := broadcastInDim S1024 ![] bcast_S_S1024 main_cst_1
  let main_v10 : IVec S1024 1 := cmpf .olt main_v8 main_v9
  let main_v11 : FVec F S1024x1280 .f32 := Host.absf main_v0
  let main_cst_2 : FVec F S_ .f32 := constant S_ .f32 0x7F800000#32
  let main_v12 : FVec F S1024x1280 .f32 := broadcastInDim S1024x1280 ![] bcast_S_S1024x1280 main_cst_2
  let main_v13 : IVec S1024x1280 1 := cmpf .olt main_v11 main_v12
  (main_v3, main_v7, main_v10, main_v13)
-- ==== Pre_finite_queries_keys.lean ====
abbrev S8x4352x1024 : Shape := ⟨3, ![8, 4352, 1024]⟩
abbrev S8x4x4352x64 : Shape := ⟨4, ![8, 4, 4352, 64]⟩
abbrev S_ : Shape := ⟨0, ![]⟩

class Facts : Prop where
  bitsLt_bf16_f32 : FTy.bits .bf16 < FTy.bits .f32
  bcast_S_S8x4352x1024 : S_.BroadcastsInDim S8x4352x1024 (![] : Fin 0 → Fin S8x4352x1024.rank)
  bcast_S_S8x4x4352x64 : S_.BroadcastsInDim S8x4x4352x64 (![] : Fin 0 → Fin S8x4x4352x64.rank)

variable [Facts]

def fn {F : FTy → Type} [FloatOps F] (main_arg0 : FVec F S8x4352x1024 .bf16) (main_arg1 : FVec F S8x4x4352x64 .bf16) (main_arg2 : FVec F S8x4x4352x64 .bf16) : IVec S8x4352x1024 1 × IVec S8x4x4352x64 1 :=
  let main_v0 : FVec F S8x4352x1024 .f32 := (extf .f32 · bitsLt_bf16_f32) main_arg0
  let main_v1 : FVec F S8x4352x1024 .f32 := Host.absf main_v0
  let main_cst : FVec F S_ .f32 := constant S_ .f32 0x7F800000#32
  let main_v2 : FVec F S8x4352x1024 .f32 := broadcastInDim S8x4352x1024 ![] bcast_S_S8x4352x1024 main_cst
  let main_v3 : IVec S8x4352x1024 1 := cmpf .olt main_v1 main_v2
  let main_v4 : FVec F S8x4x4352x64 .f32 := (extf .f32 · bitsLt_bf16_f32) main_arg1
  let main_v5 : FVec F S8x4x4352x64 .f32 := Host.absf main_v4
  let main_cst_0 : FVec F S_ .f32 := constant S_ .f32 0x7F800000#32
  let main_v6 : FVec F S8x4x4352x64 .f32 := broadcastInDim S8x4x4352x64 ![] bcast_S_S8x4x4352x64 main_cst_0
  let main_v7 : IVec S8x4x4352x64 1 := cmpf .olt main_v5 main_v6
  (main_v3, main_v7)
-- ==== Kernel.lean ====
abbrev S8x4352x1024 : Shape := ⟨3, ![8, 4352, 1024]⟩
abbrev S8x4x4352x64 : Shape := ⟨4, ![8, 4, 4352, 64]⟩
abbrev S1x256x256 : Shape := ⟨3, ![1, 256, 256]⟩
abbrev S1x1x4352x64 : Shape := ⟨4, ![1, 1, 4352, 64]⟩
abbrev S1x1x256x64 : Shape := ⟨4, ![1, 1, 256, 64]⟩
abbrev S256x64 : Shape := ⟨2, ![256, 64]⟩
abbrev S1x256x64 : Shape := ⟨3, ![1, 256, 64]⟩
abbrev S256x256 : Shape := ⟨2, ![256, 256]⟩
abbrev S256 : Shape := ⟨1, ![256]⟩
abbrev S256x1 : Shape := ⟨2, ![256, 1]⟩
abbrev S4352x64 : Shape := ⟨2, ![4352, 64]⟩
abbrev S256x4352 : Shape := ⟨2, ![256, 4352]⟩

abbrev nBuf : Space → Nat
  | .hbm => 4
  | .vmem => 8
  | .smem => 0
  | _ => 0

abbrev bufTy : (tb : Table) → Fin (tcTables nBuf tb) → BufTy
  | .hbm, ⟨0, _⟩ => ⟨S8x4352x1024, .bf16⟩
  | .hbm, ⟨1, _⟩ => ⟨S8x4x4352x64, .bf16⟩
  | .hbm, ⟨2, _⟩ => ⟨S8x4x4352x64, .bf16⟩
  | .hbm, ⟨3, _⟩ => ⟨S8x4352x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x1x4352x64, .bf16⟩
  | .local _ .vmem, ⟨3, _⟩ => ⟨S1x1x4352x64, .bf16⟩
  | .local _ .vmem, ⟨4, _⟩ => ⟨S1x1x4352x64, .bf16⟩
  | .local _ .vmem, ⟨5, _⟩ => ⟨S1x1x4352x64, .bf16⟩
  | .local _ .vmem, ⟨6, _⟩ => ⟨S1x256x256, .bf16⟩
  | .local _ .vmem, ⟨7, _⟩ => ⟨S1x256x256, .bf16⟩
  | _, _ => ⟨S8x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 17], ![false, false, false]⟩

def k0_cond1 (i : grid0.Coords) : BitVec 1 :=
  let arg2 : BitVec 32 := BitVec.ofNat 32 (i 2).val
  let c1_i32 : BitVec 32 := 1#32
  let v0 : BitVec 1 := Scalar.cmpi .slt arg2 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c1_i32_0 : BitVec 32 := 1#32
  let v3 : BitVec 1 := Scalar.cmpi .sge arg2 c1_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4352x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4352x1024 : Shape := ⟨3, ![8, 4352, 1024]⟩
abbrev S8x4x4352x64 : Shape := ⟨4, ![8, 4, 4352, 64]⟩
abbrev S8x4352x4x4x64 : Shape := ⟨5, ![8, 4352, 4, 4, 64]⟩
abbrev S8x4352x4x64 : Shape := ⟨4, ![8, 4352, 4, 64]⟩
abbrev S8x256x4x4x64 : Shape := ⟨5, ![8, 256, 4, 4, 64]⟩
abbrev S8x256x4x64 : Shape := ⟨4, ![8, 256, 4, 64]⟩
abbrev S8x4x256x256x4 : Shape := ⟨5, ![8, 4, 256, 256, 4]⟩
abbrev S8x4x4x256x256 : Shape := ⟨5, ![8, 4, 4, 256, 256]⟩
abbrev S_ : Shape := ⟨0, ![]⟩
abbrev S8x4x4x256 : Shape := ⟨4, ![8, 4, 4, 256]⟩
abbrev S8x4x4x256x1 : Shape := ⟨5, ![8, 4, 4, 256, 1]⟩
abbrev S8x4x64x4x256 : Shape := ⟨5, ![8, 4, 64, 4, 256]⟩
abbrev S8x256x1024 : Shape := ⟨3, ![8, 256, 1024]⟩
abbrev S8x4096x4x4x64 : Shape := ⟨5, ![8, 4096, 4, 4, 64]⟩
abbrev S8x4x4352x4096x4 : Shape := ⟨5, ![8, 4, 4352, 4096, 4]⟩
abbrev S8x4x4x4096x4352 : Shape := ⟨5, ![8, 4, 4, 4096, 4352]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩
abbrev S8x4096x1024 : Shape := ⟨3, ![8, 4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x4352x1024, .bf16⟩
  | .hbm, ⟨1, _⟩ => ⟨S8x4x4352x64, .bf16⟩
  | .hbm, ⟨2, _⟩ => ⟨S8x4x4352x64, .bf16⟩
  | .hbm, ⟨3, _⟩ => ⟨S8x4352x1024, .f32⟩
  | .hbm, ⟨4, _⟩ => ⟨S8x4x4352x64, .f32⟩
  | .hbm, ⟨5, _⟩ => ⟨S8x4x4352x64, .f32⟩
  | .hbm, ⟨6, _⟩ => ⟨S8x4352x4x4x64, .f32⟩
  | .hbm, ⟨7, _⟩ => ⟨S8x4352x4x64, .f32⟩
  | .hbm, ⟨8, _⟩ => ⟨S8x4352x4x64, .f32⟩
  | .hbm, ⟨9, _⟩ => ⟨S8x256x4x4x64, .f32⟩
  | .hbm, ⟨10, _⟩ => ⟨S8x256x4x64, .f32⟩
  | .hbm, ⟨11, _⟩ => ⟨S8x256x4x64, .f32⟩
  | .hbm, ⟨12, _⟩ => ⟨S8x4x256x256x4, .f32⟩
  | .hbm, ⟨13, _⟩ => ⟨S8x4x4x256x256, .f32⟩
  | .hbm, ⟨14, _⟩ => ⟨S_, .f32⟩
  | .hbm, ⟨15, _⟩ => ⟨S8x4x4x256, .f32⟩
  | .hbm, ⟨16, _⟩ => ⟨S_, .f32⟩
  | .hbm, ⟨17, _⟩ => ⟨S8x4x4x256, .f32⟩
  | .hbm, ⟨18, _⟩ => ⟨S8x4x4x256, .f32⟩
  | .hbm, ⟨19, _⟩ => ⟨S8x4x4x256x1, .f32⟩
  | .hbm, ⟨20, _⟩ => ⟨S8x4x4x256x256, .f32⟩
  | .hbm, ⟨21, _⟩ => ⟨S8x4x4x256x256, .f32⟩
  | .hbm, ⟨22, _⟩ => ⟨S8x4x4x256x256, .f32⟩
  | .hbm, ⟨23, _⟩ => ⟨S_, .f32⟩
  | .hbm, ⟨24, _⟩ => ⟨S8x4x4x256, .f32⟩
  | .hbm, ⟨25, _⟩ => ⟨S8x4x4x256x1, .f32⟩
  | .hbm, ⟨26, _⟩ => ⟨S8x4x4x256x256, .f32⟩
  | .hbm, ⟨27, _⟩ => ⟨S8x4x4x256x256, .f32⟩
  | .hbm, ⟨28, _⟩ => ⟨S8x4x64x4x256, .f32⟩
  | .hbm, ⟨29, _⟩ => ⟨S8x256x4x4x64, .f32⟩
  | .hbm, ⟨30, _⟩ => ⟨S8x256x1024, .f32⟩
  | .hbm, ⟨31, _⟩ => ⟨S8x4096x4x4x64, .f32⟩
  | .hbm, ⟨32, _⟩ => ⟨S8x4x4352x4096x4, .f32⟩
  | .hbm, ⟨33, _⟩ => ⟨S8x4x4x4096x4352, .f32⟩
  | .hbm, ⟨34, _⟩ => ⟨S_, .f32⟩
  | .hbm, ⟨35, _⟩ => ⟨S8x4x4x4096, .f32⟩
  | .hbm, ⟨36, _⟩ => ⟨S_, .f32⟩
  | .hbm, ⟨37, _⟩ => ⟨S8x4x4x4096, .f32⟩
  | .hbm, ⟨38, _⟩ => ⟨S8x4x4x4096, .f32⟩
  | .hbm, ⟨39, _⟩ => ⟨S8x4x4x4096x1, .f32⟩
  | .hbm, ⟨40, _⟩ => ⟨S8x4x4x4096x4352, .f32⟩
  | .hbm, ⟨41, _⟩ => ⟨S8x4x4x4096x4352, .f32⟩
  | .hbm, ⟨42, _⟩ => ⟨S8x4x4x4096x4352, .f32⟩
  | .hbm, ⟨43, _⟩ => ⟨S_, .f32⟩
  | .hbm, ⟨44, _⟩ => ⟨S8x4x4x4096, .f32⟩
  | .hbm, ⟨45, _⟩ => ⟨S8x4x4x4096x1, .f32⟩
  | .hbm, ⟨46, _⟩ => ⟨S8x4x4x4096x4352, .f32⟩
  | .hbm, ⟨47, _⟩ => ⟨S8x4x4x4096x4352, .f32⟩
  | .hbm, ⟨48, _⟩ => ⟨S8x4x64x4x4096, .f32⟩
  | .hbm, ⟨49, _⟩ => ⟨S8x4096x4x4x64, .f32⟩
  | .hbm, ⟨50, _⟩ => ⟨S8x4096x1024, .f32⟩
  | .hbm, ⟨51, _⟩ => ⟨S8x4352x1024, .f32⟩
  | .hbm, ⟨52, _⟩ => ⟨S8x4352x1024, .bf16⟩
  | _, _ => ⟨S8x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x1024x1024 : Shape := ⟨3, ![16, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16x4096x1024, .bf16⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S16x1024x1024, .bf16⟩
  | .hbm, ⟨5, _⟩ => ⟨S16x1024x1024, .bf16⟩
  | .hbm, ⟨6, _⟩ => ⟨S16x1024x1024, .bf16⟩
  | .hbm, ⟨7, _⟩ => ⟨S16x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .bf16⟩
  | .local _ .vmem, ⟨9, _⟩ => ⟨S1x512x1024, .bf16⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16x4096x1024 : Shape := ⟨3, ![16, 4096, 1024]⟩
abbrev S16x1024x1024 : Shape := ⟨3, ![16, 1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S16x4096x1024, .f32⟩
  | .hbm, ⟨5, _⟩ => ⟨S16x4096x1024, .f32⟩
  | .hbm, ⟨6, _⟩ => ⟨S16x4096x1024, .f32⟩
  | .hbm, ⟨7, _⟩ => ⟨S16x4096x1024, .f32⟩
  | .hbm, ⟨8, _⟩ => ⟨S_, .f32⟩
  | .hbm, ⟨9, _⟩ => ⟨S16x4096x1024, .f32⟩
  | .hbm, ⟨10, _⟩ => ⟨S16x4096x1024, .f32⟩
  | .hbm, ⟨11, _⟩ => ⟨S_, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S16x4096x1024, .bf16⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel3.lean ====
abbrev S8x4352x1024 : Shape := ⟨3, ![8, 4352, 1024]⟩
abbrev S9x1x6144 : Shape := ⟨3, ![9, 1, 6144]⟩
abbrev S1024 : Shape := ⟨1, ![1024]⟩
abbrev S1024x12800 : Shape := ⟨2, ![1024, 12800]⟩
abbrev S64 : Shape := ⟨1, ![64]⟩
abbrev S2 : Shape := ⟨1, ![2]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x32x2 : Shape := ⟨3, ![4096, 32, 2]⟩
abbrev S4096x64 : Shape := ⟨2, ![4096, 64]⟩
abbrev S1x2 : Shape := ⟨2, ![1, 2]⟩
abbrev S32x2 : Shape := ⟨2, ![32, 2]⟩
abbrev S256x64 : Shape := ⟨2, ![256, 64]⟩
abbrev S4352x64 : Shape := ⟨2, ![4352, 64]⟩
abbrev S1x4352x1x64 : Shape := ⟨4, ![1, 4352, 1, 64]⟩
abbrev S1x4352x2x64 : Shape := ⟨4, ![1, 4352, 2, 64]⟩
abbrev S4352x128 : Shape := ⟨2, ![4352, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S2x64 : Shape := ⟨2, ![2, 64]⟩
abbrev S8x4x4352x64 : Shape := ⟨4, ![8, 4, 4352, 64]⟩
abbrev S1x256x1024 : Shape := ⟨3, ![1, 256, 1024]⟩
abbrev S1x1x6144 : Shape := ⟨3, ![1, 1, 6144]⟩
abbrev S256x128 : Shape := ⟨2, ![256, 128]⟩
abbrev S1x4x256x64 : Shape := ⟨4, ![1, 4, 256, 64]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S1024x1024 : Shape := ⟨2, ![1024, 1024]⟩
abbrev S1024x256 : Shape := ⟨2, ![1024, 256]⟩
abbrev S256x256 : Shape := ⟨2, ![256, 256]⟩
abbrev S1x1x256x64 : Shape := ⟨4, ![1, 1, 256, 64]⟩

abbrev nBuf : Space → Nat
  | .hbm => 131
  | .vmem => 39
  | .smem => 0
  | _ => 0

abbrev hbmTy0_0 (i : Nat) : BufTy := match i % 128 with
  | 0 => ⟨S8x4352x1024, .f32⟩
  | 1 => ⟨S9x1x6144, .f32⟩
  | 2 => ⟨S1024, .f32⟩
  | 3 => ⟨S1024x12800, .f32⟩
  | 4 => ⟨S64, .f32⟩
  | 5 => ⟨S64, .f32⟩
  | 6 => ⟨S2, .f32⟩
  | 7 => ⟨S64, .i32⟩
  | 8 => ⟨S64x64, .i32⟩
  | 9 => ⟨S4096, .i32⟩
  | 10 => ⟨S4096, .f32⟩
  | 11 => ⟨S64, .i32⟩
  | 12 => ⟨S1x64, .i32⟩
  | 13 => ⟨S64x64, .i32⟩
  | 14 => ⟨S4096, .i32⟩
  | 15 => ⟨S4096, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S4096x1, .f32⟩
  | 31 => ⟨S1x16, .f32⟩
  | 32 => ⟨S4096x16, .f32⟩
  | 33 => ⟨S4096x16, .f32⟩
  | 34 => ⟨S4096x16, .f32⟩
  | 35 => ⟨S4096x1, .f32⟩
  | 36 => ⟨S1x16, .f32⟩
  | 37 => ⟨S4096x16, .f32⟩
  | 38 => ⟨S4096x16, .f32⟩
  | 39 => ⟨S4096x16, .f32⟩
  | 40 => ⟨S4096x32, .f32⟩
  | 41 => ⟨S4096x32, .f32⟩
  | 42 => ⟨S4096x32x2, .f32⟩
  | 43 => ⟨S4096x64, .f32⟩
  | 44 => ⟨S4096x32, .f32⟩
  | 45 => ⟨S4096x32x2, .f32⟩
  | 46 => ⟨S4096x64, .f32⟩
  | 47 => ⟨S1x2, .f32⟩
  | 48 => ⟨S32x2, .f32⟩
  | 49 => ⟨S64, .f32⟩
  | 50 => ⟨S1x64, .f32⟩
  | 51 => ⟨S4096x64, .f32⟩
  | 52 => ⟨S4096x64, .f32⟩
  | 53 => ⟨S_, .f32⟩
  | 54 => ⟨S256x64, .f32⟩
  | 55 => ⟨S4352x64, .f32⟩
  | 56 => ⟨S_, .f32⟩
  | 57 => ⟨S256x64, .f32⟩
  | 58 => ⟨S4352x64, .f32⟩
  | 59 => ⟨S1x4352x1x64, .f32⟩
  | 60 => ⟨S1x4352x2x64, .f32⟩
  | 61 => ⟨S4352x128, .f32⟩
  | 62 => ⟨S1x4352x1x64, .f32⟩
  | 63 => ⟨S1x4352x2x64, .f32⟩
  | 64 => ⟨S4352x128, .f32⟩
  | 65 => ⟨S128, .i32⟩
  | 66 => ⟨S128x1, .i32⟩
  | 67 => ⟨S_, .i32⟩
  | 68 => ⟨S_, .i32⟩
  | 69 => ⟨S128x1, .i32⟩
  | 70 => ⟨S128x1, .i32⟩
  | 71 => ⟨S128x1, .i32⟩
  | 72 => ⟨S_, .i32⟩
  | 73 => ⟨S128x1, .i32⟩
  | 74 => ⟨S128x1, .i1⟩
  | 75 => ⟨S128x1, .i32⟩
  | 76 => ⟨S128x1, .i32⟩
  | 77 => ⟨S_, .i32⟩
  | 78 => ⟨S128x1, .i32⟩
  | 79 => ⟨S128x1, .i1⟩
  | 80 => ⟨S128x1, .i1⟩
  | 81 => ⟨S_, .i32⟩
  | 82 => ⟨S128x1, .i32⟩
  | 83 => ⟨S128x1, .i32⟩
  | 84 => ⟨S128x1, .i32⟩
  | 85 => ⟨S1x128, .i32⟩
  | 86 => ⟨S_, .i32⟩
  | 87 => ⟨S_, .i32⟩
  | 88 => ⟨S1x128, .i32⟩
  | 89 => ⟨S1x128, .i32⟩
  | 90 => ⟨S1x128, .i32⟩
  | 91 => ⟨S_, .i32⟩
  | 92 => ⟨S1x128, .i32⟩
  | 93 => ⟨S1x128, .i1⟩
  | 94 => ⟨S1x128, .i32⟩
  | 95 => ⟨S1x128, .i32⟩
  | 96 => ⟨S_, .i32⟩
  | 97 => ⟨S1x128, .i32⟩
  | 98 => ⟨S1x128, .i1⟩
  | 99 => ⟨S1x128, .i1⟩
  | 100 => ⟨S_, .i32⟩
  | 101 => ⟨S1x128, .i32⟩
  | 102 => ⟨S1x128, .i32⟩
  | 103 => ⟨S1x128, .i32⟩
  | 104 => ⟨S128x128, .i32⟩
  | 105 => ⟨S128x128, .i32⟩
  | 106 => ⟨S128x128, .i1⟩
  | 107 => ⟨S128x128, .bf16⟩
  | 108 => ⟨S1x1024, .f32⟩
  | 109 => ⟨S1024x12800, .bf16⟩
  | 110 => ⟨S1x64, .f32⟩
  | 111 => ⟨S2x64, .f32⟩
  | 112 => ⟨S128, .f32⟩
  | 113 => ⟨S1x128, .f32⟩
  | 114 => ⟨S1x64, .f32⟩
  | 115 => ⟨S2x64, .f32⟩
  | 116 => ⟨S128, .f32⟩
  | 117 => ⟨S1x128, .f32⟩
  | 118 => ⟨S8x4352x1024, .bf16⟩
  | 119 => ⟨S8x4352x1024, .f32⟩
  | 120 => ⟨S8x4352x1024, .f32⟩
  | 121 => ⟨S8x4352x1024, .bf16⟩
  | 122 => ⟨S8x4352x1024, .bf16⟩
  | 123 => ⟨S8x4352x1024, .bf16⟩
  | 124 => ⟨S8x4352x1024, .bf16⟩
  | 125 => ⟨S8x4352x1024, .bf16⟩
  | 126 => ⟨S8x4x4352x64, .bf16⟩
  | 127 => ⟨S8x4x4352x64, .bf16⟩
  | _ => ⟨S8x4352x1024, .f32⟩

abbrev hbmTy0_1 (i : Nat) : BufTy := match i % 128 with
  | 0 => ⟨S8x4352x1024, .bf16⟩
  | 1 => ⟨S8x4352x1024, .bf16⟩
  | 2 => ⟨S8x4352x1024, .bf16⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x12800, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S128x128, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x4x256x64, .bf16⟩
  | .local _ .vmem, ⟨30, _⟩ => ⟨S1x4x256x64, .bf16⟩
  | .local _ .vmem, ⟨31, _⟩ => ⟨S1x4x256x64, .bf16⟩
  | .local _ .vmem, ⟨32, _⟩ => ⟨S1x4x256x64, .bf16⟩
  | .local _ .vmem, ⟨33, _⟩ => ⟨S1x256x1024, .bf16⟩
  | .local _ .vmem, ⟨34, _⟩ => ⟨S1x256x1024, .bf16⟩
  | .local _ .vmem, ⟨35, _⟩ => ⟨S1x256x1024, .bf16⟩
  | .local _ .vmem, ⟨36, _⟩ => ⟨S1x256x1024, .bf16⟩
  | .local _ .vmem, ⟨37, _⟩ => ⟨S1x256x1024, .bf16⟩
  | .local _ .vmem, ⟨38, _⟩ => ⟨S1x256x1024, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_c : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_c_0 : Ref sig .tc := ⟨.hbm, 81, rfl⟩
abbrev main_call0_v12 : Ref sig .tc := ⟨.hbm, 82, rfl⟩
abbrev main_call0_v13 : Ref sig .tc := ⟨.hbm, 83, rfl⟩
abbrev main_v54 : Ref sig .tc := ⟨.hbm, 84, rfl⟩
abbrev main_v55 : Ref sig .tc := ⟨.hbm, 85, rfl⟩
abbrev main_c_6 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_c : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_0 : Ref sig .tc := ⟨.hbm, 100, rfl⟩
abbrev main_call1_v12 : Ref sig .tc := ⟨.hbm, 101, rfl⟩
abbrev main_call1_v13 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71_0 : Ref sig .tc := ⟨.hbm, 118, rfl⟩
abbrev main_v71_1 : Ref sig .tc := ⟨.hbm, 119, rfl⟩
abbrev main_v71_2 : Ref sig .tc := ⟨.hbm, 120, rfl⟩
abbrev main_v71_3 : Ref sig .tc := ⟨.hbm, 121, rfl⟩
abbrev main_v71_4 : Ref sig .tc := ⟨.hbm, 122, rfl⟩
abbrev main_v71_5 : Ref sig .tc := ⟨.hbm, 123, rfl⟩
abbrev main_v71_6 : Ref sig .tc := ⟨.hbm, 124, rfl⟩
abbrev main_v71_7 : Ref sig .tc := ⟨.hbm, 125, rfl⟩
abbrev main_v71_8 : Ref sig .tc := ⟨.hbm, 126, rfl⟩
abbrev main_v71_9 : Ref sig .tc := ⟨.hbm, 127, rfl⟩
abbrev main_v71_10 : Ref sig .tc := ⟨.hbm, 128, rfl⟩
abbrev main_v71_11 : Ref sig .tc := ⟨.hbm, 129, rfl⟩
abbrev main_v71_12 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c8_i32 : BitVec 32 := 8#32
  let v1 : BitVec 32 := Scalar.select v0 c8_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x12800 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x256x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x256x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference3Ideal.lean ====
abbrev S8x4352x1024 : Shape := ⟨3, ![8, 4352, 1024]⟩
abbrev S9x1x6144 : Shape := ⟨3, ![9, 1, 6144]⟩
abbrev S1024 : Shape := ⟨1, ![1024]⟩
abbrev S1024x12800 : Shape := ⟨2, ![1024, 12800]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8x1x1024 : Shape := ⟨3, ![8, 1, 1024]⟩
abbrev S1x1x1024 : Shape := ⟨3, ![1, 1, 1024]⟩
abbrev S8x4096x1024 : Shape := ⟨3, ![8, 4096, 1024]⟩
abbrev S8x4096 : Shape := ⟨2, ![8, 4096]⟩
abbrev S8x4096x1 : Shape := ⟨3, ![8, 4096, 1]⟩
abbrev S8x4096x12800 : Shape := ⟨3, ![8, 4096, 12800]⟩
abbrev S8x4096x256 : Shape := ⟨3, ![8, 4096, 256]⟩
abbrev S8x256x1024 : Shape := ⟨3, ![8, 256, 1024]⟩
abbrev S8x256 : Shape := ⟨2, ![8, 256]⟩
abbrev S8x256x1 : Shape := ⟨3, ![8, 256, 1]⟩
abbrev S8x256x12800 : Shape := ⟨3, ![8, 256, 12800]⟩
abbrev S8x256x256 : Shape := ⟨3, ![8, 256, 256]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩
abbrev S8x4096x16x32 : Shape := ⟨4, ![8, 4096, 16, 32]⟩
abbrev S1x4096x1x32 : Shape := ⟨4, ![1, 4096, 1, 32]⟩
abbrev S8x4096x16x32x1 : Shape := ⟨5, ![8, 4096, 16, 32, 1]⟩
abbrev S8x4096x16x32x2 : Shape := ⟨5, ![8, 4096, 16, 32, 2]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S8x4096x4x32 : Shape := ⟨4, ![8, 4096, 4, 32]⟩
abbrev S8x4096x4x32x1 : Shape := ⟨5, ![8, 4096, 4, 32, 1]⟩
abbrev S8x4096x4x32x2 : Shape := ⟨5, ![8, 4096, 4, 32, 2]⟩
abbrev S8x256x16x64 : Shape := ⟨4, ![8, 256, 16, 64]⟩
abbrev S8x256x16 : Shape := ⟨3, ![8, 256, 16]⟩
abbrev S8x256x16x1 : Shape := ⟨4, ![8, 256, 16, 1]⟩
abbrev S8x256x4x64 : Shape := ⟨4, ![8, 256, 4, 64]⟩
abbrev S8x256x4 : Shape := ⟨3, ![8, 256, 4]⟩
abbrev S8x256x4x1 : Shape := ⟨4, ![8, 256, 4, 1]⟩
abbrev S8x4352x256 : Shape := ⟨3, ![8, 4352, 256]⟩
abbrev S8x4352x16x64 : Shape := ⟨4, ![8, 4352, 16, 64]⟩
abbrev S8x4352x4x64 : Shape := ⟨4, ![8, 4352, 4, 64]⟩
abbrev S8x4x4352x64 : Shape := ⟨4, ![8, 4, 4352, 64]⟩

abbrev nBuf : Space → Nat
  | .hbm => 296
  | .vmem => 0
  | .smem => 0
  | _ => 0

abbrev hbmTy0_0 (i : Nat) : BufTy := match i % 128 with
  | 0 => ⟨S8x4352x1024, .f32⟩
  | 1 => ⟨S9x1x6144, .f32⟩
  | 2 => ⟨S1024, .f32⟩
  | 3 => ⟨S1024x12800, .f32⟩
  | 4 => ⟨S64, .f32⟩
  | 5 => ⟨S64, .f32⟩
  | 6 => ⟨S64, .i32⟩
  | 7 => ⟨S64x64, .i32⟩
  | 8 => ⟨S4096, .i32⟩
  | 9 => ⟨S4096, .f32⟩
  | 10 => ⟨S64, .i32⟩
  | 11 => ⟨S1x64, .i32⟩
  | 12 => ⟨S64x64, .i32⟩
  | 13 => ⟨S4096, .i32⟩
  | 14 => ⟨S4096, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S4096x1, .f32⟩
  | 30 => ⟨S1x16, .f32⟩
  | 31 => ⟨S4096x16, .f32⟩
  | 32 => ⟨S4096x16, .f32⟩
  | 33 => ⟨S4096x16, .f32⟩
  | 34 => ⟨S4096x1, .f32⟩
  | 35 => ⟨S1x16, .f32⟩
  | 36 => ⟨S4096x16, .f32⟩
  | 37 => ⟨S4096x16, .f32⟩
  | 38 => ⟨S4096x16, .f32⟩
  | 39 => ⟨S4096x32, .f32⟩
  | 40 => ⟨S4096x32, .f32⟩
  | 41 => ⟨S4096x32, .f32⟩
  | 42 => ⟨S8x1x1024, .f32⟩
  | 43 => ⟨S8x1x1024, .f32⟩
  | 44 => ⟨S1x1x1024, .f32⟩
  | 45 => ⟨S1x1x1024, .f32⟩
  | 46 => ⟨S8x4096x1024, .f32⟩
  | 47 => ⟨S8x4096x1024, .f32⟩
  | 48 => ⟨S_, .f32⟩
  | 49 => ⟨S8x4096, .f32⟩
  | 50 => ⟨S8x4096x1, .f32⟩
  | 51 => ⟨S_, .f32⟩
  | 52 => ⟨S8x4096x1, .f32⟩
  | 53 => ⟨S8x4096x1, .f32⟩
  | 54 => ⟨S_, .f32⟩
  | 55 => ⟨S8x4096x1, .f32⟩
  | 56 => ⟨S8x4096x1, .f32⟩
  | 57 => ⟨S8x4096x1, .f32⟩
  | 58 => ⟨S8x4096x1024, .f32⟩
  | 59 => ⟨S8x4096x1024, .f32⟩
  | 60 => ⟨S1x1x1024, .f32⟩
  | 61 => ⟨S8x4096x1024, .f32⟩
  | 62 => ⟨S8x4096x1024, .f32⟩
  | 63 => ⟨S_, .f32⟩
  | 64 => ⟨S8x1x1024, .f32⟩
  | 65 => ⟨S8x1x1024, .f32⟩
  | 66 => ⟨S8x4096x1024, .f32⟩
  | 67 => ⟨S8x4096x1024, .f32⟩
  | 68 => ⟨S8x4096x1024, .f32⟩
  | 69 => ⟨S8x4096x1024, .f32⟩
  | 70 => ⟨S8x4096x12800, .f32⟩
  | 71 => ⟨S8x4096x1024, .f32⟩
  | 72 => ⟨S8x4096x1024, .f32⟩
  | 73 => ⟨S8x4096x1024, .f32⟩
  | 74 => ⟨S8x4096x1024, .f32⟩
  | 75 => ⟨S8x4096x1024, .f32⟩
  | 76 => ⟨S8x4096x1024, .f32⟩
  | 77 => ⟨S8x4096x1024, .f32⟩
  | 78 => ⟨S8x4096x1024, .f32⟩
  | 79 => ⟨S8x4096x1024, .f32⟩
  | 80 => ⟨S8x4096x256, .f32⟩
  | 81 => ⟨S8x4096x256, .f32⟩
  | 82 => ⟨S8x4096x1024, .f32⟩
  | 83 => ⟨S8x4096x1024, .f32⟩
  | 84 => ⟨S8x4096x1024, .f32⟩
  | 85 => ⟨S8x256x1024, .f32⟩
  | 86 => ⟨S8x256x1024, .f32⟩
  | 87 => ⟨S_, .f32⟩
  | 88 => ⟨S8x256, .f32⟩
  | 89 => ⟨S8x256x1, .f32⟩
  | 90 => ⟨S_, .f32⟩
  | 91 => ⟨S8x256x1, .f32⟩
  | 92 => ⟨S8x256x1, .f32⟩
  | 93 => ⟨S_, .f32⟩
  | 94 => ⟨S8x256x1, .f32⟩
  | 95 => ⟨S8x256x1, .f32⟩
  | 96 => ⟨S8x256x1, .f32⟩
  | 97 => ⟨S8x256x1024, .f32⟩
  | 98 => ⟨S8x256x1024, .f32⟩
  | 99 => ⟨S1x1x1024, .f32⟩
  | 100 => ⟨S8x256x1024, .f32⟩
  | 101 => ⟨S8x256x1024, .f32⟩
  | 102 => ⟨S_, .f32⟩
  | 103 => ⟨S1x1x1024, .f32⟩
  | 104 => ⟨S1x1x1024, .f32⟩
  | 105 => ⟨S8x256x1024, .f32⟩
  | 106 => ⟨S8x256x1024, .f32⟩
  | 107 => ⟨S8x256x1024, .f32⟩
  | 108 => ⟨S8x256x1024, .f32⟩
  | 109 => ⟨S8x256x12800, .f32⟩
  | 110 => ⟨S8x256x1024, .f32⟩
  | 111 => ⟨S8x256x1024, .f32⟩
  | 112 => ⟨S8x256x1024, .f32⟩
  | 113 => ⟨S8x256x1024, .f32⟩
  | 114 => ⟨S8x256x1024, .f32⟩
  | 115 => ⟨S8x256x1024, .f32⟩
  | 116 => ⟨S8x256x1024, .f32⟩
  | 117 => ⟨S8x256x1024, .f32⟩
  | 118 => ⟨S8x256x1024, .f32⟩
  | 119 => ⟨S8x256x256, .f32⟩
  | 120 => ⟨S8x256x256, .f32⟩
  | 121 => ⟨S8x256x1024, .f32⟩
  | 122 => ⟨S8x256x1024, .f32⟩
  | 123 => ⟨S8x256x1024, .f32⟩
  | 124 => ⟨S8x4096x16x64, .f32⟩
  | 125 => ⟨S8x4096x16x64, .f32⟩
  | 126 => ⟨S_, .f32⟩
  | 127 => ⟨S8x4096x16, .f32⟩
  | _ => ⟨S8x4352x1024, .f32⟩

abbrev hbmTy0_1 (i : Nat) : BufTy := match i % 128 with
  | 0 => ⟨S8x4096x16x1, .f32⟩
  | 1 => ⟨S_, .f32⟩
  | 2 => ⟨S8x4096x16x1, .f32⟩
  | 3 => ⟨S8x4096x16x1, .f32⟩
  | 4 => ⟨S_, .f32⟩
  | 5 => ⟨S8x4096x16x1, .f32⟩
  | 6 => ⟨S8x4096x16x1, .f32⟩
  | 7 => ⟨S8x4096x16x1, .f32⟩
  | 8 => ⟨S8x4096x16x64, .f32⟩
  | 9 => ⟨S8x4096x16x64, .f32⟩
  | 10 => ⟨S1x1x1x64, .f32⟩
  | 11 => ⟨S8x4096x16x64, .f32⟩
  | 12 => ⟨S8x4096x16x64, .f32⟩
  | 13 => ⟨S8x4096x16x32, .f32⟩
  | 14 => ⟨S8x4096x16x32, .f32⟩
  | 15 => ⟨S1x4096x1x32, .f32⟩
  | 16 => ⟨S1x4096x1x32, .f32⟩
  | 17 => ⟨S8x4096x16x32, .f32⟩
  | 18 => ⟨S8x4096x16x32, .f32⟩
  | 19 => ⟨S8x4096x16x32, .f32⟩
  | 20 => ⟨S8x4096x16x32, .f32⟩
  | 21 => ⟨S8x4096x16x32, .f32⟩
  | 22 => ⟨S8x4096x16x32, .f32⟩
  | 23 => ⟨S8x4096x16x32, .f32⟩
  | 24 => ⟨S8x4096x16x32, .f32⟩
  | 25 => ⟨S8x4096x16x32, .f32⟩
  | 26 => ⟨S8x4096x16x32, .f32⟩
  | 27 => ⟨S8x4096x16x32x1, .f32⟩
  | 28 => ⟨S8x4096x16x32x1, .f32⟩
  | 29 => ⟨S8x4096x16x32x2, .f32⟩
  | 30 => ⟨S8x4096x16x64, .f32⟩
  | 31 => ⟨S8x4096x4x64, .f32⟩
  | 32 => ⟨S8x4096x4x64, .f32⟩
  | 33 => ⟨S_, .f32⟩
  | 34 => ⟨S8x4096x4, .f32⟩
  | 35 => ⟨S8x4096x4x1, .f32⟩
  | 36 => ⟨S_, .f32⟩
  | 37 => ⟨S8x4096x4x1, .f32⟩
  | 38 => ⟨S8x4096x4x1, .f32⟩
  | 39 => ⟨S_, .f32⟩
  | 40 => ⟨S8x4096x4x1, .f32⟩
  | 41 => ⟨S8x4096x4x1, .f32⟩
  | 42 => ⟨S8x4096x4x1, .f32⟩
  | 43 => ⟨S8x4096x4x64, .f32⟩
  | 44 => ⟨S8x4096x4x64, .f32⟩
  | 45 => ⟨S1x1x1x64, .f32⟩
  | 46 => ⟨S8x4096x4x64, .f32⟩
  | 47 => ⟨S8x4096x4x64, .f32⟩
  | 48 => ⟨S8x4096x4x32, .f32⟩
  | 49 => ⟨S8x4096x4x32, .f32⟩
  | 50 => ⟨S1x4096x1x32, .f32⟩
  | 51 => ⟨S1x4096x1x32, .f32⟩
  | 52 => ⟨S8x4096x4x32, .f32⟩
  | 53 => ⟨S8x4096x4x32, .f32⟩
  | 54 => ⟨S8x4096x4x32, .f32⟩
  | 55 => ⟨S8x4096x4x32, .f32⟩
  | 56 => ⟨S8x4096x4x32, .f32⟩
  | 57 => ⟨S8x4096x4x32, .f32⟩
  | 58 => ⟨S8x4096x4x32, .f32⟩
  | 59 => ⟨S8x4096x4x32, .f32⟩
  | 60 => ⟨S8x4096x4x32, .f32⟩
  | 61 => ⟨S8x4096x4x32, .f32⟩
  | 62 => ⟨S8x4096x4x32x1, .f32⟩
  | 63 => ⟨S8x4096x4x32x1, .f32⟩
  | 64 => ⟨S8x4096x4x32x2, .f32⟩
  | 65 => ⟨S8x4096x4x64, .f32⟩
  | 66 => ⟨S8x256x16x64, .f32⟩
  | 67 => ⟨S8x256x16x64, .f32⟩
  | 68 => ⟨S_, .f32⟩
  | 69 => ⟨S8x256x16, .f32⟩
  | 70 => ⟨S8x256x16x1, .f32⟩
  | 71 => ⟨S_, .f32⟩
  | 72 => ⟨S8x256x16x1, .f32⟩
  | 73 => ⟨S8x256x16x1, .f32⟩
  | 74 => ⟨S_, .f32⟩
  | 75 => ⟨S8x256x16x1, .f32⟩
  | 76 => ⟨S8x256x16x1, .f32⟩
  | 77 => ⟨S8x256x16x1, .f32⟩
  | 78 => ⟨S8x256x16x64, .f32⟩
  | 79 => ⟨S8x256x16x64, .f32⟩
  | 80 => ⟨S1x1x1x64, .f32⟩
  | 81 => ⟨S8x256x16x64, .f32⟩
  | 82 => ⟨S8x256x16x64, .f32⟩
  | 83 => ⟨S8x256x4x64, .f32⟩
  | 84 => ⟨S8x256x4x64, .f32⟩
  | 85 => ⟨S_, .f32⟩
  | 86 => ⟨S8x256x4, .f32⟩
  | 87 => ⟨S8x256x4x1, .f32⟩
  | 88 => ⟨S_, .f32⟩
  | 89 => ⟨S8x256x4x1, .f32⟩
  | 90 => ⟨S8x256x4x1, .f32⟩
  | 91 => ⟨S_, .f32⟩
  | 92 => ⟨S8x256x4x1, .f32⟩
  | 93 => ⟨S8x256x4x1, .f32⟩
  | 94 => ⟨S8x256x4x1, .f32⟩
  | 95 => ⟨S8x256x4x64, .f32⟩
  | 96 => ⟨S8x256x4x64, .f32⟩
  | 97 => ⟨S1x1x1x64, .f32⟩
  | 98 => ⟨S8x256x4x64, .f32⟩
  | 99 => ⟨S8x256x4x64, .f32⟩
  | 100 => ⟨S8x4352x1024, .f32⟩
  | 101 => ⟨S8x4352x1024, .f32⟩
  | 102 => ⟨S8x4352x1024, .f32⟩
  | 103 => ⟨S8x4352x1024, .f32⟩
  | 104 => ⟨S8x4352x1024, .f32⟩
  | 105 => ⟨S8x4352x1024, .f32⟩
  | 106 => ⟨S8x4352x1024, .f32⟩
  | 107 => ⟨S8x4352x1024, .f32⟩
  | 108 => ⟨S8x4352x1024, .f32⟩
  | 109 => ⟨S8x4352x256, .f32⟩
  | 110 => ⟨S8x4352x256, .f32⟩
  | 111 => ⟨S8x4352x1024, .f32⟩
  | 112 => ⟨S8x4352x1024, .f32⟩
  | 113 => ⟨S8x4352x1024, .f32⟩
  | 114 => ⟨S8x4352x16x64, .f32⟩
  | 115 => ⟨S8x4352x1024, .f32⟩
  | 116 => ⟨S_, .f32⟩
  | 117 => ⟨S8x4352x1024, .f32⟩
  | 118 => ⟨S8x4352x1024, .f32⟩
  | 119 => ⟨S8x4352x4x64, .f32⟩
  | 120 => ⟨S8x4x4352x64, .f32⟩
  | 121 => ⟨S8x4352x4x64, .f32⟩
  | 122 => ⟨S8x4x4352x64, .f32⟩
  | 123 => ⟨S8x4352x1024, .f32⟩
  | 124 => ⟨S8x4352x1024, .f32⟩
  | 125 => ⟨S_, .f32⟩
  | 126 => ⟨S8x4352x1024, .f32⟩
  | 127 => ⟨S8x4352x1024, .f32⟩
  | _ => ⟨S8x4352x1024, .f32⟩

abbrev hbmTy0_2 (i : Nat) : BufTy := match i % 128 with
  | 0 => ⟨S_, .f32⟩
  | 1 => ⟨S8x4352x1024, .f32⟩
  | 2 => ⟨S8x4352x1024, .f32⟩
  | 3 => ⟨S8x4352x1024, .f32⟩
  | 4 => ⟨S8x4352x1024, .f32⟩
  | 5 => ⟨S_, .f32⟩
  | 6 => ⟨S8x4352x1024, .f32⟩
  | 7 => ⟨S8x4352x1024, .f32⟩
  | 8 => ⟨S_, .f32⟩
  | 9 => ⟨S8x4352x1024, .f32⟩
  | 10 => ⟨S8x4352x1024, .f32⟩
  | 11 => ⟨S8x4352x1024, .f32⟩
  | 12 => ⟨S8x4352x1024, .f32⟩
  | 13 => ⟨S_, .f32⟩
  | 14 => ⟨S8x4352x1024, .f32⟩
  | 15 => ⟨S8x4352x1024, .f32⟩
  | 16 => ⟨S_, .f32⟩
  | 17 => ⟨S8x4352x1024, .f32⟩
  | 18 => ⟨S8x4352x1024, .f32⟩
  | 19 => ⟨S8x4352x1024, .bf16⟩
  | 20 => ⟨S8x4352x1024, .bf16⟩
  | 21 => ⟨S8x4352x1024, .f32⟩
  | 22 => ⟨S8x4352x1024, .f32⟩
  | 23 => ⟨S_, .f32⟩
  | 24 => ⟨S8x4352x1024, .f32⟩
  | 25 => ⟨S8x4352x1024, .f32⟩
  | 26 => ⟨S_, .f32⟩
  | 27 => ⟨S8x4352x1024, .f32⟩
  | 28 => ⟨S8x4352x1024, .f32⟩
  | 29 => ⟨S8x4352x1024, .f32⟩
  | 30 => ⟨S8x4352x1024, .bf16⟩
  | 31 => ⟨S8x4352x1024, .bf16⟩
  | 32 => ⟨S8x4352x1024, .f32⟩
  | 33 => ⟨S8x4352x1024, .bf16⟩
  | 34 => ⟨S8x4352x1024, .bf16⟩
  | 35 => ⟨S8x4x4352x64, .bf16⟩
  | 36 => ⟨S8x4x4352x64, .bf16⟩
  | 37 => ⟨S8x4352x1024, .bf16⟩
  | 38 => ⟨S8x4352x1024, .bf16⟩
  | 39 => ⟨S8x4352x1024, .bf16⟩
  | _ => ⟨S8x4352x1024, .f32⟩

abbrev hbmTy (i : Nat) : BufTy := match i / 128 with
  | 0 => hbmTy0_0 i
  | 1 => hbmTy0_1 i
  | 2 => hbmTy0_2 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_10 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_11 : Ref sig .tc := ⟨.hbm, 126, rfl⟩
abbrev main_v108 : Ref sig .tc := ⟨.hbm, 127, rfl⟩
abbrev main_v109 : Ref sig .tc := ⟨.hbm, 128, rfl⟩
abbrev main_cst_12 : Ref sig .tc := ⟨.hbm, 129, rfl⟩
abbrev main_v110 : Ref sig .tc := ⟨.hbm, 130, rfl⟩
abbrev main_v111 : Ref sig .tc := ⟨.hbm, 131, rfl⟩
abbrev main_cst_13 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_cst_14 : Ref sig .tc := ⟨.hbm, 161, rfl⟩
abbrev main_v140 : Ref sig .tc := ⟨.hbm, 162, rfl⟩
abbrev main_v141 : Ref sig .tc := ⟨.hbm, 163, rfl⟩
abbrev main_cst_15 : Ref sig .tc := ⟨.hbm, 164, rfl⟩
abbrev main_v142 : Ref sig .tc := ⟨.hbm, 165, rfl⟩
abbrev main_v143 : Ref sig .tc := ⟨.hbm, 166, rfl⟩
abbrev main_cst_16 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_cst_17 : Ref sig .tc := ⟨.hbm, 196, rfl⟩
abbrev main_v172 : Ref sig .tc := ⟨.hbm, 197, rfl⟩
abbrev main_v173 : Ref sig .tc := ⟨.hbm, 198, rfl⟩
abbrev main_cst_18 : Ref sig .tc := ⟨.hbm, 199, rfl⟩
abbrev main_v174 : Ref sig .tc := ⟨.hbm, 200, rfl⟩
abbrev main_v175 : Ref sig .tc := ⟨.hbm, 201, rfl⟩
abbrev main_cst_19 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_cst_20 : Ref sig .tc := ⟨.hbm, 213, rfl⟩
abbrev main_v186 : Ref sig .tc := ⟨.hbm, 214, rfl⟩
abbrev main_v187 : Ref sig .tc := ⟨.hbm, 215, rfl⟩
abbrev main_cst_21 : Ref sig .tc := ⟨.hbm, 216, rfl⟩
abbrev main_v188 : Ref sig .tc := ⟨.hbm, 217, rfl⟩
abbrev main_v189 : Ref sig .tc := ⟨.hbm, 218, rfl⟩
abbrev main_cst_22 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_cst_23 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_cst_24 : Ref sig .tc := ⟨.hbm, 253, rfl⟩
abbrev main_v222 : Ref sig .tc := ⟨.hbm, 254, rfl⟩
abbrev main_v223 : Ref sig .tc := ⟨.hbm, 255, rfl⟩
abbrev main_cst_25 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_cst_26 : Ref sig .tc := ⟨.hbm, 261, rfl⟩
abbrev main_v228 : Ref sig .tc := ⟨.hbm, 262, rfl⟩
abbrev main_v229 : Ref sig .tc := ⟨.hbm, 263, rfl⟩
abbrev main_cst_27 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_cst_28 : Ref sig .tc := ⟨.hbm, 269, rfl⟩
abbrev main_v234 : Ref sig .tc := ⟨.hbm, 270, rfl⟩
abbrev main_v235 : Ref sig .tc := ⟨.hbm, 271, rfl⟩
abbrev main_cst_29 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_call0_v0 : Ref sig .tc := ⟨.hbm, 277, rfl⟩
abbrev main_call0_v1 : Ref sig .tc := ⟨.hbm, 278, rfl⟩
abbrev main_call0_cst : Ref sig .tc := ⟨.hbm, 279, rfl⟩
abbrev main_call0_v2 : Ref sig .tc := ⟨.hbm, 280, rfl⟩
abbrev main_call0_v3 : Ref sig .tc := ⟨.hbm, 281, rfl⟩
abbrev main_call0_cst_0 : Ref sig .tc := ⟨.hbm, 282, rfl⟩
abbrev main_call0_v4 : Ref sig .tc := ⟨.hbm, 283, rfl⟩
abbrev main_call0_v5 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩

abbrev nD : Nat := 1
abbrev τ : Topo := Topo.v7x

variable {F : FTy → Type} [FloatOps F]
-- ==== Kernel4.lean ====
abbrev S8x4352x1024 : Shape := ⟨3, ![8, 4352, 1024]⟩
abbrev S9x1x6144 : Shape := ⟨3, ![9, 1, 6144]⟩
abbrev S3x1024 : Shape := ⟨2, ![3, 1024]⟩
abbrev S1024x1024 : Shape := ⟨2, ![1024, 1024]⟩
abbrev S1024 : Shape := ⟨1, ![1024]⟩
abbrev S1024x16 : Shape := ⟨2, ![1024, 16]⟩
abbrev S1x1024 : Shape := ⟨2, ![1, 1024]⟩
abbrev S16x1024 : Shape := ⟨2, ![16, 1024]⟩
abbrev S8x16x4352 : Shape := ⟨3, ![8, 16, 4352]⟩
abbrev S1x256x1024 : Shape := ⟨3, ![1, 256, 1024]⟩
abbrev S1x1x6144 : Shape := ⟨3, ![1, 1, 6144]⟩
abbrev S1x16x1024 : Shape := ⟨3, ![1, 16, 1024]⟩
abbrev S1x16x256 : Shape := ⟨3, ![1, 16, 256]⟩
abbrev S1x6144 : Shape := ⟨2, ![1, 6144]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S16x256 : Shape := ⟨2, ![16, 256]⟩
abbrev S1x256 : Shape := ⟨2, ![1, 256]⟩

abbrev nBuf : Space → Nat
  | .hbm => 25
  | .vmem => 35
  | .smem => 0
  | _ => 0

abbrev bufTy : (tb : Table) → Fin (tcTables nBuf tb) → BufTy
  | .hbm, ⟨0, _⟩ => ⟨S8x4352x1024, .f32⟩
  | .hbm, ⟨1, _⟩ => ⟨S9x1x6144, .f32⟩
  | .hbm, ⟨2, _⟩ => ⟨S8x4352x1024, .bf16⟩
  | .hbm, ⟨3, _⟩ => ⟨S8x4352x1024, .bf16⟩
  | .hbm, ⟨4, _⟩ => ⟨S8x4352x1024, .bf16⟩
  | .hbm, ⟨5, _⟩ => ⟨S8x4352x1024, .bf16⟩
  | .hbm, ⟨6, _⟩ => ⟨S8x4352x1024, .bf16⟩
  | .hbm, ⟨7, _⟩ => ⟨S8x4352x1024, .bf16⟩
  | .hbm, ⟨8, _⟩ => ⟨S8x4352x1024, .bf16⟩
  | .hbm, ⟨9, _⟩ => ⟨S3x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x16, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1x1024, .f32⟩
  | .hbm, ⟨21, _⟩ => ⟨S16x1024, .f32⟩
  | .hbm, ⟨22, _⟩ => ⟨S8x4352x1024, .f32⟩
  | .hbm, ⟨23, _⟩ => ⟨S8x4352x1024, .bf16⟩
  | .hbm, ⟨24, _⟩ => ⟨S8x16x4352, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x16x1024, .bf16⟩
  | .local _ .vmem, ⟨13, _⟩ => ⟨S1x16x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S3x1024, .f32⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1x1024, .f32⟩
  | .local _ .vmem, ⟨28, _⟩ => ⟨S16x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .bf16⟩
  | .local _ .vmem, ⟨32, _⟩ => ⟨S1x256x1024, .bf16⟩
  | .local _ .vmem, ⟨33, _⟩ => ⟨S1x16x256, .f32⟩
  | .local _ .vmem, ⟨34, _⟩ => ⟨S1x16x256, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c8_i32 : BitVec 32 := 8#32
  let v1 : BitVec 32 := Scalar.select v0 c8_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c271_i32 : BitVec 32 := 271#32
  let v2 : BitVec 32 := Scalar.minsi v1 c271_i32
  let c0_i32 : BitVec 32 := 0#32
  let c0_i32_0 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S16x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x16x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference4Ideal.lean ====
abbrev S8x4352x1024 : Shape := ⟨3, ![8, 4352, 1024]⟩
abbrev S9x1x6144 : Shape := ⟨3, ![9, 1, 6144]⟩
abbrev S3x1024 : Shape := ⟨2, ![3, 1024]⟩
abbrev S1024x1024 : Shape := ⟨2, ![1024, 1024]⟩
abbrev S1024 : Shape := ⟨1, ![1024]⟩
abbrev S1024x16 : Shape := ⟨2, ![1024, 16]⟩
abbrev S1x1x6144 : Shape := ⟨3, ![1, 1, 6144]⟩
abbrev S8x256x1024 : Shape := ⟨3, ![8, 256, 1024]⟩
abbrev S1x1x1024 : Shape := ⟨3, ![1, 1, 1024]⟩
abbrev S_ : Shape := ⟨0, ![]⟩
abbrev S8x258x1024 : Shape := ⟨3, ![8, 258, 1024]⟩
abbrev S1x1024 : Shape := ⟨2, ![1, 1024]⟩
abbrev S8x256 : Shape := ⟨2, ![8, 256]⟩
abbrev S8x256x1 : Shape := ⟨3, ![8, 256, 1]⟩
abbrev S8x256x16 : Shape := ⟨3, ![8, 256, 16]⟩
abbrev S8x1x6144 : Shape := ⟨3, ![8, 1, 6144]⟩
abbrev S8x4096x1024 : Shape := ⟨3, ![8, 4096, 1024]⟩
abbrev S8x1x1024 : Shape := ⟨3, ![8, 1, 1024]⟩
abbrev S8x4098x1024 : Shape := ⟨3, ![8, 4098, 1024]⟩
abbrev S8x4096 : Shape := ⟨2, ![8, 4096]⟩
abbrev S8x4096x1 : Shape := ⟨3, ![8, 4096, 1]⟩
abbrev S8x4096x16 : Shape := ⟨3, ![8, 4096, 16]⟩
abbrev S8x4352x16 : Shape := ⟨3, ![8, 4352, 16]⟩
abbrev S8x16x4352 : Shape := ⟨3, ![8, 16, 4352]⟩

abbrev nBuf : Space → Nat
  | .hbm => 200
  | .vmem => 0
  | .smem => 0
  | _ => 0

abbrev hbmTy0_0 (i : Nat) : BufTy := match i % 128 with
  | 0 => ⟨S8x4352x1024, .f32⟩
  | 1 => ⟨S9x1x6144, .f32⟩
  | 2 => ⟨S8x4352x1024, .bf16⟩
  | 3 => ⟨S8x4352x1024, .bf16⟩
  | 4 => ⟨S8x4352x1024, .bf16⟩
  | 5 => ⟨S8x4352x1024, .bf16⟩
  | 6 => ⟨S8x4352x1024, .bf16⟩
  | 7 => ⟨S8x4352x1024, .bf16⟩
  | 8 => ⟨S8x4352x1024, .bf16⟩
  | 9 => ⟨S3x1024, .f32⟩
  | 10 => ⟨S1024x1024, .f32⟩
  | 11 => ⟨S1024x1024, .f32⟩
  | 12 => ⟨S1024x1024, .f32⟩
  | 13 => ⟨S1024x1024, .f32⟩
  | 14 => ⟨S1024, .f32⟩
  | 15 => ⟨S1024x16, .f32⟩
  | 16 => ⟨S8x4352x1024, .f32⟩
  | 17 => ⟨S8x4352x1024, .f32⟩
  | 18 => ⟨S8x4352x1024, .f32⟩
  | 19 => ⟨S8x4352x1024, .f32⟩
  | 20 => ⟨S8x4352x1024, .f32⟩
  | 21 => ⟨S8x4352x1024, .f32⟩
  | 22 => ⟨S8x4352x1024, .f32⟩
  | 23 => ⟨S1x1x6144, .f32⟩
  | 24 => ⟨S8x256x1024, .f32⟩
  | 25 => ⟨S8x256x1024, .f32⟩
  | 26 => ⟨S8x256x1024, .f32⟩
  | 27 => ⟨S8x256x1024, .f32⟩
  | 28 => ⟨S8x256x1024, .f32⟩
  | 29 => ⟨S8x256x1024, .f32⟩
  | 30 => ⟨S8x256x1024, .f32⟩
  | 31 => ⟨S8x256x1024, .f32⟩
  | 32 => ⟨S1x1x1024, .f32⟩
  | 33 => ⟨S1x1x1024, .f32⟩
  | 34 => ⟨S1x1x1024, .f32⟩
  | 35 => ⟨S_, .i32⟩
  | 36 => ⟨S_, .f32⟩
  | 37 => ⟨S8x258x1024, .f32⟩
  | 38 => ⟨S1x1024, .f32⟩
  | 39 => ⟨S1024, .f32⟩
  | 40 => ⟨S8x256x1024, .f32⟩
  | 41 => ⟨S1x1x1024, .f32⟩
  | 42 => ⟨S8x256x1024, .f32⟩
  | 43 => ⟨S8x256x1024, .f32⟩
  | 44 => ⟨S1x1024, .f32⟩
  | 45 => ⟨S1024, .f32⟩
  | 46 => ⟨S8x256x1024, .f32⟩
  | 47 => ⟨S1x1x1024, .f32⟩
  | 48 => ⟨S8x256x1024, .f32⟩
  | 49 => ⟨S8x256x1024, .f32⟩
  | 50 => ⟨S8x256x1024, .f32⟩
  | 51 => ⟨S1x1024, .f32⟩
  | 52 => ⟨S1024, .f32⟩
  | 53 => ⟨S8x256x1024, .f32⟩
  | 54 => ⟨S1x1x1024, .f32⟩
  | 55 => ⟨S8x256x1024, .f32⟩
  | 56 => ⟨S8x256x1024, .f32⟩
  | 57 => ⟨S8x256x1024, .f32⟩
  | 58 => ⟨S8x256x1024, .f32⟩
  | 59 => ⟨S8x256x1024, .f32⟩
  | 60 => ⟨S8x256x1024, .f32⟩
  | 61 => ⟨S8x256x1024, .f32⟩
  | 62 => ⟨S8x256x1024, .f32⟩
  | 63 => ⟨S8x256x1024, .f32⟩
  | 64 => ⟨S8x256x1024, .f32⟩
  | 65 => ⟨S8x256x1024, .f32⟩
  | 66 => ⟨S8x256x1024, .f32⟩
  | 67 => ⟨S8x256x1024, .f32⟩
  | 68 => ⟨S8x256x1024, .f32⟩
  | 69 => ⟨S8x256x1024, .f32⟩
  | 70 => ⟨S8x256x1024, .f32⟩
  | 71 => ⟨S8x256x1024, .f32⟩
  | 72 => ⟨S_, .f32⟩
  | 73 => ⟨S8x256, .f32⟩
  | 74 => ⟨S8x256x1, .f32⟩
  | 75 => ⟨S_, .f32⟩
  | 76 => ⟨S8x256x1, .f32⟩
  | 77 => ⟨S8x256x1, .f32⟩
  | 78 => ⟨S_, .f32⟩
  | 79 => ⟨S8x256x1, .f32⟩
  | 80 => ⟨S8x256x1, .f32⟩
  | 81 => ⟨S8x256x1, .f32⟩
  | 82 => ⟨S8x256x1024, .f32⟩
  | 83 => ⟨S8x256x1024, .f32⟩
  | 84 => ⟨S1x1x1024, .f32⟩
  | 85 => ⟨S8x256x1024, .f32⟩
  | 86 => ⟨S8x256x1024, .f32⟩
  | 87 => ⟨S_, .f32⟩
  | 88 => ⟨S1x1x1024, .f32⟩
  | 89 => ⟨S1x1x1024, .f32⟩
  | 90 => ⟨S8x256x1024, .f32⟩
  | 91 => ⟨S8x256x1024, .f32⟩
  | 92 => ⟨S8x256x1024, .f32⟩
  | 93 => ⟨S8x256x1024, .f32⟩
  | 94 => ⟨S8x256x16, .f32⟩
  | 95 => ⟨S_, .f32⟩
  | 96 => ⟨S8x256, .f32⟩
  | 97 => ⟨S_, .f32⟩
  | 98 => ⟨S8x256, .f32⟩
  | 99 => ⟨S8x256, .f32⟩
  | 100 => ⟨S8x256x1, .f32⟩
  | 101 => ⟨S8x256x16, .f32⟩
  | 102 => ⟨S8x256x16, .f32⟩
  | 103 => ⟨S8x256x16, .f32⟩
  | 104 => ⟨S_, .f32⟩
  | 105 => ⟨S8x256, .f32⟩
  | 106 => ⟨S8x256x1, .f32⟩
  | 107 => ⟨S8x256x16, .f32⟩
  | 108 => ⟨S8x256x16, .f32⟩
  | 109 => ⟨S8x1x6144, .f32⟩
  | 110 => ⟨S8x4096x1024, .f32⟩
  | 111 => ⟨S8x4096x1024, .f32⟩
  | 112 => ⟨S8x4096x1024, .f32⟩
  | 113 => ⟨S8x4096x1024, .f32⟩
  | 114 => ⟨S8x4096x1024, .f32⟩
  | 115 => ⟨S8x4096x1024, .f32⟩
  | 116 => ⟨S8x4096x1024, .f32⟩
  | 117 => ⟨S8x4096x1024, .f32⟩
  | 118 => ⟨S8x1x1024, .f32⟩
  | 119 => ⟨S8x1x1024, .f32⟩
  | 120 => ⟨S8x1x1024, .f32⟩
  | 121 => ⟨S_, .i32⟩
  | 122 => ⟨S_, .f32⟩
  | 123 => ⟨S8x4098x1024, .f32⟩
  | 124 => ⟨S1x1024, .f32⟩
  | 125 => ⟨S1024, .f32⟩
  | 126 => ⟨S8x4096x1024, .f32⟩
  | 127 => ⟨S1x1x1024, .f32⟩
  | _ => ⟨S8x4352x1024, .f32⟩

abbrev hbmTy0_1 (i : Nat) : BufTy := match i % 128 with
  | 0 => ⟨S8x4096x1024, .f32⟩
  | 1 => ⟨S8x4096x1024, .f32⟩
  | 2 => ⟨S1x1024, .f32⟩
  | 3 => ⟨S1024, .f32⟩
  | 4 => ⟨S8x4096x1024, .f32⟩
  | 5 => ⟨S1x1x1024, .f32⟩
  | 6 => ⟨S8x4096x1024, .f32⟩
  | 7 => ⟨S8x4096x1024, .f32⟩
  | 8 => ⟨S8x4096x1024, .f32⟩
  | 9 => ⟨S1x1024, .f32⟩
  | 10 => ⟨S1024, .f32⟩
  | 11 => ⟨S8x4096x1024, .f32⟩
  | 12 => ⟨S1x1x1024, .f32⟩
  | 13 => ⟨S8x4096x1024, .f32⟩
  | 14 => ⟨S8x4096x1024, .f32⟩
  | 15 => ⟨S8x4096x1024, .f32⟩
  | 16 => ⟨S8x4096x1024, .f32⟩
  | 17 => ⟨S8x4096x1024, .f32⟩
  | 18 => ⟨S8x4096x1024, .f32⟩
  | 19 => ⟨S8x4096x1024, .f32⟩
  | 20 => ⟨S8x4096x1024, .f32⟩
  | 21 => ⟨S8x4096x1024, .f32⟩
  | 22 => ⟨S8x4096x1024, .f32⟩
  | 23 => ⟨S8x4096x1024, .f32⟩
  | 24 => ⟨S8x4096x1024, .f32⟩
  | 25 => ⟨S8x4096x1024, .f32⟩
  | 26 => ⟨S8x4096x1024, .f32⟩
  | 27 => ⟨S8x4096x1024, .f32⟩
  | 28 => ⟨S8x4096x1024, .f32⟩
  | 29 => ⟨S8x4096x1024, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S_, .f32⟩
  | 37 => ⟨S8x4096x1, .f32⟩
  | 38 => ⟨S8x4096x1, .f32⟩
  | 39 => ⟨S8x4096x1, .f32⟩
  | 40 => ⟨S8x4096x1024, .f32⟩
  | 41 => ⟨S8x4096x1024, .f32⟩
  | 42 => ⟨S1x1x1024, .f32⟩
  | 43 => ⟨S8x4096x1024, .f32⟩
  | 44 => ⟨S8x4096x1024, .f32⟩
  | 45 => ⟨S_, .f32⟩
  | 46 => ⟨S8x1x1024, .f32⟩
  | 47 => ⟨S8x1x1024, .f32⟩
  | 48 => ⟨S8x4096x1024, .f32⟩
  | 49 => ⟨S8x4096x1024, .f32⟩
  | 50 => ⟨S8x4096x1024, .f32⟩
  | 51 => ⟨S8x4096x1024, .f32⟩
  | 52 => ⟨S8x4096x16, .f32⟩
  | 53 => ⟨S_, .f32⟩
  | 54 => ⟨S8x4096, .f32⟩
  | 55 => ⟨S_, .f32⟩
  | 56 => ⟨S8x4096, .f32⟩
  | 57 => ⟨S8x4096, .f32⟩
  | 58 => ⟨S8x4096x1, .f32⟩
  | 59 => ⟨S8x4096x16, .f32⟩
  | 60 => ⟨S8x4096x16, .f32⟩
  | 61 => ⟨S8x4096x16, .f32⟩
  | 62 => ⟨S_, .f32⟩
  | 63 => ⟨S8x4096, .f32⟩
  | 64 => ⟨S8x4096x1, .f32⟩
  | 65 => ⟨S8x4096x16, .f32⟩
  | 66 => ⟨S8x4096x16, .f32⟩
  | 67 => ⟨S8x4352x1024, .f32⟩
  | 68 => ⟨S8x4352x1024, .f32⟩
  | 69 => ⟨S8x4352x16, .f32⟩
  | 70 => ⟨S8x4352x1024, .bf16⟩
  | 71 => ⟨S8x16x4352, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst : Ref sig .tc := ⟨.hbm, 72, rfl⟩
abbrev main_v54 : Ref sig .tc := ⟨.hbm, 73, rfl⟩
abbrev main_v55 : Ref sig .tc := ⟨.hbm, 74, rfl⟩
abbrev main_cst_0 : Ref sig .tc := ⟨.hbm, 75, rfl⟩
abbrev main_v56 : Ref sig .tc := ⟨.hbm, 76, rfl⟩
abbrev main_v57 : Ref sig .tc := ⟨.hbm, 77, rfl⟩
abbrev main_cst_1 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_2 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_3 : Ref sig .tc := ⟨.hbm, 95, rfl⟩
abbrev main_v73 : Ref sig .tc := ⟨.hbm, 96, rfl⟩
abbrev main_cst_4 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_5 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_c_6 : Ref sig .tc := ⟨.hbm, 121, rfl⟩
abbrev main_call1_v0 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_cst_7 : Ref sig .tc := ⟨.hbm, 158, rfl⟩
abbrev main_v131 : Ref sig .tc := ⟨.hbm, 159, rfl⟩
abbrev main_v132 : Ref sig .tc := ⟨.hbm, 160, rfl⟩
abbrev main_cst_8 : Ref sig .tc := ⟨.hbm, 161, rfl⟩
abbrev main_v133 : Ref sig .tc := ⟨.hbm, 162, rfl⟩
abbrev main_v134 : Ref sig .tc := ⟨.hbm, 163, rfl⟩
abbrev main_cst_9 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_cst_10 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_cst_11 : Ref sig .tc := ⟨.hbm, 181, rfl⟩
abbrev main_v150 : Ref sig .tc := ⟨.hbm, 182, rfl⟩
abbrev main_cst_12 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_13 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩

abbrev nD : Nat := 1
abbrev τ : Topo := Topo.v7x

variable {F : FTy → Type} [FloatOps F]
-- ==== Kernel5.lean ====
abbrev S8x4352x1024 : Shape := ⟨3, ![8, 4352, 1024]⟩
abbrev S9x1x6144 : Shape := ⟨3, ![9, 1, 6144]⟩
abbrev S16x4096x1024 : Shape := ⟨3, ![16, 4096, 1024]⟩
abbrev S8x16x4096 : Shape := ⟨3, ![8, 16, 4096]⟩
abbrev S8x16x4352 : Shape := ⟨3, ![8, 16, 4352]⟩
abbrev S1024 : Shape := ⟨1, ![1024]⟩
abbrev S8x4096x16 : Shape := ⟨3, ![8, 4096, 16]⟩
abbrev S8x4352x16 : Shape := ⟨3, ![8, 4352, 16]⟩
abbrev S1x1024 : Shape := ⟨2, ![1, 1024]⟩
abbrev S8x4096x1024 : Shape := ⟨3, ![8, 4096, 1024]⟩
abbrev S1x256x1024 : Shape := ⟨3, ![1, 256, 1024]⟩
abbrev S1x1x6144 : Shape := ⟨3, ![1, 1, 6144]⟩
abbrev S16x512x1024 : Shape := ⟨3, ![16, 512, 1024]⟩
abbrev S1x256x16 : Shape := ⟨3, ![1, 256, 16]⟩
abbrev S1x6144 : Shape := ⟨2, ![1, 6144]⟩
abbrev S256x16 : Shape := ⟨2, ![256, 16]⟩
abbrev S256x512 : Shape := ⟨2, ![256, 512]⟩
abbrev S256x1024 : Shape := ⟨2, ![256, 1024]⟩
abbrev S256x1 : Shape := ⟨2, ![256, 1]⟩
abbrev S1x512x1024 : Shape := ⟨3, ![1, 512, 1024]⟩
abbrev S512x1024 : Shape := ⟨2, ![512, 1024]⟩
abbrev S256 : Shape := ⟨1, ![256]⟩

abbrev nBuf : Space → Nat
  | .hbm => 10
  | .vmem => 13
  | .smem => 0
  | _ => 0

abbrev bufTy : (tb : Table) → Fin (tcTables nBuf tb) → BufTy
  | .hbm, ⟨0, _⟩ => ⟨S8x4352x1024, .f32⟩
  | .hbm, ⟨1, _⟩ => ⟨S9x1x6144, .f32⟩
  | .hbm, ⟨2, _⟩ => ⟨S16x4096x1024, .bf16⟩
  | .hbm, ⟨3, _⟩ => ⟨S8x16x4096, .i32⟩
  | .hbm, ⟨4, _⟩ => ⟨S8x16x4352, .f32⟩
  | .hbm, ⟨5, _⟩ => ⟨S1024, .f32⟩
  | .hbm, ⟨6, _⟩ => ⟨S8x4096x16, .i32⟩
  | .hbm, ⟨7, _⟩ => ⟨S8x4352x16, .f32⟩
  | .hbm, ⟨8, _⟩ => ⟨S1x1024, .f32⟩
  | .hbm, ⟨9, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S16x512x1024, .bf16⟩
  | .local _ .vmem, ⟨5, _⟩ => ⟨S16x512x1024, .bf16⟩
  | .local _ .vmem, ⟨6, _⟩ => ⟨S1x256x16, .i32⟩
  | .local _ .vmem, ⟨7, _⟩ => ⟨S1x256x16, .i32⟩
  | .local _ .vmem, ⟨8, _⟩ => ⟨S1x256x16, .f32⟩
  | .local _ .vmem, ⟨9, _⟩ => ⟨S1x256x16, .f32⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x4352x1024 : Shape := ⟨3, ![8, 4352, 1024]⟩
abbrev S9x1x6144 : Shape := ⟨3, ![9, 1, 6144]⟩
abbrev S16x4096x1024 : Shape := ⟨3, ![16, 4096, 1024]⟩
abbrev S8x16x4096 : Shape := ⟨3, ![8, 16, 4096]⟩
abbrev S8x16x4352 : Shape := ⟨3, ![8, 16, 4352]⟩
abbrev S1024 : Shape := ⟨1, ![1024]⟩
abbrev S8x1x1024 : Shape := ⟨3, ![8, 1, 1024]⟩
abbrev S8 : Shape := ⟨1, ![8]⟩
abbrev S8x1x1 : Shape := ⟨3, ![8, 1, 1]⟩
abbrev S16 : Shape := ⟨1, ![16]⟩
abbrev S1x16x1 : Shape := ⟨3, ![1, 16, 1]⟩
abbrev S_ : Shape := ⟨0, ![]⟩
abbrev S8x16x1 : Shape := ⟨3, ![8, 16, 1]⟩
abbrev S65536x1024 : Shape := ⟨2, ![65536, 1024]⟩
abbrev S524288 : Shape := ⟨1, ![524288]⟩
abbrev S524288x1 : Shape := ⟨2, ![524288, 1]⟩
abbrev S524288x1024 : Shape := ⟨2, ![524288, 1024]⟩
abbrev S8x16x4096x1024 : Shape := ⟨4, ![8, 16, 4096, 1024]⟩
abbrev S8x16x4096x1 : Shape := ⟨4, ![8, 16, 4096, 1]⟩
abbrev S8x4096x1024 : Shape := ⟨3, ![8, 4096, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S9x1x6144, .f32⟩
  | .hbm, ⟨2, _⟩ => ⟨S16x4096x1024, .bf16⟩
  | .hbm, ⟨3, _⟩ => ⟨S8x16x4096, .i32⟩
  | .hbm, ⟨4, _⟩ => ⟨S8x16x4352, .f32⟩
  | .hbm, ⟨5, _⟩ => ⟨S1024, .f32⟩
  | .hbm, ⟨6, _⟩ => ⟨S8x1x1024, .f32⟩
  | .hbm, ⟨7, _⟩ => ⟨S8, .i32⟩
  | .hbm, ⟨8, _⟩ => ⟨S8x1x1, .i32⟩
  | .hbm, ⟨9, _⟩ => ⟨S16, .i32⟩
  | .hbm, ⟨10, _⟩ => ⟨S1x16x1, .i32⟩
  | .hbm, ⟨11, _⟩ => ⟨S_, .i32⟩
  | .hbm, ⟨12, _⟩ => ⟨S1x16x1, .i32⟩
  | .hbm, ⟨13, _⟩ => ⟨S1x16x1, .i32⟩
  | .hbm, ⟨14, _⟩ => ⟨S8x16x1, .i32⟩
  | .hbm, ⟨15, _⟩ => ⟨S8x16x1, .i32⟩
  | .hbm, ⟨16, _⟩ => ⟨S8x16x1, .i32⟩
  | .hbm, ⟨17, _⟩ => ⟨S_, .i32⟩
  | .hbm, ⟨18, _⟩ => ⟨S8x16x1, .i32⟩
  | .hbm, ⟨19, _⟩ => ⟨S8x16x1, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S8x16x4096, .i32⟩
  | .hbm, ⟨24, _⟩ => ⟨S8x16x4096, .i32⟩
  | .hbm, ⟨25, _⟩ => ⟨S_, .i32⟩
  | .hbm, ⟨26, _⟩ => ⟨S8x16x4096, .i32⟩
  | .hbm, ⟨27, _⟩ => ⟨S8x16x4096, .i32⟩
  | .hbm, ⟨28, _⟩ => ⟨S8x16x4096, .i32⟩
  | .hbm, ⟨29, _⟩ => ⟨S8x16x4096, .i32⟩
  | .hbm, ⟨30, _⟩ => ⟨S16x4096x1024, .f32⟩
  | .hbm, ⟨31, _⟩ => ⟨S65536x1024, .f32⟩
  | .hbm, ⟨32, _⟩ => ⟨S524288, .i32⟩
  | .hbm, ⟨33, _⟩ => ⟨S_, .i32⟩
  | .hbm, ⟨34, _⟩ => ⟨S524288, .i32⟩
  | .hbm, ⟨35, _⟩ => ⟨S524288, .i1⟩
  | .hbm, ⟨36, _⟩ => ⟨S_, .i32⟩
  | .hbm, ⟨37, _⟩ => ⟨S524288, .i32⟩
  | .hbm, ⟨38, _⟩ => ⟨S524288, .i32⟩
  | .hbm, ⟨39, _⟩ => ⟨S524288, .i32⟩
  | .hbm, ⟨40, _⟩ => ⟨S524288x1, .i32⟩
  | .hbm, ⟨41, _⟩ => ⟨S524288x1024, .f32⟩
  | .hbm, ⟨42, _⟩ => ⟨S8x16x4096x1024, .f32⟩
  | .hbm, ⟨43, _⟩ => ⟨S_, .i32⟩
  | .hbm, ⟨44, _⟩ => ⟨S8x16x4096, .i32⟩
  | .hbm, ⟨45, _⟩ => ⟨S8x16x4096, .i1⟩
  | .hbm, ⟨46, _⟩ => ⟨S_, .i32⟩
  | .hbm, ⟨47, _⟩ => ⟨S8x16x4096, .i32⟩
  | .hbm, ⟨48, _⟩ => ⟨S8x16x4096, .i1⟩
  | .hbm, ⟨49, _⟩ => ⟨S8x16x4096, .i1⟩
  | .hbm, ⟨50, _⟩ => ⟨S8x16x4096x1, .i1⟩
  | .hbm, ⟨51, _⟩ => ⟨S8x16x4096, .f32⟩
  | .hbm, ⟨52, _⟩ => ⟨S8x16x4096x1, .f32⟩
  | .hbm, ⟨53, _⟩ => ⟨S8x16x4096x1024, .f32⟩
  | .hbm, ⟨54, _⟩ => ⟨S8x16x4096x1024, .f32⟩
  | .hbm, ⟨55, _⟩ => ⟨S_, .f32⟩
  | .hbm, ⟨56, _⟩ => ⟨S_, .f32⟩
  | .hbm, ⟨57, _⟩ => ⟨S8x16x4096x1024, .i1⟩
  | .hbm, ⟨58, _⟩ => ⟨S8x16x4096x1024, .f32⟩
  | .hbm, ⟨59, _⟩ => ⟨S8x16x4096x1024, .f32⟩
  | .hbm, ⟨60, _⟩ => ⟨S_, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x1, .f32⟩
  | .hbm, ⟨77, _⟩ => ⟨S8x4096x1024, .f32⟩
  | .hbm, ⟨78, _⟩ => ⟨S8x4096x1024, .f32⟩
  | .hbm, ⟨79, _⟩ => ⟨S1x1x1024, .f32⟩
  | .hbm, ⟨80, _⟩ => ⟨S8x4096x1024, .f32⟩
  | .hbm, ⟨81, _⟩ => ⟨S8x4096x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]
-- ==== Kernel6.lean ====
abbrev S8x4352x1024 : Shape := ⟨3, ![8, 4352, 1024]⟩
abbrev S8x16x4096 : Shape := ⟨3, ![8, 16, 4096]⟩
abbrev S8x16x1x4096 : Shape := ⟨4, ![8, 16, 1, 4096]⟩
abbrev S16x4096x1024 : Shape := ⟨3, ![16, 4096, 1024]⟩
abbrev S1x4352x1024 : Shape := ⟨3, ![1, 4352, 1024]⟩
abbrev S1x1x1x4096 : Shape := ⟨4, ![1, 1, 1, 4096]⟩
abbrev S1x512x1024 : Shape := ⟨3, ![1, 512, 1024]⟩
abbrev S1x4096 : Shape := ⟨2, ![1, 4096]⟩
abbrev S512x1024 : Shape := ⟨2, ![512, 1024]⟩
abbrev S512x512 : Shape := ⟨2, ![512, 512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S8x4352x1024, .bf16⟩
  | .hbm, ⟨1, _⟩ => ⟨S8x16x4096, .i32⟩
  | .hbm, ⟨2, _⟩ => ⟨S8x16x1x4096, .i32⟩
  | .hbm, ⟨3, _⟩ => ⟨S16x4096x1024, .bf16⟩
  | .local _ .vmem, ⟨0, _⟩ => ⟨S1x4352x1024, .bf16⟩
  | .local _ .vmem, ⟨1, _⟩ => ⟨S1x4352x1024, .bf16⟩
  | .local _ .vmem, ⟨2, _⟩ => ⟨S1x1x1x4096, .i32⟩
  | .local _ .vmem, ⟨3, _⟩ => ⟨S1x1x1x4096, .i32⟩
  | .local _ .vmem, ⟨4, _⟩ => ⟨S1x512x1024, .bf16⟩
  | .local _ .vmem, ⟨5, _⟩ => ⟨S1x512x1024, .bf16⟩
  | _, _ => ⟨S8x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8x4352x1024 : Shape := ⟨3, ![8, 4352, 1024]⟩
abbrev S8x16x4096 : Shape := ⟨3, ![8, 16, 4096]⟩
abbrev S8x4096x1024 : Shape := ⟨3, ![8, 4096, 1024]⟩
abbrev S8x16x1x4096 : Shape := ⟨4, ![8, 16, 1, 4096]⟩
abbrev S512 : Shape := ⟨1, ![512]⟩
abbrev S1x1x512x1 : Shape := ⟨4, ![1, 1, 512, 1]⟩
abbrev S8x16x512x4096 : Shape := ⟨4, ![8, 16, 512, 4096]⟩
abbrev S8x16x512x4096x1 : Shape := ⟨5, ![8, 16, 512, 4096, 1]⟩
abbrev S8x1x1x4096x1024 : Shape := ⟨5, ![8, 1, 1, 4096, 1024]⟩
abbrev S_ : Shape := ⟨0, ![]⟩
abbrev S8x16x512x4096x1024 : Shape := ⟨5, ![8, 16, 512, 4096, 1024]⟩
abbrev S8x16x512x1024 : Shape := ⟨4, ![8, 16, 512, 1024]⟩
abbrev S16x8x512x1024 : Shape := ⟨4, ![16, 8, 512, 1024]⟩
abbrev S16x4096x1024 : Shape := ⟨3, ![16, 4096, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x4352x1024, .bf16⟩
  | .hbm, ⟨1, _⟩ => ⟨S8x16x4096, .i32⟩
  | .hbm, ⟨2, _⟩ => ⟨S8x4096x1024, .bf16⟩
  | .hbm, ⟨3, _⟩ => ⟨S8x4096x1024, .f32⟩
  | .hbm, ⟨4, _⟩ => ⟨S8x16x1x4096, .i32⟩
  | .hbm, ⟨5, _⟩ => ⟨S512, .i32⟩
  | .hbm, ⟨6, _⟩ => ⟨S1x1x512x1, .i32⟩
  | .hbm, ⟨7, _⟩ => ⟨S8x16x512x4096, .i32⟩
  | .hbm, ⟨8, _⟩ => ⟨S8x16x512x4096, .i32⟩
  | .hbm, ⟨9, _⟩ => ⟨S8x16x512x4096, .i1⟩
  | .hbm, ⟨10, _⟩ => ⟨S8x16x512x4096x1, .i1⟩
  | .hbm, ⟨11, _⟩ => ⟨S8x1x1x4096x1024, .f32⟩
  | .hbm, ⟨12, _⟩ => ⟨S_, .f32⟩
  | .hbm, ⟨13, _⟩ => ⟨S_, .f32⟩
  | .hbm, ⟨14, _⟩ => ⟨S8x16x512x4096x1024, .i1⟩
  | .hbm, ⟨15, _⟩ => ⟨S8x16x512x4096x1024, .f32⟩
  | .hbm, ⟨16, _⟩ => ⟨S8x16x512x4096x1024, .f32⟩
  | .hbm, ⟨17, _⟩ => ⟨S8x16x512x4096x1024, .f32⟩
  | .hbm, ⟨18, _⟩ => ⟨S_, .f32⟩
  | .hbm, ⟨19, _⟩ => ⟨S8x16x512x1024, .f32⟩
  | .hbm, ⟨20, _⟩ => ⟨S16x8x512x1024, .f32⟩
  | .hbm, ⟨21, _⟩ => ⟨S16x4096x1024, .f32⟩
  | .hbm, ⟨22, _⟩ => ⟨S16x4096x1024, .bf16⟩
  | _, _ => ⟨S8x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel7.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x6144x16, .f32⟩
  | .hbm, ⟨13, _⟩ => ⟨S2x16x6144, .f32⟩
  | .hbm, ⟨14, _⟩ => ⟨S2x1x6144, .f32⟩
  | .hbm, ⟨15, _⟩ => ⟨S2x16x6144, .f32⟩
  | .hbm, ⟨16, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Attn.Softmax.lean ====
/- One row of softmax attention over the extended reals: dividing the weighted sum by the weights' sum, as the kernel
   does, and weighting by the divided weights, as the reference does, agree when every score is a real number. -/
module

public import Idealize.ShloMosaic.PureOps.Ideal.Laws
public import Idealize.ShloMosaic.Lib.Pointwise

@[expose] public section

noncomputable section

namespace Cert.Attn

open Idealize.ShloMosaic

/-- The largest of a row's scores. -/
def rowMax {n : ℕ} (s : Fin n → EReal) : EReal := Finset.univ.fold max ⊥ s

/-- A row's output as the kernel computes it: the weighted sum of the values, then divided by the sum of the weights. -/
def kernelRow {n : ℕ} (s v : Fin n → EReal) : EReal :=
  Ideal.div (∑ j, Ideal.exp (s j - rowMax s) * v j) (∑ j, Ideal.exp (s j - rowMax s))

/-- A row's output as the reference computes it: every weight divided by the sum of the weights, then the weighted sum. -/
def referenceRow {n : ℕ} (s v : Fin n → EReal) : EReal :=
  ∑ j, v j * Ideal.div (Ideal.exp (s j - max ⊥ (rowMax s))) (∑ k, Ideal.exp (s k - max ⊥ (rowMax s)))

/-- A real number: neither infinity. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih fun k => f k.succ, EReal.coe_add]

theorem isReal_sum {n : ℕ} {f : Fin n → EReal} (h : ∀ k, IsReal (f k)) : IsReal (∑ k, f k) := by
  choose g hg using h
  exact ⟨∑ k, g k, by rw [← coe_sum]; exact Finset.sum_congr rfl fun k _ => hg k⟩

/-- Over a nonempty row of real scores the largest is real too. -/
theorem isReal_rowMax {n : ℕ} (hn : 0 < n) {s : Fin n → EReal} (h : ∀ j, IsReal (s j)) : IsReal (rowMax s) := by
  have aux : ∀ t : Finset (Fin n), t.fold max ⊥ s = ⊥ ∧ t = ∅ ∨ IsReal (t.fold max ⊥ s) := by
    intro t
    induction t using Finset.induction_on with
    | empty => exact .inl ⟨Finset.fold_empty, rfl⟩
    | insert a t ha ih =>
      right
      rw [Finset.fold_insert ha]
      rcases ih with ⟨h0, _⟩ | h1
      · rw [h0, max_eq_left bot_le]; exact h a
      · rcases max_choice (s a) (t.fold max ⊥ s) with e | e <;> rw [e]
        · exact h a
        · exact h1
  rcases aux Finset.univ with ⟨_, h0⟩ | h1
  · exact absurd (h0 ▸ Finset.mem_univ (⟨0, hn⟩ : Fin n)) (Finset.notMem_empty _)
  · exact h1

/-- Multiplication by a nonnegative real distributes over a sum of extended reals. -/
theorem sum_mul_coe {n : ℕ} (f : Fin n → EReal) {c : ℝ} (hc : 0 ≤ c) : (∑ j, f j) * (c : EReal) = ∑ j, f j * (c : EReal) := by
  induction n with
  | zero => simp
  | succ n ih =>
    rw [Fin.sum_univ_succ, Fin.sum_univ_succ,
      EReal.right_distrib_of_nonneg_of_ne_top (EReal.coe_nonneg.mpr hc) (EReal.coe_ne_top c), ih fun j => f j.succ]

/-- The two orders of dividing agree on a row of real scores; the values are arbitrary. -/
theorem kernelRow_eq_referenceRow {n : ℕ} (hn : 0 < n) (s v : Fin n → EReal) (h : ∀ j, IsReal (s j)) :
    kernelRow s v = referenceRow s v := by
  obtain ⟨M, hM⟩ := isReal_rowMax hn h
  choose t ht using h
  have he : ∀ j, Ideal.exp (s j - rowMax s) = ((Real.exp (t j - M) : ℝ) : EReal) := fun j => by
    rw [ht j, hM, ← EReal.coe_sub, Ideal.exp_coe]
  unfold kernelRow referenceRow
  rw [max_eq_right bot_le]
  simp only [he]
  rw [coe_sum]
  have hpos : (0 : ℝ) < ∑ j, Real.exp (t j - M) := by
    haveI : Nonempty (Fin n) := ⟨⟨0, hn⟩⟩
    exact Finset.sum_pos (fun j _ => Real.exp_pos _) Finset.univ_nonempty
  simp only [Ideal.div_coe hpos.ne']
  rw [sum_mul_coe _ (by positivity)]
  refine Finset.sum_congr rfl fun j _ => ?_
  rw [mul_comm _ (v j), mul_assoc]

end Cert.Attn

end
-- ==== Proof.Attn.Layout.lean ====
/- The attention's result, stated by coordinates: which query row, which key group and which value column an element of
   the result is made of. Both programs are read against these functions. -/
module

public import proofs.«01_k».proof.Proof.Attn.Softmax

@[expose] public section

set_option maxRecDepth 16384

noncomputable section

namespace Cert.Attn

open Idealize.ShloMosaic

/-- Queries and results: batch, token, (key group, head of the group, feature). -/
abbrev Rows : Shape := ⟨3, ![8, 4352, 1024]⟩
/-- Keys and values: batch, key group, token, feature. -/
abbrev Keys : Shape := ⟨4, ![8, 4, 4352, 64]⟩

/-- The scores of token `t`'s query in head `h` of group `g` against the first `n` keys of the group. -/
def scores (n : ℕ) (hn : n ≤ 4352) (q : FVec Ideal Rows .bf16) (k : FVec Ideal Keys .bf16) (b : Fin 8) (t : Fin 4352)
    (g h : Fin 4) (j : Fin n) : EReal :=
  ∑ e : Fin 64, q (ix3 b t ⟨g.val * 256 + h.val * 64 + e.val, by omega⟩) * k (ix4 b g ⟨j.val, by omega⟩ e)

/-- Feature `d` of the first `n` values of group `g`. -/
def column (n : ℕ) (hn : n ≤ 4352) (v : FVec Ideal Keys .bf16) (b : Fin 8) (g : Fin 4) (d : Fin 64) (j : Fin n) : EReal :=
  v (ix4 b g ⟨j.val, by omega⟩ d)

/-- One element of the result, of a given way to compute a row: a context token attends to the context's 256 keys, a
    latent token to all keys. -/
def element (row : (n : ℕ) → (Fin n → EReal) → (Fin n → EReal) → EReal) (q : FVec Ideal Rows .bf16) (k v : FVec Ideal Keys .bf16)
    (b : Fin 8) (t : Fin 4352) (g h : Fin 4) (d : Fin 64) : EReal :=
  if t.val < 256 then row 256 (scores 256 (by omega) q k b t g h) (column 256 (by omega) v b g d)
  else row 4352 (scores 4352 (by omega) q k b t g h) (column 4352 (by omega) v b g d)

/-- The whole result: an element's last coordinate is its group, head and feature. -/
def result (row : (n : ℕ) → (Fin n → EReal) → (Fin n → EReal) → EReal) (q : FVec Ideal Rows .bf16) (k v : FVec Ideal Keys .bf16) :
    FVec Ideal Rows .bf16 := fun i =>
  element row q k v (i 0) (i 1) ⟨(i 2).val / 256, by have h : (i 2).val < 1024 := (i 2).isLt; omega⟩
    ⟨(i 2).val % 256 / 64, by omega⟩ ⟨(i 2).val % 64, by omega⟩

/-- The result at an index, from the index's batch, token, group, head and feature. -/
theorem result_at (row : (n : ℕ) → (Fin n → EReal) → (Fin n → EReal) → EReal) (q : FVec Ideal Rows .bf16) (k v : FVec Ideal Keys .bf16)
    (i : Rows.Idx) (b : Fin 8) (t : Fin 4352) (g h : Fin 4) (d : Fin 64) (hb : (i 0).val = b.val) (ht : (i 1).val = t.val)
    (hc : (i 2).val = g.val * 256 + h.val * 64 + d.val) : result row q k v i = element row q k v b t g h d := by
  unfold result
  congr 1
  · exact Fin.ext hb
  · exact Fin.ext ht
  · exact Fin.ext (by show (i 2).val / 256 = g.val; omega)
  · exact Fin.ext (by show (i 2).val % 256 / 64 = h.val; omega)
  · exact Fin.ext (by show (i 2).val % 64 = d.val; omega)

/-- On finite queries and keys the two ways to compute a row give the same element. -/
theorem element_eq (q : FVec Ideal Rows .bf16) (k v : FVec Ideal Keys .bf16) (hq : ∀ i, IsReal (q i)) (hk : ∀ i, IsReal (k i))
    (b : Fin 8) (t : Fin 4352) (g h : Fin 4) (d : Fin 64) :
    element (fun _ => kernelRow) q k v b t g h d = element (fun _ => referenceRow) q k v b t g h d := by
  have hs : ∀ n hn j, IsReal (scores n hn q k b t g h j) := fun n hn j => isReal_sum fun e => (hq _).mul (hk _)
  unfold element
  dsimp only
  rw [kernelRow_eq_referenceRow (by omega) _ _ (hs 256 _), kernelRow_eq_referenceRow (by omega) _ _ (hs 4352 _)]

/-- On finite queries and keys the two ways to compute a row give the same result. -/
theorem result_eq (q : FVec Ideal Rows .bf16) (k v : FVec Ideal Keys .bf16) (hq : ∀ i, IsReal (q i)) (hk : ∀ i, IsReal (k i)) :
    result (fun _ => kernelRow) q k v = result (fun _ => referenceRow) q k v :=
  funext fun _ => element_eq q k v hq hk _ _ _ _ _

/-- The word of minus infinity. -/
theorem ofBits_neg_inf : Ideal.ofBits .f32 0xFF800000#32 = ⊥ := by
  rw [show Ideal.ofBits .f32 0xFF800000#32 = Ideal.ieee 8 23 0xFF800000#32 from rfl]
  simp [Ideal.ieee]

end Cert.Attn

end
-- ==== Proof.Attn.Block.lean ====
/- What the kernel's body stores at a point, by coordinates: each head's rows, from the query block's columns of the head
   and the first keys and values of the staged blocks. -/
module

public import proofs.«01_k».proof.Proof.Gen.KernelIdeal.Skeleton
public import proofs.«01_k».proof.Proof.Attn.Layout

@[expose] public section

set_option maxRecDepth 16384

noncomputable section

namespace Cert.Attn.Block

open Idealize.ShloMosaic Idealize.ShloMosaic.TcCoe Idealize.SL.Sem Cert.KernelIdeal Cert.KernelIdeal.Gen

/-! A head of a context tile (256 keys). -/

theorem ctx_key_at (k : FVec Ideal S1x1x256x64 .bf16) (j : Fin 256) (e : Fin 64) : k0_pay3 (F := Ideal) k (ix2 j e) = k (ix4 0 0 j e) := by
  pointwise [k0_pay3]

theorem ctx_value_at (k : FVec Ideal S1x1x256x64 .bf16) (j : Fin 256) (e : Fin 64) : k0_pay4 (F := Ideal) k (ix2 j e) = k (ix4 0 0 j e) := by
  pointwise [k0_pay4]

theorem ctx_head0_at (k v : FVec Ideal S1x1x256x64 .bf16) (q : FVec Ideal S1x256x64 .bf16) (r : Fin 256) (d : Fin 64) :
    k0_pay5 (F := Ideal) k v q (ix2 r d)
      = kernelRow (fun j : Fin 256 => ∑ e : Fin 64, q (ix3 0 r e) * k (ix4 0 0 j e)) fun j => v (ix4 0 0 j d) := by
  pointwise [k0_pay5, k0_pay3, k0_pay4, ofBits_neg_inf]
  rfl

theorem ctx_head1_at (k v : FVec Ideal S1x1x256x64 .bf16) (q : FVec Ideal S1x256x64 .bf16) (r : Fin 256) (d : Fin 64) :
    k0_pay6 (F := Ideal) k v q (ix2 r d)
      = kernelRow (fun j : Fin 256 => ∑ e : Fin 64, q (ix3 0 r e) * k (ix4 0 0 j e)) fun j => v (ix4 0 0 j d) := by
  pointwise [k0_pay6, k0_pay3, k0_pay4, ofBits_neg_inf]
  rfl

/-- The stored block of a context tile: the heads side by side. -/
theorem ctx_store_at (k v : FVec Ideal S256x64 .bf16) (o0 o1 : FVec Ideal S256x64 .bf16) (q2 q3 : FVec Ideal S1x256x64 .bf16)
    (r : Fin 256) (c : Fin 256) :
    k0_pay1 (F := Ideal) k v o0 o1 q2 q3 (ix3 0 r c)
      = if h0 : c.val < 64 then o0 (ix2 r ⟨c.val, h0⟩)
        else if h1 : c.val - 64 < 64 then o1 (ix2 r ⟨c.val - 64, h1⟩)
        else if h2 : c.val - 64 - 64 < 64 then
          kernelRow (fun j : Fin 256 => ∑ e : Fin 64, q2 (ix3 0 r e) * k (ix2 j e)) fun j => v (ix2 j ⟨c.val - 64 - 64, h2⟩)
        else kernelRow (fun j : Fin 256 => ∑ e : Fin 64, q3 (ix3 0 r e) * k (ix2 j e)) fun j => v (ix2 j ⟨c.val - 64 - 64 - 64, by omega⟩) := by
  pointwise [k0_pay1, ofBits_neg_inf]
  rfl

/-- The stored block of a ctx tile, every head read off its columns of the query block. -/
theorem ctx_block_at (Q : FVec Ideal S1x256x256 .bf16) (k v : FVec Ideal S1x1x256x64 .bf16) (q0 q1 q2 q3 : FVec Ideal S1x256x64 .bf16)
    (h0 : ∀ (r : Fin 256) (e : Fin 64), q0 (ix3 0 r e) = Q (ix3 0 r ⟨e.val, by omega⟩))
    (h1 : ∀ (r : Fin 256) (e : Fin 64), q1 (ix3 0 r e) = Q (ix3 0 r ⟨64 + e.val, by omega⟩))
    (h2 : ∀ (r : Fin 256) (e : Fin 64), q2 (ix3 0 r e) = Q (ix3 0 r ⟨128 + e.val, by omega⟩))
    (h3 : ∀ (r : Fin 256) (e : Fin 64), q3 (ix3 0 r e) = Q (ix3 0 r ⟨192 + e.val, by omega⟩)) (r c : Fin 256) :
    k0_pay1 (F := Ideal) (k0_pay3 k) (k0_pay4 v) (k0_pay5 k v q0) (k0_pay6 k v q1) q2 q3 (ix3 0 r c)
      = kernelRow (fun j : Fin 256 => ∑ e : Fin 64, Q (ix3 0 r ⟨c.val / 64 * 64 + e.val, by omega⟩) * k (ix4 0 0 j e))
          fun j => v (ix4 0 0 j ⟨c.val % 64, by omega⟩) := by
  rw [ctx_store_at]
  simp only [ctx_head0_at, ctx_head1_at, ctx_key_at, ctx_value_at, h0, h1, h2, h3]
  have hc := c.isLt
  split_ifs with c0 c1 c2
  · have e0 : c.val / 64 * 64 = 0 := by omega
    have e1 : c.val % 64 = c.val := by omega
    simp only [e0, e1, Nat.zero_add]
  · have e0 : c.val / 64 * 64 = 64 := by omega
    have e1 : c.val % 64 = c.val - 64 := by omega
    simp only [e0, e1]
  · have e0 : c.val / 64 * 64 = 128 := by omega
    have e1 : c.val % 64 = c.val - 64 - 64 := by omega
    simp only [e0, e1]
  · have e0 : c.val / 64 * 64 = 192 := by omega
    have e1 : c.val % 64 = c.val - 64 - 64 - 64 := by omega
    simp only [e0, e1]

/-! A head of a latent tile (4352 keys). -/

theorem latent_key_at (k : FVec Ideal S1x1x4352x64 .bf16) (j : Fin 4352) (e : Fin 64) : k0_pay7 (F := Ideal) k (ix2 j e) = k (ix4 0 0 j e) := by
  pointwise [k0_pay7]

theorem latent_value_at (k : FVec Ideal S1x1x4352x64 .bf16) (j : Fin 4352) (e : Fin 64) : k0_pay8 (F := Ideal) k (ix2 j e) = k (ix4 0 0 j e) := by
  pointwise [k0_pay8]

theorem latent_head0_at (k v : FVec Ideal S1x1x4352x64 .bf16) (q : FVec Ideal S1x256x64 .bf16) (r : Fin 256) (d : Fin 64) :
    k0_pay9 (F := Ideal) k v q (ix2 r d)
      = kernelRow (fun j : Fin 4352 => ∑ e : Fin 64, q (ix3 0 r e) * k (ix4 0 0 j e)) fun j => v (ix4 0 0 j d) := by
  pointwise [k0_pay9, k0_pay7, k0_pay8, ofBits_neg_inf]
  rfl

theorem latent_head1_at (k v : FVec Ideal S1x1x4352x64 .bf16) (q : FVec Ideal S1x256x64 .bf16) (r : Fin 256) (d : Fin 64) :
    k0_pay10 (F := Ideal) k v q (ix2 r d)
      = kernelRow (fun j : Fin 4352 => ∑ e : Fin 64, q (ix3 0 r e) * k (ix4 0 0 j e)) fun j => v (ix4 0 0 j d) := by
  pointwise [k0_pay10, k0_pay7, k0_pay8, ofBits_neg_inf]
  rfl

/-- The stored block of a latent tile: the heads side by side. -/
theorem latent_store_at (k v : FVec Ideal S4352x64 .bf16) (o0 o1 : FVec Ideal S256x64 .bf16) (q2 q3 : FVec Ideal S1x256x64 .bf16)
    (r : Fin 256) (c : Fin 256) :
    k0_pay2 (F := Ideal) k v o0 o1 q2 q3 (ix3 0 r c)
      = if h0 : c.val < 64 then o0 (ix2 r ⟨c.val, h0⟩)
        else if h1 : c.val - 64 < 64 then o1 (ix2 r ⟨c.val - 64, h1⟩)
        else if h2 : c.val - 64 - 64 < 64 then
          kernelRow (fun j : Fin 4352 => ∑ e : Fin 64, q2 (ix3 0 r e) * k (ix2 j e)) fun j => v (ix2 j ⟨c.val - 64 - 64, h2⟩)
        else kernelRow (fun j : Fin 4352 => ∑ e : Fin 64, q3 (ix3 0 r e) * k (ix2 j e)) fun j => v (ix2 j ⟨c.val - 64 - 64 - 64, by omega⟩) := by
  pointwise [k0_pay2, ofBits_neg_inf]
  rfl

/-- The stored block of a latent tile, every head read off its columns of the query block. -/
theorem latent_block_at (Q : FVec Ideal S1x256x256 .bf16) (k v : FVec Ideal S1x1x4352x64 .bf16) (q0 q1 q2 q3 : FVec Ideal S1x256x64 .bf16)
    (h0 : ∀ (r : Fin 256) (e : Fin 64), q0 (ix3 0 r e) = Q (ix3 0 r ⟨e.val, by omega⟩))
    (h1 : ∀ (r : Fin 256) (e : Fin 64), q1 (ix3 0 r e) = Q (ix3 0 r ⟨64 + e.val, by omega⟩))
    (h2 : ∀ (r : Fin 256) (e : Fin 64), q2 (ix3 0 r e) = Q (ix3 0 r ⟨128 + e.val, by omega⟩))
    (h3 : ∀ (r : Fin 256) (e : Fin 64), q3 (ix3 0 r e) = Q (ix3 0 r ⟨192 + e.val, by omega⟩)) (r c : Fin 256) :
    k0_pay2 (F := Ideal) (k0_pay7 k) (k0_pay8 v) (k0_pay9 k v q0) (k0_pay10 k v q1) q2 q3 (ix3 0 r c)
      = kernelRow (fun j : Fin 4352 => ∑ e : Fin 64, Q (ix3 0 r ⟨c.val / 64 * 64 + e.val, by omega⟩) * k (ix4 0 0 j e))
          fun j => v (ix4 0 0 j ⟨c.val % 64, by omega⟩) := by
  rw [latent_store_at]
  simp only [latent_head0_at, latent_head1_at, latent_key_at, latent_value_at, h0, h1, h2, h3]
  have hc := c.isLt
  split_ifs with c0 c1 c2
  · have e0 : c.val / 64 * 64 = 0 := by omega
    have e1 : c.val % 64 = c.val := by omega
    simp only [e0, e1, Nat.zero_add]
  · have e0 : c.val / 64 * 64 = 64 := by omega
    have e1 : c.val % 64 = c.val - 64 := by omega
    simp only [e0, e1]
  · have e0 : c.val / 64 * 64 = 128 := by omega
    have e1 : c.val % 64 = c.val - 64 - 64 := by omega
    simp only [e0, e1]
  · have e0 : c.val / 64 * 64 = 192 := by omega
    have e1 : c.val % 64 = c.val - 64 - 64 - 64 := by omega
    simp only [e0, e1]

end Cert.Attn.Block

end
-- ==== Proof.Attn.Array.lean ====
/- The kernel's result array after the run: every element is the kernel's row of its token, group, head and feature. -/
module

public import proofs.«01_k».proof.Proof.Gen.KernelIdeal.Value
public import proofs.«01_k».proof.Proof.Attn.Block
public import Idealize.ShloMosaic.Lib.Pipeline.ValueKit

@[expose] public section

set_option maxRecDepth 16384

noncomputable section

namespace Cert.Attn.Array

open Idealize.ShloMosaic Idealize.ShloMosaic.TcCoe Idealize.SL.Sem Cert.KernelIdeal Cert.KernelIdeal.Gen
open Idealize.ShloMosaic.Pipeline (Dat)

/-- Which block of its array each window holds at a point: batch, group and tile are the point's digits. -/
theorem idx : ∀ t : Fin cfg0.N, win0_0.index t = ![t.val / 68, t.val % 17, t.val / 17 % 4]
    ∧ win0_1.index t = ![t.val / 68, t.val / 17 % 4, 0, 0] ∧ win0_2.index t = ![t.val / 68, t.val / 17 % 4, 0, 0]
    ∧ win0_3.index t = ![t.val / 68, t.val % 17, t.val / 17 % 4] ∧ t.val < 544 :=
  (by decide +kernel : ∀ t : Fin grid0.N, _)

variable (m : (ℓ : Loc nD τ sig) → Buf (Elt Ideal) ℓ) (c : Dev nD)

/-- The query block at a point: the tile's tokens, the group's columns. -/
theorem query_block (t : Fin cfg0.N) (r x : Fin 256) :
    (iblk m c 0 t : FVec Ideal S1x256x256 .bf16) (ix3 0 r x)
      = (m ((c : Thread nD τ).loc main_arg0) : FVec Ideal S8x4352x1024 .bf16)
        (ix3 ⟨t.val / 68, by have := (idx t).2.2.2.2; omega⟩ ⟨t.val % 17 * 256 + r.val, by omega⟩ ⟨t.val / 17 % 4 * 256 + x.val, by omega⟩) := by
  blk_ext [iblk, V, idx t]

/-- The key block at a point: every key of the batch's group. -/
theorem key_block (t : Fin cfg0.N) (j : Fin 4352) (e : Fin 64) :
    (iblk m c 1 t : FVec Ideal S1x1x4352x64 .bf16) (ix4 0 0 j e)
      = (m ((c : Thread nD τ).loc main_arg1) : FVec Ideal S8x4x4352x64 .bf16)
        (ix4 ⟨t.val / 68, by have := (idx t).2.2.2.2; omega⟩ ⟨t.val / 17 % 4, by omega⟩ j e) := by
  blk_ext [iblk, V, idx t]

/-- The value block at a point: every value of the batch's group. -/
theorem value_block (t : Fin cfg0.N) (j : Fin 4352) (e : Fin 64) :
    (iblk m c 2 t : FVec Ideal S1x1x4352x64 .bf16) (ix4 0 0 j e)
      = (m ((c : Thread nD τ).loc main_arg2) : FVec Ideal S8x4x4352x64 .bf16)
        (ix4 ⟨t.val / 68, by have := (idx t).2.2.2.2; omega⟩ ⟨t.val / 17 % 4, by omega⟩ j e) := by
  blk_ext [iblk, V, idx t]

/-- Where row `r`, column `x` of the result block at a point lies in the result. -/
theorem result_block (q : FVec Ideal S8x4352x1024 .bf16) (k v : FVec Ideal S8x4x4352x64 .bf16) (t : Fin cfg0.N) (r x : Fin 256) :
    result (fun _ => kernelRow) q k v (((cfg0.win 3).blk t).view.emb (ix3 0 r x))
      = element (fun _ => kernelRow) q k v ⟨t.val / 68, by have := (idx t).2.2.2.2; omega⟩ ⟨t.val % 17 * 256 + r.val, by omega⟩
          ⟨t.val / 17 % 4, by omega⟩ ⟨x.val / 64, by omega⟩ ⟨x.val % 64, by omega⟩ := by
  refine result_at _ q k v _ _ _ _ _ _ ?_ ?_ ?_ <;> blk_simp [idx t] <;> dsimp only <;> omega

/-- The result array after the run. -/
theorem final : (dats m 0 c).arrAt 3 cfg0.N
    = result (fun _ => kernelRow) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, x, rfl⟩ : ∃ r x : Fin 256, y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (result_block _ _ _ t r x).symm
  blk_simp
  rw [after0_3]
  by_cases h0 : t.val % 17 = 0
  · rw [outsAt0_A m c t h0 (by omega)]
    frame_out
    refine (Block.ctx_block_at (iblk m c 0 t) _ _ _ _ _ _ ?_ ?_ ?_ ?_ r x).trans ?_
    · intro r e; pointwise
    · intro r e; pointwise
    · intro r e; pointwise
    · intro r e; pointwise
    · unfold element scores column
      refine Eq.trans ?_ (if_pos (by show t.val % 17 * 256 + r.val < 256; omega)).symm
      congr 1
      · funext j
        refine Finset.sum_congr rfl fun e _ => Ideal.mul_congr ((query_block m c t r _).trans ?_) ?_
        · blk_ext
        · pointwise
          exact key_block m c t _ _
      · funext j
        pointwise
        exact value_block m c t _ _
  · rw [outsAt0_B m c t h0 (by omega)]
    frame_out
    refine (Block.latent_block_at (iblk m c 0 t) _ _ _ _ _ _ ?_ ?_ ?_ ?_ r x).trans ?_
    · intro r e; pointwise
    · intro r e; pointwise
    · intro r e; pointwise
    · intro r e; pointwise
    · unfold element scores column
      refine Eq.trans ?_ (if_neg (by show ¬ t.val % 17 * 256 + r.val < 256; omega)).symm
      congr 1
      · funext j
        refine Finset.sum_congr rfl fun e _ => Ideal.mul_congr ((query_block m c t r _).trans ?_) (key_block m c t _ _)
        blk_ext
      · funext j
        exact value_block m c t _ _

end Cert.Attn.Array

end
-- ==== Proof.Attn.Reference.lean ====
/- The reference's result, read operation by operation down to `result referenceRow`. -/
module

public import proofs.«01_k».proof.Proof.Gen.ReferenceIdeal.Read
public import proofs.«01_k».proof.Proof.Attn.Layout
public import Idealize.ShloMosaic.Lib.Pipeline.ValueKit

@[expose] public section

set_option maxRecDepth 16384

noncomputable section

namespace Cert.Attn.Reference

open Idealize.ShloMosaic Idealize.ShloMosaic.TcCoe Idealize.SL.Sem Cert.ReferenceIdeal Cert.ReferenceIdeal.Read

variable (q : FVec Ideal S8x4352x1024 .bf16) (k v : FVec Ideal S8x4x4352x64 .bf16)

/-! The arguments in the layout of the products. -/

theorem query_at (b : Fin 8) (t : Fin 4352) (g h : Fin 4) (e : Fin 64) :
    val_main_v3 (F := Ideal) q (ix5 b t g h e) = q (ix3 b t ⟨g.val * 256 + h.val * 64 + e.val, by omega⟩) := by
  unfold val_main_v3 val_main_v0
  pointwise
  blk_ext

theorem key_at (b : Fin 8) (j : Fin 4352) (g : Fin 4) (e : Fin 64) : val_main_v4 (F := Ideal) k (ix4 b j g e) = k (ix4 b g j e) := by
  unfold val_main_v4 val_main_v1
  pointwise

theorem value_at (b : Fin 8) (j : Fin 4352) (g : Fin 4) (e : Fin 64) : val_main_v5 (F := Ideal) v (ix4 b j g e) = v (ix4 b g j e) := by
  unfold val_main_v5 val_main_v2
  pointwise

/-! The context tokens. -/

theorem ctx_scores_at (b : Fin 8) (g h : Fin 4) (r : Fin 256) (j : Fin 256) :
    val_main_v10 (F := Ideal) q k (ix5 b g h r j) = scores 256 (by omega) q k b ⟨r.val, by omega⟩ g h j := by
  have hk := fun e : Fin 64 => key_at k b ⟨j.val, by omega⟩ g e
  have hq := fun e : Fin 64 => query_at q b ⟨r.val, by omega⟩ g h e
  unfold val_main_v10 val_main_v9 val_main_v7 val_main_v6
  revert hk hq
  generalize val_main_v4 (F := Ideal) k = k'
  generalize val_main_v3 (F := Ideal) q = q'
  intro hk hq
  pointwise
  refine Finset.sum_congr rfl fun e _ => ?_
  exact (Ideal.mul_congr (hk e) (hq e)).trans (mul_comm _ _)

/-- The largest of a row, as the reference's reduction reads at an index. -/
theorem ctx_max_at (s : FVec Ideal S8x4x4x256x256 .f32) (z : FVec Ideal S_ .f32) (b : Fin 8) (g h : Fin 4) (r : Fin 256) :
    (Host.reduce FloatOps.maximumf s z Gen.reducesTo_S8x4x4x256x256_S8x4x4x256_d4 Gen.h_S_ : FVec Ideal S8x4x4x256 .f32) (ix4 b g h r)
      = Finset.univ.fold max (z (Shape.Idx.first Gen.h_S_)) fun j => s (ix5 b g h r j) := by
  pointwise

theorem ctx_largest_at (b : Fin 8) (g h : Fin 4) (r : Fin 256) :
    val_main_v13 (F := Ideal) q k (ix4 b g h r) = max ⊥ (rowMax (scores 256 (by omega) q k b ⟨r.val, by omega⟩ g h)) := by
  have e := ctx_max_at (val_main_v10 (F := Ideal) q k) (val_main_cst (F := Ideal)) b g h r
  simp only [ctx_scores_at] at e
  have e0 : val_main_cst (F := Ideal) (Shape.Idx.first Gen.h_S_) = ⊥ := ofBits_neg_inf
  have e1 : val_main_v12 (F := Ideal) (ix4 b g h r) = ⊥ := by
    unfold val_main_v12 val_main_cst_0
    pointwise [ofBits_neg_inf]
  rw [e0] at e
  rw [val_main_v13_apply, e1]
  exact congrArg (max ⊥) e

/-- The scores less their largest. -/
theorem ctx_shifted_at (b : Fin 8) (g h : Fin 4) (r : Fin 256) (j : Fin 256) :
    val_main_v16 (F := Ideal) q k (ix5 b g h r j)
      = scores 256 (by omega) q k b ⟨r.val, by omega⟩ g h j - max ⊥ (rowMax (scores 256 (by omega) q k b ⟨r.val, by omega⟩ g h)) := by
  have hs := ctx_scores_at q k b g h r j
  have hm := ctx_largest_at q k b g h r
  unfold val_main_v16 val_main_v15 val_main_v14
  revert hs hm
  generalize val_main_v10 (F := Ideal) q k = s
  generalize val_main_v13 (F := Ideal) q k = M
  intro hs hm
  pointwise
  rw [hs, hm]

theorem ctx_weights_at (b : Fin 8) (g h : Fin 4) (r : Fin 256) (j : Fin 256) :
    val_main_v21 (F := Ideal) q k (ix5 b g h r j)
      = Ideal.div (Ideal.exp (scores 256 (by omega) q k b ⟨r.val, by omega⟩ g h j
          - max ⊥ (rowMax (scores 256 (by omega) q k b ⟨r.val, by omega⟩ g h))))
        (∑ i, Ideal.exp (scores 256 (by omega) q k b ⟨r.val, by omega⟩ g h i
          - max ⊥ (rowMax (scores 256 (by omega) q k b ⟨r.val, by omega⟩ g h)))) := by
  have hs := fun j => ctx_shifted_at q k b g h r j
  unfold val_main_v21 val_main_v20 val_main_v19 val_main_v18 val_main_v17
  revert hs
  generalize val_main_v16 (F := Ideal) q k = s
  intro hs
  pointwise [val_main_cst_1]
  simp only [hs, zero_add]

theorem ctx_at (b : Fin 8) (r : Fin 256) (g h : Fin 4) (d : Fin 64) :
    val_main_v23 (F := Ideal) q k v (ix5 b r g h d)
      = referenceRow (scores 256 (by omega) q k b ⟨r.val, by omega⟩ g h) (column 256 (by omega) v b g d) := by
  have hw := fun j => ctx_weights_at q k b g h r j
  have hv := fun j : Fin 256 => value_at v b ⟨j.val, by omega⟩ g d
  unfold val_main_v23 val_main_v22 val_main_v8
  revert hw hv
  generalize val_main_v21 (F := Ideal) q k = w
  generalize val_main_v5 (F := Ideal) v = v'
  intro hw hv
  pointwise
  exact Finset.sum_congr rfl fun j _ => Ideal.mul_congr (hv j) (hw j)

/-! The latent tokens. -/

theorem latent_scores_at (b : Fin 8) (g h : Fin 4) (r : Fin 4096) (j : Fin 4352) :
    val_main_v27 (F := Ideal) q k (ix5 b g h r j) = scores 4352 (by omega) q k b ⟨256 + r.val, by omega⟩ g h j := by
  have hk := fun e : Fin 64 => key_at k b ⟨j.val, by omega⟩ g e
  have hq := fun e : Fin 64 => query_at q b ⟨256 + r.val, by omega⟩ g h e
  unfold val_main_v27 val_main_v26 val_main_v25
  revert hk hq
  generalize val_main_v4 (F := Ideal) k = k'
  generalize val_main_v3 (F := Ideal) q = q'
  intro hk hq
  pointwise
  refine Finset.sum_congr rfl fun e _ => ?_
  exact (Ideal.mul_congr (hk e) (hq e)).trans (mul_comm _ _)

/-- The largest of a row, as the reference's reduction reads at an index. -/
theorem latent_max_at (s : FVec Ideal S8x4x4x4096x4352 .f32) (z : FVec Ideal S_ .f32) (b : Fin 8) (g h : Fin 4) (r : Fin 4096) :
    (Host.reduce FloatOps.maximumf s z Gen.reducesTo_S8x4x4x4096x4352_S8x4x4x4096_d4 Gen.h_S_ : FVec Ideal S8x4x4x4096 .f32) (ix4 b g h r)
      = Finset.univ.fold max (z (Shape.Idx.first Gen.h_S_)) fun j => s (ix5 b g h r j) := by
  pointwise

theorem latent_largest_at (b : Fin 8) (g h : Fin 4) (r : Fin 4096) :
    val_main_v30 (F := Ideal) q k (ix4 b g h r) = max ⊥ (rowMax (scores 4352 (by omega) q k b ⟨256 + r.val, by omega⟩ g h)) := by
  have e := latent_max_at (val_main_v27 (F := Ideal) q k) (val_main_cst_2 (F := Ideal)) b g h r
  simp only [latent_scores_at] at e
  have e0 : val_main_cst_2 (F := Ideal) (Shape.Idx.first Gen.h_S_) = ⊥ := ofBits_neg_inf
  have e1 : val_main_v29 (F := Ideal) (ix4 b g h r) = ⊥ := by
    unfold val_main_v29 val_main_cst_3
    pointwise [ofBits_neg_inf]
  rw [e0] at e
  rw [val_main_v30_apply, e1]
  exact congrArg (max ⊥) e

/-- The scores less their largest. -/
theorem latent_shifted_at (b : Fin 8) (g h : Fin 4) (r : Fin 4096) (j : Fin 4352) :
    val_main_v33 (F := Ideal) q k (ix5 b g h r j)
      = scores 4352 (by omega) q k b ⟨256 + r.val, by omega⟩ g h j - max ⊥ (rowMax (scores 4352 (by omega) q k b ⟨256 + r.val, by omega⟩ g h)) := by
  have hs := latent_scores_at q k b g h r j
  have hm := latent_largest_at q k b g h r
  unfold val_main_v33 val_main_v32 val_main_v31
  revert hs hm
  generalize val_main_v27 (F := Ideal) q k = s
  generalize val_main_v30 (F := Ideal) q k = M
  intro hs hm
  pointwise
  rw [hs, hm]

theorem latent_weights_at (b : Fin 8) (g h : Fin 4) (r : Fin 4096) (j : Fin 4352) :
    val_main_v38 (F := Ideal) q k (ix5 b g h r j)
      = Ideal.div (Ideal.exp (scores 4352 (by omega) q k b ⟨256 + r.val, by omega⟩ g h j
          - max ⊥ (rowMax (scores 4352 (by omega) q k b ⟨256 + r.val, by omega⟩ g h))))
        (∑ i, Ideal.exp (scores 4352 (by omega) q k b ⟨256 + r.val, by omega⟩ g h i
          - max ⊥ (rowMax (scores 4352 (by omega) q k b ⟨256 + r.val, by omega⟩ g h)))) := by
  have hs := fun j => latent_shifted_at q k b g h r j
  unfold val_main_v38 val_main_v37 val_main_v36 val_main_v35 val_main_v34
  revert hs
  generalize val_main_v33 (F := Ideal) q k = s
  intro hs
  pointwise [val_main_cst_4]
  simp only [hs, zero_add]

theorem latent_at (b : Fin 8) (r : Fin 4096) (g h : Fin 4) (d : Fin 64) :
    val_main_v40 (F := Ideal) q k v (ix5 b r g h d)
      = referenceRow (scores 4352 (by omega) q k b ⟨256 + r.val, by omega⟩ g h) (column 4352 (by omega) v b g d) := by
  have hw := fun j => latent_weights_at q k b g h r j
  have hv := fun j : Fin 4352 => value_at v b ⟨j.val, by omega⟩ g d
  unfold val_main_v40 val_main_v39
  revert hw hv
  generalize val_main_v38 (F := Ideal) q k = w
  generalize val_main_v5 (F := Ideal) v = v'
  intro hw hv
  pointwise
  exact Finset.sum_congr rfl fun j _ => Ideal.mul_congr (hv j) (hw j)

/-! The result: the context's rows, then the latents'. -/

theorem reference_at (b : Fin 8) (t : Fin 4352) (c : Fin 1024) :
    val_main_v43 (F := Ideal) q k v (ix3 b t c)
      = element (fun _ => referenceRow) q k v b t ⟨c.val / 256, by omega⟩ ⟨c.val % 256 / 64, by omega⟩ ⟨c.val % 64, by omega⟩ := by
  have hc := fun (h : t.val < 256) => ctx_at q k v b ⟨t.val, h⟩ ⟨c.val / 256, by omega⟩ ⟨c.val % 256 / 64, by omega⟩ ⟨c.val % 64, by omega⟩
  have hl := fun (h : ¬ t.val < 256) => latent_at q k v b ⟨t.val - 256, by omega⟩ ⟨c.val / 256, by omega⟩ ⟨c.val % 256 / 64, by omega⟩ ⟨c.val % 64, by omega⟩
  unfold val_main_v43 val_main_v42 val_main_v41 val_main_v24
  revert hc hl
  generalize val_main_v40 (F := Ideal) q k v = l
  generalize val_main_v23 (F := Ideal) q k v = x
  intro hc hl
  pointwise
  unfold element
  have hd : c.val / 64 % 4 = c.val % 256 / 64 := by omega
  by_cases ht : t.val < 256
  · refine (dif_pos ht).trans (Eq.trans ?_ (if_pos ht).symm)
    simp only [hd]
    exact hc ht
  · refine (dif_neg ht).trans (Eq.trans ?_ (if_neg ht).symm)
    simp only [hd]
    have e := hl ht
    simp only [show 256 + (t.val - 256) = t.val by omega] at e
    exact e

/-- The reference's result is `result referenceRow` of its arguments. -/
theorem reference_eq : val_main_v43 (F := Ideal) q k v = result (fun _ => referenceRow) q k v := by
  funext i
  rw [eq_ix3 i]
  exact reference_at q k v _ _ _

end Cert.Attn.Reference

end
-- ==== Proof.Attn.Claim.lean ====
/- The attention's claim: on finite queries and keys the kernel's result is the reference's. -/
module

public import proofs.«01_k».proof.Defs
public import proofs.«01_k».proof.Proof.Attn.Array
public import proofs.«01_k».proof.Proof.Attn.Reference
public import proofs.«01_k».proof.Proof.Gen.ReferenceIdeal.Run
public import Idealize.ShloMosaic.Lib.Claim

@[expose] public section

set_option maxRecDepth 16384

noncomputable section

namespace Cert.Attn

open Idealize.ShloMosaic Idealize.ShloMosaic.TcCoe Idealize.SL.Sem

/-- The side conditions of the precondition's operations. -/
theorem preFacts : Cert.Pre_finite_queries_keys.Facts where
  bitsLt_bf16_f32 := by decide
  bcast_S_S8x4352x1024 := by decide
  bcast_S_S8x4x4352x64 := by decide

/-- The word of plus infinity. -/
theorem ofBits_inf : Ideal.ofBits .f32 0x7F800000#32 = ⊤ := by
  rw [show Ideal.ofBits .f32 0x7F800000#32 = Ideal.ieee 8 23 0x7F800000#32 from rfl]
  simp [Ideal.ieee]

/-- An extended real whose absolute value is below infinity is a real number. -/
theorem isReal_of_abs_lt {x : EReal} (h : max x (-x) < ⊤) : IsReal x := by
  induction x using EReal.rec with
  | bot => simp at h
  | top => simp at h
  | coe r => exact ⟨r, rfl⟩

/-- The precondition's comparison, where it holds. -/
theorem isReal_of_test {x : EReal} (h : BitVec.ofBool (decide (max x (-x) < ⊤)) = 1#1) : IsReal x := by
  by_cases hx : max x (-x) < ⊤
  · exact isReal_of_abs_lt hx
  · rw [decide_eq_false hx] at h
    exact absurd h (by decide)

attribute [local instance] preFacts

theorem finite_queries (q : FVec Ideal Rows .bf16) (k v : FVec Ideal Keys .bf16)
    (h : (Cert.Pre_finite_queries_keys.fn (F := Ideal) q k v).1 = fun _ => 1#1) (i : Rows.Idx) : IsReal (q i) := by
  have e := congrFun h i
  unfold Cert.Pre_finite_queries_keys.fn at e
  pointwise [ofBits_inf] at e
  exact isReal_of_test e

theorem finite_keys (q : FVec Ideal Rows .bf16) (k v : FVec Ideal Keys .bf16)
    (h : (Cert.Pre_finite_queries_keys.fn (F := Ideal) q k v).2 = fun _ => 1#1) (i : Keys.Idx) : IsReal (k i) := by
  have e := congrFun h i
  unfold Cert.Pre_finite_queries_keys.fn at e
  pointwise [ofBits_inf] at e
  exact isReal_of_test e

theorem algebraic : Cert.algebraic_KernelIdeal_ReferenceIdeal_pre_finite_queries_keys
    (hKernelIdeal := Cert.KernelIdeal.Gen.facts) (hReferenceIdeal := Cert.ReferenceIdeal.Gen.facts) := by
  intro m g m' g' hpre hagree
  refine ⟨fun c => result (fun _ => referenceRow) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ?_) (Cert.KernelIdeal.Value.run_blocks m g)
    obtain ⟨h0, h1⟩ := h c
    exact ⟨h0.trans ((Array.final m c).trans (result_eq _ _ _ (finite_queries _ _ _ (hpre c).1) (finite_keys _ _ _ (hpre c).2))), h1⟩
  · refine (θ_run _ _ _).mono (fun r h c => ?_) (Cert.ReferenceIdeal.Value.run m' g')
    obtain ⟨h0, h1⟩ := h c
    obtain ⟨e0, e1, e2⟩ := hagree c
    refine ⟨h0.trans ?_, h1⟩
    rw [Cert.ReferenceIdeal.Read.val_main_v43_eq, Reference.reference_eq, e0, e1, e2]

end Cert.Attn

end
-- ==== Proof.Ffn.Row.lean ====
/- The experts' feed-forward, by coordinates: one token's row through its expert's gate, up and down weights. -/
module

public import Idealize.ShloMosaic.Lib.Pointwise
public import Idealize.ShloMosaic.PureOps.Ideal

@[expose] public section

noncomputable section

namespace Cert.Ffn

open Idealize.ShloMosaic

/-- A number times its logistic. -/
def silu (g : EReal) : EReal := g * Ideal.div 1 (1 + Ideal.exp (-g))

/-- Element of a row through the gate, up and down weights. -/
def row (x : Fin 1024 → EReal) (wg wu wd : Fin 1024 → Fin 1024 → EReal) (c : Fin 1024) : EReal :=
  ∑ f, silu (∑ d, x d * wg d f) * (∑ d, x d * wu d f) * wd f c

/-- The tokens, expert by expert. -/
abbrev Tokens : Shape := ⟨3, ![16, 4096, 1024]⟩

/-- A weight, expert by expert. -/
abbrev Weights : Shape := ⟨3, ![16, 1024, 1024]⟩

/-- Every token's row through its own expert's weights. -/
def result (x : FVec Ideal Tokens .bf16) (wg wu wd : FVec Ideal Weights .f32) : FVec Ideal Tokens .bf16 := fun i =>
  row (fun d => x (ix3 (i 0) (i 1) d)) (fun d f => wg (ix3 (i 0) d f)) (fun d f => wu (ix3 (i 0) d f)) (fun d f => wd (ix3 (i 0) d f)) (i 2)

/-- The result at an index whose coordinates are known. -/
theorem result_at (x : FVec Ideal Tokens .bf16) (wg wu wd : FVec Ideal Weights .f32) (i : Tokens.Idx) (e : Fin 16) (r : Fin 4096) (c : Fin 1024)
    (h0 : (i 0).val = e.val) (h1 : (i 1).val = r.val) (h2 : (i 2).val = c.val) :
    result x wg wu wd i = row (fun d => x (ix3 e r d)) (fun d f => wg (ix3 e d f)) (fun d f => wu (ix3 e d f)) (fun d f => wd (ix3 e d f)) c := by
  obtain rfl : i 0 = e := Fin.ext h0
  obtain rfl : i 1 = r := Fin.ext h1
  obtain rfl : i 2 = c := Fin.ext h2
  rfl

end Cert.Ffn

end
-- ==== Proof.Ffn.Block.lean ====
/- What the feed-forward's body stores at a point, by coordinates. -/
module

public import proofs.«01_k».proof.Proof.Gen.Kernel2Ideal.Skeleton
public import proofs.«01_k».proof.Proof.Ffn.Row

@[expose] public section

set_option maxRecDepth 16384

noncomputable section

namespace Cert.Ffn.Block

open Idealize.ShloMosaic Idealize.ShloMosaic.TcCoe Idealize.SL.Sem Cert.Kernel2Ideal Cert.Kernel2Ideal.Gen

/-- The stored block: each token of the tile through the weights. -/
theorem block_at (x : FVec Ideal S1x512x1024 .bf16) (wg wu wd : FVec Ideal S1x1024x1024 .bf16) (r : Fin 512) (c : Fin 1024) :
    k0_pay1 (F := Ideal) x wg wu wd (ix3 0 r c)
      = row (fun d => x (ix3 0 r d)) (fun d f => wg (ix3 0 d f)) (fun d f => wu (ix3 0 d f)) (fun d f => wd (ix3 0 d f)) c := by
  pointwise [k0_pay1]
  simp only [zero_sub]
  rfl

end Cert.Ffn.Block

end
-- ==== Proof.Ffn.Array.lean ====
/- The feed-forward's result array after the run. -/
module

public import proofs.«01_k».proof.Proof.Gen.Kernel2Ideal.Value
public import proofs.«01_k».proof.Proof.Ffn.Block
public import Idealize.ShloMosaic.Lib.Pipeline.ValueKit

@[expose] public section

set_option maxRecDepth 16384

noncomputable section

namespace Cert.Ffn.Array

open Idealize.ShloMosaic Idealize.ShloMosaic.TcCoe Idealize.SL.Sem Cert.Kernel2Ideal Cert.Kernel2Ideal.Gen
open Idealize.ShloMosaic.Pipeline (Dat)

/-- Which block of its array each window holds at a point: the expert and the tile are the point's digits. -/
theorem idx : ∀ t : Fin cfg0.N, win0_0.index t = ![t.val / 8, t.val % 8, 0]
    ∧ win0_1.index t = ![t.val / 8, 0, 0] ∧ win0_2.index t = ![t.val / 8, 0, 0] ∧ win0_3.index t = ![t.val / 8, 0, 0]
    ∧ win0_4.index t = ![t.val / 8, t.val % 8, 0] ∧ t.val < 128 :=
  (by decide +kernel : ∀ t : Fin grid0.N, _)

variable (m : (ℓ : Loc nD τ sig) → Buf (Elt Ideal) ℓ) (c : Dev nD)

/-- The gate weights as the region finds them. -/
theorem gate_found : (V m c main_v0 : FVec Ideal S16x1024x1024 .bf16) = (m ((c : Thread nD τ).loc main_arg1) : FVec Ideal S16x1024x1024 .f32) := by
  unfold_abbrev_sides
  after_results
  rfl

/-- The up weights as the region finds them. -/
theorem up_found : (V m c main_v1 : FVec Ideal S16x1024x1024 .bf16) = (m ((c : Thread nD τ).loc main_arg2) : FVec Ideal S16x1024x1024 .f32) := by
  unfold_abbrev_sides
  after_results
  rfl

/-- The down weights as the region finds them. -/
theorem down_found : (V m c main_v2 : FVec Ideal S16x1024x1024 .bf16) = (m ((c : Thread nD τ).loc main_arg3) : FVec Ideal S16x1024x1024 .f32) := by
  unfold_abbrev_sides
  after_results
  rfl

/-- The token block at a point: the tile's rows of the expert. -/
theorem token_block (t : Fin cfg0.N) (r : Fin 512) (d : Fin 1024) :
    (iblk m c 0 t : FVec Ideal S1x512x1024 .bf16) (ix3 0 r d)
      = (m ((c : Thread nD τ).loc main_arg0) : FVec Ideal S16x4096x1024 .bf16)
        (ix3 ⟨t.val / 8, by have := (idx t).2.2.2.2.2; omega⟩ ⟨t.val % 8 * 512 + r.val, by omega⟩ d) := by
  blk_ext [iblk, V, idx t]

/-- The gate block at a point: the expert's weights. -/
theorem gate_block (t : Fin cfg0.N) (d f : Fin 1024) :
    (iblk m c 1 t : FVec Ideal S1x1024x1024 .bf16) (ix3 0 d f)
      = (m ((c : Thread nD τ).loc main_arg1) : FVec Ideal S16x1024x1024 .f32) (ix3 ⟨t.val / 8, by have := (idx t).2.2.2.2.2; omega⟩ d f) := by
  refine Eq.trans ?_ (congrFun (gate_found m c) _)
  blk_ext [iblk, idx t]

/-- The up block at a point: the expert's weights. -/
theorem up_block (t : Fin cfg0.N) (d f : Fin 1024) :
    (iblk m c 2 t : FVec Ideal S1x1024x1024 .bf16) (ix3 0 d f)
      = (m ((c : Thread nD τ).loc main_arg2) : FVec Ideal S16x1024x1024 .f32) (ix3 ⟨t.val / 8, by have := (idx t).2.2.2.2.2; omega⟩ d f) := by
  refine Eq.trans ?_ (congrFun (up_found m c) _)
  blk_ext [iblk, idx t]

/-- The down block at a point: the expert's weights. -/
theorem down_block (t : Fin cfg0.N) (d f : Fin 1024) :
    (iblk m c 3 t : FVec Ideal S1x1024x1024 .bf16) (ix3 0 d f)
      = (m ((c : Thread nD τ).loc main_arg3) : FVec Ideal S16x1024x1024 .f32) (ix3 ⟨t.val / 8, by have := (idx t).2.2.2.2.2; omega⟩ d f) := by
  refine Eq.trans ?_ (congrFun (down_found m c) _)
  blk_ext [iblk, idx t]

/-- Where row `r`, column `x` of the result block at a point lies in the result. -/
theorem result_block (x : FVec Ideal S16x4096x1024 .bf16) (wg wu wd : FVec Ideal S16x1024x1024 .f32) (t : Fin cfg0.N) (r : Fin 512) (y : Fin 1024) :
    result x wg wu wd (((cfg0.win 4).blk t).view.emb (ix3 0 r y))
      = row (fun d => x (ix3 ⟨t.val / 8, by have := (idx t).2.2.2.2.2; omega⟩ ⟨t.val % 8 * 512 + r.val, by omega⟩ d))
          (fun d f => wg (ix3 ⟨t.val / 8, by have := (idx t).2.2.2.2.2; omega⟩ d f))
          (fun d f => wu (ix3 ⟨t.val / 8, by have := (idx t).2.2.2.2.2; omega⟩ d f))
          (fun d f => wd (ix3 ⟨t.val / 8, by have := (idx t).2.2.2.2.2; omega⟩ d f)) y := by
  refine result_at x wg wu wd _ _ _ _ ?_ ?_ ?_ <;> blk_simp [idx t] <;> dsimp only <;> omega

/-- The result array after the run. -/
theorem final : (dats m 0 c).arrAt 4 cfg0.N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨r, x, rfl⟩ : ∃ (r : Fin 512) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (result_block _ _ _ _ t r x).symm
  blk_simp
  rw [after0_4]
  unfold out0_4
  frame_out
  refine (Block.block_at _ _ _ _ r x).trans ?_
  simp only [row, token_block, gate_block, up_block, down_block]

end Cert.Ffn.Array

end
-- ==== Proof.Ffn.Reference.lean ====
/- The feed-forward's reference, read operation by operation. -/
module

public import proofs.«01_k».proof.Proof.Gen.Reference2Ideal.Read
public import proofs.«01_k».proof.Proof.Ffn.Row
public import Idealize.ShloMosaic.Lib.Pipeline.ValueKit

@[expose] public section

set_option maxRecDepth 16384

noncomputable section

namespace Cert.Ffn.Reference

open Idealize.ShloMosaic Idealize.ShloMosaic.TcCoe Idealize.SL.Sem Cert.Reference2Ideal Cert.Reference2Ideal.Read

variable (x : FVec Ideal S16x4096x1024 .bf16) (wg wu wd : FVec Ideal S16x1024x1024 .f32)

theorem gate_at (e : Fin 16) (r : Fin 4096) (f : Fin 1024) :
    val_main_v1 (F := Ideal) x wg (ix3 e r f) = ∑ d, x (ix3 e r d) * wg (ix3 e d f) := by
  unfold val_main_v1 val_main_v0
  pointwise

theorem up_at (e : Fin 16) (r : Fin 4096) (f : Fin 1024) :
    val_main_v3 (F := Ideal) x wu (ix3 e r f) = ∑ d, x (ix3 e r d) * wu (ix3 e d f) := by
  unfold val_main_v3 val_main_v0
  pointwise

theorem hidden_at (e : Fin 16) (r : Fin 4096) (f : Fin 1024) :
    val_main_v4 (F := Ideal) x wg wu (ix3 e r f)
      = silu (∑ d, x (ix3 e r d) * wg (ix3 e d f)) * ∑ d, x (ix3 e r d) * wu (ix3 e d f) := by
  have hg := gate_at x wg e r f
  have hu := up_at x wu e r f
  unfold val_main_v4 val_main_v2 val_main_call0_v5 val_main_call0_v3 val_main_call0_v1 val_main_call0_v0
  revert hg hu
  generalize val_main_v1 (F := Ideal) x wg = g
  generalize val_main_v3 (F := Ideal) x wu = u
  intro hg hu
  pointwise [val_main_call0_v4, val_main_call0_v2, val_main_call0_cst, val_main_call0_cst_0]
  rw [hg, hu]
  rfl

theorem reference_at (e : Fin 16) (r : Fin 4096) (c : Fin 1024) :
    val_main_v6 (F := Ideal) x wg wu wd (ix3 e r c)
      = row (fun d => x (ix3 e r d)) (fun d f => wg (ix3 e d f)) (fun d f => wu (ix3 e d f)) (fun d f => wd (ix3 e d f)) c := by
  have hh := hidden_at x wg wu e r
  unfold val_main_v6 val_main_v5
  revert hh
  generalize val_main_v4 (F := Ideal) x wg wu = h
  intro hh
  pointwise
  exact Finset.sum_congr rfl fun f _ => Ideal.mul_congr (hh f) rfl

/-- The reference's result is `result` of its arguments. -/
theorem reference_eq : val_main_v6 (F := Ideal) x wg wu wd = result x wg wu wd := by
  funext i
  rw [eq_ix3 i]
  exact reference_at x wg wu wd _ _ _

end Cert.Ffn.Reference

end
-- ==== Proof.Ffn.Claim.lean ====
/- The feed-forward's claim: the kernel's result is the reference's. -/
module

public import proofs.«01_k».proof.Defs
public import proofs.«01_k».proof.Proof.Ffn.Array
public import proofs.«01_k».proof.Proof.Ffn.Reference
public import proofs.«01_k».proof.Proof.Gen.Reference2Ideal.Run
public import Idealize.ShloMosaic.Lib.Claim

@[expose] public section

set_option maxRecDepth 16384

noncomputable section

namespace Cert.Ffn

open Idealize.ShloMosaic Idealize.ShloMosaic.TcCoe Idealize.SL.Sem

theorem algebraic : Cert.algebraic_Kernel2Ideal_Reference2Ideal
    (hKernel2Ideal := Cert.Kernel2Ideal.Gen.facts) (hReference2Ideal := Cert.Reference2Ideal.Gen.facts) := by
  intro m g m' g' _ hagree
  refine ⟨fun c => result (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)), ?_, ?_⟩
  · refine (θ_run _ _ _).mono (fun r h c => ?_) (Cert.Kernel2Ideal.Value.run_blocks m g)
    obtain ⟨h0, h1⟩ := h c
    exact ⟨h0.trans (Array.final m c), h1⟩
  · refine (θ_run _ _ _).mono (fun r h c => ?_) (Cert.Reference2Ideal.Value.run m' g')
    obtain ⟨h0, h1⟩ := h c
    obtain ⟨e0, e1, e2, e3⟩ := hagree c
    refine ⟨h0.trans ?_, h1⟩
    rw [Cert.Reference2Ideal.Read.val_main_v6_eq, Reference.reference_eq, e0, e1, e2, e3]

end Cert.Ffn

end
-- ==== Proof.Proj.Row.lean ====
/- The input projection of one token, by coordinates: the modulated norm, the projections, and the head norm with its
   rotation, the last two written for a head's 64 columns and for a group of 128 lanes holding two heads. -/
module

public import proofs.«01_k».proof.Proof.Attn.Softmax

@[expose] public section

noncomputable section

namespace Cert.Proj

open Idealize.ShloMosaic Cert.Attn

/-- The logistic function. -/
def logistic (x : EReal) : EReal := Ideal.div 1 (1 + Ideal.exp (-x))

/-- A token's row, divided by its root mean square, times the gain, scaled and shifted. -/
def hidden (x sh sc g : Fin 1024 → EReal) (d : Fin 1024) : EReal :=
  x d * Ideal.rsqrt (Ideal.div (∑ k, x k * x k) (Ideal.ofBits .f32 0x44800000#32) + Ideal.ofBits .f32 0x358637BD#32) * g d * (1 + sc d) + sh d

/-- A column of the projection. -/
def proj (h w : Fin 1024 → EReal) : EReal := ∑ d, h d * w d

/-- A head's columns, divided by their root mean square, times the gain. -/
def headNorm (n g : Fin 64 → EReal) (j : Fin 64) : EReal :=
  n j * Ideal.rsqrt (Ideal.div (∑ k, n k * n k) (Ideal.ofBits .f32 0x42800000#32) + Ideal.ofBits .f32 0x358637BD#32) * g j

/-- Columns `2i`, `2i + 1` rotated by the angle `i`. -/
def turn (v : Fin 64 → EReal) (c s : Fin 32 → EReal) (j : Fin 64) : EReal :=
  if h : j.val % 2 = 0 then v j * c ⟨j.val / 2, by omega⟩ - v ⟨j.val + 1, by omega⟩ * s ⟨j.val / 2, by omega⟩
  else v ⟨j.val - 1, by omega⟩ * s ⟨j.val / 2, by omega⟩ + v j * c ⟨j.val / 2, by omega⟩

/-- Two heads' lanes, normalized: the sum of the squares over a lane's head is taken by a product with `gm`, of the
    squares and of what rounding them left. -/
def lanesNorm (y gain : Fin 128 → EReal) (gm : Fin 128 → Fin 128 → EReal) (l : Fin 128) : EReal :=
  y l * Ideal.rsqrt (((∑ e, y e * y e * gm e l) + ∑ e, (y e * y e - y e * y e) * gm e l) * Ideal.ofBits .f32 0x3C800000#32
    + Ideal.ofBits .f32 0x358637BD#32) * gain l

/-- Two heads' lanes, rotated: each lane times the cosine plus its neighbour times the signed sine, then scaled. -/
def lanesTurn (v c s : Fin 128 → EReal) (k : EReal) (l : Fin 128) : EReal :=
  (v l * c l + (if l.val % 2 = 0 then v ⟨(l.val + 128 - 127) % 128, by omega⟩ else v ⟨(l.val + 128 - 1) % 128, by omega⟩) * s l) * k

theorem ofBits_1024 : Ideal.ofBits .f32 0x44800000#32 = ((1024 : ℝ) : EReal) := by
  rw [show Ideal.ofBits .f32 0x44800000#32 = Ideal.ieee 8 23 0x44800000#32 from rfl]
  simp [Ideal.ieee]
  rw [← EReal.coe_mul]
  norm_num

theorem ofBits_64 : Ideal.ofBits .f32 0x42800000#32 = ((64 : ℝ) : EReal) := by
  rw [show Ideal.ofBits .f32 0x42800000#32 = Ideal.ieee 8 23 0x42800000#32 from rfl]
  simp [Ideal.ieee]
  rw [← EReal.coe_mul]
  norm_num

theorem ofBits_inv64 : Ideal.ofBits .f32 0x3C800000#32 = ((1 / 64 : ℝ) : EReal) := by
  rw [show Ideal.ofBits .f32 0x3C800000#32 = Ideal.ieee 8 23 0x3C800000#32 from rfl]
  simp [Ideal.ieee]
  rw [← EReal.coe_mul]
  norm_num

theorem ofBits_eps : ∃ r : ℝ, 0 < r ∧ Ideal.ofBits .f32 0x358637BD#32 = (r : EReal) := by
  rw [show Ideal.ofBits .f32 0x358637BD#32 = Ideal.ieee 8 23 0x358637BD#32 from rfl]
  simp [Ideal.ieee]
  refine ⟨_, ?_, rfl⟩
  positivity

theorem IsReal.add {x y : EReal} (hx : IsReal x) (hy : IsReal y) : IsReal (x + y) := by
  obtain ⟨a, rfl⟩ := hx; obtain ⟨b, rfl⟩ := hy
  exact ⟨a + b, (EReal.coe_add a b).symm⟩

theorem isReal_one : IsReal 1 := ⟨1, by simp⟩

/-- A finite row's modulated norm is finite. -/
theorem isReal_hidden {x sh sc g : Fin 1024 → EReal} (hx : ∀ d, IsReal (x d)) (hsh : ∀ d, IsReal (sh d)) (hsc : ∀ d, IsReal (sc d))
    (hg : ∀ d, IsReal (g d)) (d : Fin 1024) : IsReal (hidden x sh sc g d) := by
  choose f hf using hx
  obtain ⟨e, he, hE⟩ := ofBits_eps
  have hr : IsReal (Ideal.rsqrt (Ideal.div (∑ k, x k * x k) (Ideal.ofBits .f32 0x44800000#32) + Ideal.ofBits .f32 0x358637BD#32)) := by
    have hs : ∑ k, x k * x k = ((∑ k, f k * f k : ℝ) : EReal) := by
      rw [← coe_sum]
      exact Finset.sum_congr rfl fun k _ => by rw [hf k, EReal.coe_mul]
    have hp : (0 : ℝ) < (∑ k, f k * f k) * (1 / 1024) + e := by
      have : (0 : ℝ) ≤ ∑ k, f k * f k := Finset.sum_nonneg fun k _ => mul_self_nonneg _
      positivity
    rw [hs, hE, ofBits_1024, Ideal.div_coe (by norm_num), ← EReal.coe_mul, ← EReal.coe_add, Ideal.rsqrt_coe,
      if_neg (not_lt.mpr hp.le), if_neg hp.ne']
    exact ⟨_, rfl⟩
  unfold hidden
  exact IsReal.add (((IsReal.mul ⟨f d, hf d⟩ hr).mul (hg d)).mul (IsReal.add isReal_one (hsc d))) (hsh d)

theorem isReal_proj {h w : Fin 1024 → EReal} (hh : ∀ d, IsReal (h d)) (hw : ∀ d, IsReal (w d)) : IsReal (proj h w) :=
  isReal_sum fun d => (hh d).mul (hw d)

/-- A sum over the lanes of one head among the 128. -/
theorem sum_head (f : Fin 128 → EReal) (l : Fin 128) :
    ∑ e : Fin 128, f e * (if e.val / 64 = l.val / 64 then 1 else 0) = ∑ k : Fin 64, f ⟨l.val / 64 * 64 + k.val, by omega⟩ := by
  simp only [mul_ite, mul_one, mul_zero]
  rw [← Finset.sum_filter]
  refine Finset.sum_bij' (fun e _ => (⟨e.val % 64, by omega⟩ : Fin 64)) (fun k _ => (⟨l.val / 64 * 64 + k.val, by omega⟩ : Fin 128)) ?_ ?_ ?_ ?_ ?_
  · intro e _; exact Finset.mem_univ _
  · intro k _
    refine Finset.mem_filter.mpr ⟨Finset.mem_univ _, ?_⟩
    show (l.val / 64 * 64 + k.val) / 64 = l.val / 64
    omega
  · intro e he
    have h := (Finset.mem_filter.mp he).2
    refine Fin.ext ?_
    show l.val / 64 * 64 + e.val % 64 = e.val
    omega
  · intro k _
    refine Fin.ext ?_
    show (l.val / 64 * 64 + k.val) % 64 = k.val
    omega
  · intro e he
    have h := (Finset.mem_filter.mp he).2
    refine congrArg f (Fin.ext ?_)
    show e.val = l.val / 64 * 64 + e.val % 64
    omega

/-- On finite lanes, with `gm` telling which lanes share a head, the lanes' norm is the head's. -/
theorem lanesNorm_eq {y gain : Fin 128 → EReal} {gm : Fin 128 → Fin 128 → EReal} (hy : ∀ e, IsReal (y e))
    (hgm : ∀ e l : Fin 128, gm e l = if e.val / 64 = l.val / 64 then 1 else 0) (l : Fin 128) :
    lanesNorm y gain gm l = headNorm (fun k => y ⟨l.val / 64 * 64 + k.val, by omega⟩) (fun k => gain ⟨l.val / 64 * 64 + k.val, by omega⟩)
      ⟨l.val % 64, by omega⟩ := by
  have hz : ∑ e, (y e * y e - y e * y e) * gm e l = 0 := by
    refine Finset.sum_eq_zero fun e _ => ?_
    obtain ⟨a, ha⟩ := hy e
    rw [ha, ← EReal.coe_mul, ← EReal.coe_sub, sub_self, EReal.coe_zero, zero_mul]
  have hs : ∑ e, y e * y e * gm e l = ∑ k : Fin 64, y ⟨l.val / 64 * 64 + k.val, by omega⟩ * y ⟨l.val / 64 * 64 + k.val, by omega⟩ := by
    rw [← sum_head (fun e => y e * y e) l]
    exact Finset.sum_congr rfl fun e _ => by rw [hgm e l]
  have hl : (⟨l.val / 64 * 64 + l.val % 64, by omega⟩ : Fin 128) = l := Fin.ext (by show l.val / 64 * 64 + l.val % 64 = l.val; omega)
  unfold lanesNorm headNorm
  rw [hz, hs, add_zero, ofBits_inv64, ofBits_64, Ideal.div_coe (by norm_num)]
  simp only [hl]

/-- With the tables of a head's rotation in both heads' lanes, the lanes' rotation is the head's. -/
theorem lanesTurn_eq (v c s : Fin 128 → EReal) (k : EReal) (C S : Fin 32 → EReal)
    (hc : ∀ l : Fin 128, c l = C ⟨l.val % 64 / 2, by omega⟩)
    (hs : ∀ l : Fin 128, s l = S ⟨l.val % 64 / 2, by omega⟩ * (if l.val % 2 = 0 then -1 else 1)) (l : Fin 128) :
    lanesTurn v c s k l = turn (fun j => v ⟨l.val / 64 * 64 + j.val, by omega⟩) C S ⟨l.val % 64, by omega⟩ * k := by
  have hl : (⟨l.val / 64 * 64 + l.val % 64, by omega⟩ : Fin 128) = l := Fin.ext (by show l.val / 64 * 64 + l.val % 64 = l.val; omega)
  unfold lanesTurn turn
  rw [hc l, hs l]
  by_cases h : l.val % 2 = 0
  · have h' : l.val % 64 % 2 = 0 := by omega
    rw [if_pos h, if_pos h, dif_pos (show (⟨l.val % 64, by omega⟩ : Fin 64).val % 2 = 0 from h')]
    have e : (⟨(l.val + 128 - 127) % 128, by omega⟩ : Fin 128) = ⟨l.val / 64 * 64 + (l.val % 64 + 1), by omega⟩ :=
      Fin.ext (by show (l.val + 128 - 127) % 128 = l.val / 64 * 64 + (l.val % 64 + 1); omega)
    simp only [hl, e, mul_neg, mul_one, sub_eq_add_neg]
  · have h' : ¬ l.val % 64 % 2 = 0 := by omega
    rw [if_neg h, if_neg h, dif_neg (show ¬ (⟨l.val % 64, by omega⟩ : Fin 64).val % 2 = 0 from h')]
    have e : (⟨(l.val + 128 - 1) % 128, by omega⟩ : Fin 128) = ⟨l.val / 64 * 64 + (l.val % 64 - 1), by omega⟩ :=
      Fin.ext (by show (l.val + 128 - 1) % 128 = l.val / 64 * 64 + (l.val % 64 - 1); omega)
    simp only [hl, e, mul_one]
    rw [add_comm]

/-- With cosine one and sine zero the rotation leaves the lanes. -/
theorem lanesTurn_still (v c s : Fin 128 → EReal) (k : EReal) (hc : ∀ l, c l = 1) (hs : ∀ l, s l = 0) (l : Fin 128) :
    lanesTurn v c s k l = v l * k := by
  unfold lanesTurn
  rw [hc, hs, mul_one, mul_zero, add_zero]

end Cert.Proj

end
-- ==== Proof.Proj.Tables.lean ====
/- The tables the host code prepares for the input projection, as the region finds them. -/
module

public import proofs.«01_k».proof.Proof.Gen.Kernel3Ideal.Frame
public import proofs.«01_k».proof.Proof.Gen.Reference3Ideal.Read
public import proofs.«01_k».proof.Proof.Proj.Row
public import Idealize.ShloMosaic.Lib.Pipeline.ValueKit

@[expose] public section

set_option maxRecDepth 16384

noncomputable section

namespace Cert.Proj.Array

open Idealize.ShloMosaic Idealize.ShloMosaic.TcCoe Idealize.SL.Sem Cert.Kernel3Ideal Cert.Kernel3Ideal.Gen
open Idealize.ShloMosaic.Pipeline (Dat)

/-- The cosines: a row of ones for each context token, each angle of a latent token twice, twice over. -/
def cosTable (C : FVec Ideal S4096x32 .f32) : FVec Ideal S4352x128 .f32 :=
  shapeCast S4352x128 (broadcastInDim S1x4352x2x64 ![0, 1, 2, 3] bcast_S1x4352x1x64_S1x4352x2x64_0_1_2_3
    (shapeCast S1x4352x1x64 (concatenate S4352x64 0
      [⟨S256x64, broadcastInDim S256x64 ![] bcast_S_S256x64 (constant (F := Ideal) S_ .f32 0x3F800000#32)⟩,
       ⟨S4096x64, shapeCast S4096x64 (broadcastInDim S4096x32x2 ![0, 1] bcast_S4096x32_S4096x32x2_0_1 C) shapeCasts_S4096x32x2_S4096x64⟩]
      concatenates_S256x64_S4096x64_S4352x64_d0) shapeCasts_S4352x64_S1x4352x1x64)) shapeCasts_S1x4352x2x64_S4352x128

/-- The alternating signs, one row per latent token. -/
def signTable : FVec Ideal S4096x64 .f32 :=
  broadcastInDim S4096x64 ![0, 1] bcast_S1x64_S4096x64_0_1 (broadcastInDim S1x64 ![1] bcast_S64_S1x64_1
    (shapeCast S64 (broadcastInDim S32x2 ![0, 1] bcast_S1x2_S32x2_0_1
      (shapeCast S1x2 (fun i => FloatOps.ofBits (F := Ideal) .f32 (lit0 (S2.rowMajor i)) : FVec Ideal S2 .f32) shapeCasts_S2_S1x2)) shapeCasts_S32x2_S64))

/-- The sines with their signs: zeros for each context token. -/
def sinTable (S : FVec Ideal S4096x32 .f32) : FVec Ideal S4352x128 .f32 :=
  shapeCast S4352x128 (broadcastInDim S1x4352x2x64 ![0, 1, 2, 3] bcast_S1x4352x1x64_S1x4352x2x64_0_1_2_3
    (shapeCast S1x4352x1x64 (concatenate S4352x64 0
      [⟨S256x64, broadcastInDim S256x64 ![] bcast_S_S256x64 (constant (F := Ideal) S_ .f32 0x00000000#32)⟩,
       ⟨S4096x64, mulf (shapeCast S4096x64 (broadcastInDim S4096x32x2 ![0, 1] bcast_S4096x32_S4096x32x2_0_1 S) shapeCasts_S4096x32x2_S4096x64) signTable⟩]
      concatenates_S256x64_S4096x64_S4352x64_d0) shapeCasts_S4352x64_S1x4352x1x64)) shapeCasts_S1x4352x2x64_S4352x128

/-- A head's gain in both heads' lanes. -/
def gainTable (g : FVec Ideal S64 .f32) : FVec Ideal S1x128 .f32 :=
  broadcastInDim S1x128 ![1] bcast_S128_S1x128_1 (shapeCast S128 (broadcastInDim S2x64 ![0, 1] bcast_S1x64_S2x64_0_1
    (shapeCast S1x64 g shapeCasts_S64_S1x64)) shapeCasts_S2x64_S128)

theorem cosTable_at (C : FVec Ideal S4096x32 .f32) (t : Fin 4352) (l : Fin 128) :
    cosTable C (ix2 t l) = if h : t.val < 256 then 1 else C (ix2 ⟨t.val - 256, by omega⟩ ⟨l.val % 64 / 2, by omega⟩) := by
  unfold cosTable
  pointwise

theorem signTable_at (t : Fin 4096) (j : Fin 64) : signTable (ix2 t j) = if j.val % 2 = 0 then -1 else 1 := by
  unfold signTable
  pointwise
  have h0 : ∀ k : Fin 2, lit0 (S2.rowMajor (ix1 k)) = if k.val = 0 then 0xBF800000#32 else 0x3F800000#32 := by decide +kernel
  rw [h0]
  split_ifs with h
  · rw [show Ideal.ofBits .f32 0xBF800000#32 = Ideal.ieee 8 23 0xBF800000#32 from rfl]
    simp [Ideal.ieee]
    rw [← EReal.coe_mul]
    norm_num
  · rw [show Ideal.ofBits .f32 0x3F800000#32 = Ideal.ieee 8 23 0x3F800000#32 from rfl]
    simp [Ideal.ieee]
    rw [← EReal.coe_mul]
    norm_num

theorem sinTable_at (S : FVec Ideal S4096x32 .f32) (t : Fin 4352) (l : Fin 128) :
    sinTable S (ix2 t l) = if h : t.val < 256 then 0
      else S (ix2 ⟨t.val - 256, by omega⟩ ⟨l.val % 64 / 2, by omega⟩) * (if l.val % 2 = 0 then -1 else 1) := by
  have hs := signTable_at
  unfold sinTable
  revert hs
  generalize signTable = G
  intro hs
  pointwise
  have e : l.val % 64 % 2 = l.val % 2 := by omega
  simp only [hs, e]

theorem gainTable_at (g : FVec Ideal S64 .f32) (l : Fin 128) : gainTable g (ix2 0 l) = g (ix1 ⟨l.val % 64, by omega⟩) := by
  unfold gainTable
  pointwise

variable (m : (ℓ : Loc nD τ sig) → Buf (Elt Ideal) ℓ) (c : Dev nD)

theorem cos_found : (V m c main_v48 : FVec Ideal S4352x128 .f32) = cosTable (Cert.Reference3Ideal.Read.val_main_v30 (F := Ideal)) := by
  unfold_abbrev_sides
  simp only [hostOps0, hostOps0_1, hostOps0_2, hostOps0_3, hostOps0_4, List.flatten_cons, List.flatten_nil, List.append_nil, List.cons_append, List.nil_append]
  after_results
  rfl

theorem sin_found : (V m c main_v51 : FVec Ideal S4352x128 .f32) = sinTable (Cert.Reference3Ideal.Read.val_main_v31 (F := Ideal)) := by
  unfold_abbrev_sides
  simp only [hostOps0, hostOps0_1, hostOps0_2, hostOps0_3, hostOps0_4, List.flatten_cons, List.flatten_nil, List.append_nil, List.cons_append, List.nil_append]
  after_results
  rfl

theorem qgain_found : (V m c main_v66 : FVec Ideal S1x128 .f32) = gainTable (m ((c : Thread nD τ).loc main_arg4)) := by
  unfold_abbrev_sides
  simp only [hostOps0, hostOps0_1, hostOps0_2, hostOps0_3, hostOps0_4, List.flatten_cons, List.flatten_nil, List.append_nil, List.cons_append, List.nil_append]
  after_results
  rfl

theorem kgain_found : (V m c main_v70 : FVec Ideal S1x128 .f32) = gainTable (m ((c : Thread nD τ).loc main_arg5)) := by
  unfold_abbrev_sides
  simp only [hostOps0, hostOps0_1, hostOps0_2, hostOps0_3, hostOps0_4, List.flatten_cons, List.flatten_nil, List.append_nil, List.cons_append, List.nil_append]
  after_results
  rfl

theorem norm_found : (V m c main_v61 : FVec Ideal S1x1024 .f32) = broadcastInDim S1x1024 ![1] bcast_S1024_S1x1024_1 (m ((c : Thread nD τ).loc main_arg2) : FVec Ideal S1024 .f32) := by
  unfold_abbrev_sides
  simp only [hostOps0, hostOps0_1, hostOps0_2, hostOps0_3, hostOps0_4, List.flatten_cons, List.flatten_nil, List.append_nil, List.cons_append, List.nil_append]
  after_results

theorem weight_found : (V m c main_v62 : FVec Ideal S1024x12800 .bf16) = (m ((c : Thread nD τ).loc main_arg3) : FVec Ideal S1024x12800 .f32) := by
  unfold_abbrev_sides
  simp only [hostOps0, hostOps0_1, hostOps0_2, hostOps0_3, hostOps0_4, List.flatten_cons, List.flatten_nil, List.append_nil, List.cons_append, List.nil_append]
  after_results
  rfl

/-- The lanes' heads, down the rows. -/
theorem rowHead_found (e : Fin 128) : (V m c main_v54 : IVec S128x1 32) (ix2 e 0) = BitVec.ofNat 32 (e.val / 64) := by
  unfold_abbrev_sides
  simp only [hostOps0, hostOps0_1, hostOps0_2, hostOps0_3, hostOps0_4, List.flatten_cons, List.flatten_nil, List.append_nil, List.cons_append, List.nil_append]
  after_results
  revert e
  decide +kernel

/-- The lanes' heads, along the columns. -/
theorem colHead_found (l : Fin 128) : (V m c main_v56 : IVec S1x128 32) (ix2 0 l) = BitVec.ofNat 32 (l.val / 64) := by
  unfold_abbrev_sides
  simp only [hostOps0, hostOps0_1, hostOps0_2, hostOps0_3, hostOps0_4, List.flatten_cons, List.flatten_nil, List.append_nil, List.cons_append, List.nil_append]
  after_results
  revert l
  decide +kernel

theorem same_found : (V m c main_v60 : FVec Ideal S128x128 .bf16)
    = uitofp (F := Ideal) .bf16 (cmpi .eq (broadcastInDim S128x128 ![0, 1] bcast_S128x1_S128x128_0_1 (V m c main_v54 : IVec S128x1 32))
        (broadcastInDim S128x128 ![0, 1] bcast_S1x128_S128x128_0_1 (V m c main_v56 : IVec S1x128 32))) := by
  unfold_abbrev_sides
  simp only [hostOps0, hostOps0_1, hostOps0_2, hostOps0_3, hostOps0_4, List.flatten_cons, List.flatten_nil, List.append_nil, List.cons_append, List.nil_append]
  after_results
  rfl

/-- Which lanes share a head. -/
theorem same_found_at (e l : Fin 128) : (V m c main_v60 : FVec Ideal S128x128 .bf16) (ix2 e l) = if e.val / 64 = l.val / 64 then (1 : EReal) else (0 : EReal) := by
  have hr := rowHead_found m c e
  have hc := colHead_found m c l
  refine (congrFun (same_found m c) _).trans ?_
  revert hr hc
  generalize (V m c main_v54 : IVec S128x1 32) = R
  generalize (V m c main_v56 : IVec S1x128 32) = Q
  intro hr hc
  pointwise
  rw [hr, hc]
  have he : e.val / 64 = 0 ∨ e.val / 64 = 1 := by omega
  have hl : l.val / 64 = 0 ∨ l.val / 64 = 1 := by omega
  rcases he with he | he <;> rcases hl with hl | hl <;> rw [he, hl] <;> simp [FloatOps.uitofp, IntOp.cmpi]

end Cert.Proj.Array

end
-- ==== Proof.Proj.Spec.lean ====
/- The input projection's results as functions of its arguments: a token's modulated norm, its projection, and what each
   mixer takes of it. -/
module

public import proofs.«01_k».proof.Proof.Gen.Kernel3Ideal
public import proofs.«01_k».proof.Proof.Proj.Row

@[expose] public section

set_option maxRecDepth 16384

noncomputable section

namespace Cert.Proj

open Idealize.ShloMosaic Cert.Kernel3Ideal Cert.Attn

variable (xc : FVec Ideal S8x4352x1024 .f32) (mod : FVec Ideal S9x1x6144 .f32) (g : FVec Ideal S1024 .f32) (w : FVec Ideal S1024x12800 .f32)
  (qg kg : FVec Ideal S64 .f32) (C S : FVec Ideal S4096x32 .f32)

/-- The modulation row of a token: the last for the context, its batch's for the latents. -/
def modRow (b : Fin 8) (t : Fin 4352) : Fin 9 := ⟨if t.val < 256 then 8 else b.val, by split_ifs <;> omega⟩

/-- A token's modulated norm. -/
def hid (b : Fin 8) (t : Fin 4352) : Fin 1024 → EReal :=
  hidden (fun d => xc (ix3 b t d)) (fun d => mod (ix3 (modRow b t) 0 ⟨d.val, by omega⟩)) (fun d => mod (ix3 (modRow b t) 0 ⟨1024 + d.val, by omega⟩)) (fun d => g (ix1 d))

/-- A column of a token's projection. -/
def col (b : Fin 8) (t : Fin 4352) (x : Fin 12800) : EReal := proj (hid xc mod g b t) (fun d => w (ix2 d x))

/-- The first mixer's queries. -/
def first (b : Fin 8) (t : Fin 4352) (x : Fin 1024) : EReal := col xc mod g w b t ⟨x.val, by omega⟩

/-- The 1024 columns from `o` on. -/
def part (o : ℕ) (ho : o ≤ 11776) (b : Fin 8) (t : Fin 4352) (x : Fin 1024) : EReal := col xc mod g w b t ⟨o + x.val, by omega⟩

/-- The gate of the first mixer: columns times their logistic. -/
def gated (b : Fin 8) (t : Fin 4352) (x : Fin 1024) : EReal :=
  col xc mod g w b t ⟨4096 + x.val, by omega⟩ * logistic (col xc mod g w b t ⟨4096 + x.val, by omega⟩)

/-- The second mixer's input: a product of columns. -/
def inner (b : Fin 8) (t : Fin 4352) (x : Fin 1024) : EReal :=
  col xc mod g w b t ⟨6144 + x.val, by omega⟩ * col xc mod g w b t ⟨7168 + x.val, by omega⟩

/-- The merge's gates: the logistic of the 1024 columns from `o` on. -/
def gate (o : ℕ) (ho : o ≤ 11776) (b : Fin 8) (t : Fin 4352) (x : Fin 1024) : EReal := logistic (col xc mod g w b t ⟨o + x.val, by omega⟩)

/-- A head's columns: normalized, and on a latent token rotated. -/
def head (n gain : Fin 64 → EReal) (t : Fin 4352) (j : Fin 64) : EReal :=
  if h : t.val < 256 then headNorm n gain j
  else turn (headNorm n gain) (fun p => C (ix2 ⟨t.val - 256, by omega⟩ p)) (fun p => S (ix2 ⟨t.val - 256, by omega⟩ p)) j

/-- The attention's queries, scaled. -/
def query (b : Fin 8) (t : Fin 4352) (x : Fin 1024) : EReal :=
  head C S (fun j => col xc mod g w b t ⟨8192 + (x.val / 64 * 64 + j.val), by omega⟩) (fun j => qg (ix1 j)) t ⟨x.val % 64, by omega⟩
    * Ideal.ofBits .f32 0x3E000000#32

/-- The attention's keys. -/
def key (b : Fin 8) (a : Fin 4) (t : Fin 4352) (d : Fin 64) : EReal :=
  head C S (fun j => col xc mod g w b t ⟨9216 + (a.val * 64 + j.val), by omega⟩) (fun j => kg (ix1 j)) t d

/-- The attention's values. -/
def value (b : Fin 8) (a : Fin 4) (t : Fin 4352) (d : Fin 64) : EReal := col xc mod g w b t ⟨9472 + (a.val * 64 + d.val), by omega⟩

/-- An array over the tokens' columns. -/
def full (f : Fin 8 → Fin 4352 → Fin 1024 → EReal) : S8x4352x1024.Idx → EReal := fun i => f (i 0) (i 1) (i 2)

/-- An array over the heads' columns. -/
def split (f : Fin 8 → Fin 4 → Fin 4352 → Fin 64 → EReal) : S8x4x4352x64.Idx → EReal := fun i => f (i 0) (i 1) (i 2) (i 3)

theorem full_at (f : Fin 8 → Fin 4352 → Fin 1024 → EReal) (i : S8x4352x1024.Idx) (b : Fin 8) (t : Fin 4352) (x : Fin 1024)
    (h0 : (i 0).val = b.val) (h1 : (i 1).val = t.val) (h2 : (i 2).val = x.val) : full f i = f b t x := by
  have e0 : i 0 = b := Fin.ext h0
  have e1 : i 1 = t := Fin.ext h1
  have e2 : i 2 = x := Fin.ext h2
  unfold full
  rw [e0, e1, e2]

theorem split_at (f : Fin 8 → Fin 4 → Fin 4352 → Fin 64 → EReal) (i : S8x4x4352x64.Idx) (b : Fin 8) (a : Fin 4) (t : Fin 4352) (d : Fin 64)
    (h0 : (i 0).val = b.val) (h1 : (i 1).val = a.val) (h2 : (i 2).val = t.val) (h3 : (i 3).val = d.val) : split f i = f b a t d := by
  have e0 : i 0 = b := Fin.ext h0
  have e1 : i 1 = a := Fin.ext h1
  have e2 : i 2 = t := Fin.ext h2
  have e3 : i 3 = d := Fin.ext h3
  unfold split
  rw [e0, e1, e2, e3]

end Cert.Proj

end
-- ==== Proof.Proj.Group.lean ====
/- A group of 128 lanes of the query or key projection through the head norm and the rotation, as the body computes it. -/
module

public import proofs.«01_k».proof.Proof.Gen.Kernel3Ideal.Skeleton
public import proofs.«01_k».proof.Proof.Proj.Row

@[expose] public section

set_option maxRecDepth 16384

noncomputable section

namespace Cert.Proj.Block

open Idealize.ShloMosaic Idealize.ShloMosaic.TcCoe Idealize.SL.Sem Cert.Kernel3Ideal Cert.Kernel3Ideal.Gen

/-- The mask of the even lanes, as the queries' groups take it. -/
theorem even_at (r : Fin 256) (l : Fin 128) :
    k0_pay15 (iota .tc S256x128 32 [1] iota_S256x128_d1_w32) 2#32 0#32 (ix2 r l) = BitVec.ofBool (decide (l.val % 2 = 0)) := by
  pointwise [k0_pay15]
  revert l
  decide +kernel

/-- The mask of the even lanes, as the keys' groups take it. -/
theorem even_at' (r : Fin 256) (l : Fin 128) :
    k0_pay34 (iota .tc S256x128 32 [1] iota_S256x128_d1_w32) 2#32 (ix2 r l) = BitVec.ofBool (decide (l.val % 2 = 0)) := by
  pointwise [k0_pay34]
  revert l
  decide +kernel

variable (cs sn : FVec Ideal S256x128 .f32) (gm : FVec Ideal S128x128 .bf16) (gain : FVec Ideal S1x128 .f32) (ev : IVec S256x128 1)

/-- A group of the queries. -/
theorem group_at (y : FVec Ideal S256x128 .f32) (r : Fin 256) (l : Fin 128) (he : ev (ix2 r l) = BitVec.ofBool (decide (l.val % 2 = 0))) :
    k0_pay24 (F := Ideal) cs sn gm gain ev y (ix2 r l)
      = lanesTurn (lanesNorm (fun e => y (ix2 r e)) (fun e => gain (ix2 0 e)) (fun e k => gm (ix2 e k))) (fun e => cs (ix2 r e)) (fun e => sn (ix2 r e))
          (Ideal.ofBits .f32 0x3E000000#32) l := by
  pointwise [k0_pay24]
  by_cases h : l.val % 2 = 0
  · rw [he, decide_eq_true h]
    unfold lanesTurn
    rw [if_pos h]
    rfl
  · rw [he, decide_eq_false h]
    unfold lanesTurn
    rw [if_neg h]
    rfl

/-- The first group of the keys. -/
theorem key_group0_at (k : FVec Ideal S256x256 .f32) (r : Fin 256) (l : Fin 128) :
    k0_pay35 (F := Ideal) cs sn gm k gain (iota .tc S256x128 32 [1] iota_S256x128_d1_w32) 2#32 (ix2 r l)
      = lanesTurn (lanesNorm (fun e => k (ix2 r ⟨e.val, by omega⟩)) (fun e => gain (ix2 0 e)) (fun e k => gm (ix2 e k)))
          (fun e => cs (ix2 r e)) (fun e => sn (ix2 r e)) 1 l := by
  have he := even_at' r l
  unfold k0_pay35
  revert he
  generalize k0_pay34 (iota .tc S256x128 32 [1] iota_S256x128_d1_w32) 2#32 = ev
  intro he
  pointwise
  by_cases h : l.val % 2 = 0
  · rw [he, decide_eq_true h]
    unfold lanesTurn
    rw [if_pos h, mul_one]
    rfl
  · rw [he, decide_eq_false h]
    unfold lanesTurn
    rw [if_neg h, mul_one]
    rfl

/-- The keys' two groups side by side. -/
theorem keys_at (k : FVec Ideal S256x256 .f32) (r : Fin 256) (x : Fin 256) (he : ∀ l : Fin 128, ev (ix2 r l) = BitVec.ofBool (decide (l.val % 2 = 0))) :
    k0_pay40 (F := Ideal) cs sn gm gain ev (k0_pay35 cs sn gm k gain (iota .tc S256x128 32 [1] iota_S256x128_d1_w32) 2#32)
        (k0_pay36 k) (k0_pay37 k) (k0_pay38 k) (k0_pay39 k) (ix2 r x)
      = lanesTurn (lanesNorm (fun e => k (ix2 r ⟨x.val / 128 * 128 + e.val, by omega⟩)) (fun e => gain (ix2 0 e)) (fun e k => gm (ix2 e k)))
          (fun e => cs (ix2 r e)) (fun e => sn (ix2 r e)) 1 ⟨x.val % 128, by omega⟩ := by
  have h0 := key_group0_at cs sn gm gain k r
  revert h0
  generalize k0_pay35 (F := Ideal) cs sn gm k gain (iota .tc S256x128 32 [1] iota_S256x128_d1_w32) 2#32 = p
  intro h0
  by_cases hx : x.val < 128
  · obtain ⟨l, rfl⟩ : ∃ l : Fin 128, x = ⟨l.val, l.isLt.trans (by decide)⟩ := ⟨⟨x.val, hx⟩, rfl⟩
    have e0 : l.val / 128 = 0 := by omega
    have e1 : l.val % 128 = l.val := by omega
    simp only [e0, e1, zero_mul, zero_add]
    refine Eq.trans ?_ (h0 l)
    pointwise [k0_pay40, k0_pay36, k0_pay37, k0_pay38, k0_pay39]
  · obtain ⟨l, rfl⟩ : ∃ l : Fin 128, x = ⟨128 + l.val, Nat.add_lt_add_left l.isLt 128⟩ := ⟨⟨x.val - 128, by omega⟩, Fin.ext (by show x.val = 128 + (x.val - 128); omega)⟩
    have e0 : (128 + l.val) / 128 = 1 := by omega
    have e1 : (128 + l.val) % 128 = l.val := by omega
    have he := he l
    simp only [e0, e1, one_mul]
    pointwise [k0_pay40, k0_pay36, k0_pay37, k0_pay38, k0_pay39]
    by_cases h : l.val % 2 = 0
    · rw [he, decide_eq_true h]
      unfold lanesTurn
      rw [if_pos h, mul_one]
      rfl
    · rw [he, decide_eq_false h]
      unfold lanesTurn
      rw [if_neg h, mul_one]
      rfl

/-- Eight groups side by side. -/
theorem glue_at (p0 p1 p2 p3 p4 p5 p6 p7 : FVec Ideal S256x128 .f32) (f : Fin 1024 → EReal) (r : Fin 256) (x : Fin 1024)
    (h0 : ∀ l : Fin 128, p0 (ix2 r l) = f ⟨0 + l.val, by omega⟩) (h1 : ∀ l : Fin 128, p1 (ix2 r l) = f ⟨128 + l.val, by omega⟩)
    (h2 : ∀ l : Fin 128, p2 (ix2 r l) = f ⟨256 + l.val, by omega⟩) (h3 : ∀ l : Fin 128, p3 (ix2 r l) = f ⟨384 + l.val, by omega⟩)
    (h4 : ∀ l : Fin 128, p4 (ix2 r l) = f ⟨512 + l.val, by omega⟩) (h5 : ∀ l : Fin 128, p5 (ix2 r l) = f ⟨640 + l.val, by omega⟩)
    (h6 : ∀ l : Fin 128, p6 (ix2 r l) = f ⟨768 + l.val, by omega⟩) (h7 : ∀ l : Fin 128, p7 (ix2 r l) = f ⟨896 + l.val, by omega⟩) :
    concatenate S256x1024 1 [⟨S256x128, p0⟩, ⟨S256x128, p1⟩, ⟨S256x128, p2⟩, ⟨S256x128, p3⟩, ⟨S256x128, p4⟩, ⟨S256x128, p5⟩, ⟨S256x128, p6⟩, ⟨S256x128, p7⟩]
      concatenates_S256x128_S256x128_S256x128_S256x128_S256x128_S256x128_S256x128_S256x128_S256x1024_d1 (ix2 r x) = f x := by
  pointwise
  split_ifs <;> first | rw [h0] | rw [h1] | rw [h2] | rw [h3] | rw [h4] | rw [h5] | rw [h6] | rw [h7]
  all_goals exact congrArg f (Fin.ext (by dsimp only; omega))

end Cert.Proj.Block

end
-- ==== Proof.Proj.Block.lean ====
/- What the input projection's body leaves in its result blocks, by coordinates. -/
module

public import proofs.«01_k».proof.Proof.Gen.Kernel3Ideal.Frame
public import proofs.«01_k».proof.Proof.Proj.Group
public import Idealize.ShloMosaic.Lib.Pipeline.ValueKit

@[expose] public section

set_option maxRecDepth 16384

noncomputable section

namespace Cert.Proj.Block

open Idealize.ShloMosaic Idealize.ShloMosaic.TcCoe Idealize.SL.Sem Cert.Kernel3Ideal Cert.Kernel3Ideal.Gen

variable (x0 : FVec Ideal S1x256x1024 .f32) (x1 : FVec Ideal S1x1x6144 .f32) (x2 : FVec Ideal S1x1024 .f32) (x3 : FVec Ideal S1024x12800 .bf16)
  (x4 x5 : FVec Ideal S256x128 .f32) (x6 x7 : FVec Ideal S1x128 .f32) (x8 : FVec Ideal S128x128 .bf16)

/-- A token's modulated norm, from the blocks. -/
def hrow (r : Fin 256) : Fin 1024 → EReal :=
  hidden (fun d => x0 (ix3 0 r d)) (fun d => x1 (ix3 0 0 ⟨d.val, by omega⟩)) (fun d => x1 (ix3 0 0 ⟨1024 + d.val, by omega⟩)) (fun d => x2 (ix2 0 d))

theorem hidden_at (r : Fin 256) (d : Fin 1024) : k0_pay1 (F := Ideal) x0 x1 x2 (ix2 r d) = hrow x0 x1 x2 r d := by
  pointwise [k0_pay1]
  rfl

/-- A column of a token's projection, from the blocks. -/
def pcol (r : Fin 256) (x : Fin 12800) : EReal := proj (hrow x0 x1 x2 r) (fun d => x3 (ix2 d x))

/-- A product of the normed rows with a column, under its sum. -/
theorem sum_hidden {h : FVec Ideal S256x1024 .bf16} {r : Fin 256} (hh : ∀ d : Fin 1024, h (ix2 r d) = hrow x0 x1 x2 r d) (x : Fin 12800) :
    ∑ d, h (ix2 r d) * x3 (ix2 d x) = pcol x0 x1 x2 x3 r x := by
  simp only [hh]
  rfl

/-- The first mixer's queries. -/
theorem out9_at (r : Fin 256) (x : Fin 1024) :
    out0_9 (F := Ideal) x0 x1 x2 x3 x4 x5 x6 x7 x8 (ix3 0 r x) = pcol x0 x1 x2 x3 r ⟨x.val, by omega⟩ := by
  have hh := hidden_at x0 x1 x2 r
  unfold_out out0_9
  frame_out
  unfold k0_pay2
  revert hh
  generalize k0_pay1 (F := Ideal) x0 x1 x2 = h
  intro hh
  pointwise
  exact sum_hidden x0 x1 x2 x3 hh _

/-- The first mixer's forward gates, before their logistic. -/
theorem out10_at (r : Fin 256) (x : Fin 1024) :
    out0_10 (F := Ideal) x0 x1 x2 x3 x4 x5 x6 x7 x8 (ix3 0 r x) = pcol x0 x1 x2 x3 r ⟨1024 + x.val, by omega⟩ := by
  have hh := hidden_at x0 x1 x2 r
  unfold_out out0_10
  frame_out
  unfold k0_pay3 k0_pay4
  revert hh
  generalize k0_pay1 (F := Ideal) x0 x1 x2 = h
  intro hh
  pointwise
  exact sum_hidden x0 x1 x2 x3 hh _

/-- The first mixer's backward gates, before their logistic. -/
theorem out11_at (r : Fin 256) (x : Fin 1024) :
    out0_11 (F := Ideal) x0 x1 x2 x3 x4 x5 x6 x7 x8 (ix3 0 r x) = pcol x0 x1 x2 x3 r ⟨2048 + x.val, by omega⟩ := by
  have hh := hidden_at x0 x1 x2 r
  unfold_out out0_11
  frame_out
  unfold k0_pay5
  revert hh
  generalize k0_pay1 (F := Ideal) x0 x1 x2 = h
  intro hh
  pointwise
  exact sum_hidden x0 x1 x2 x3 hh _

/-- The first mixer's inputs. -/
theorem out12_at (r : Fin 256) (x : Fin 1024) :
    out0_12 (F := Ideal) x0 x1 x2 x3 x4 x5 x6 x7 x8 (ix3 0 r x) = pcol x0 x1 x2 x3 r ⟨3072 + x.val, by omega⟩ := by
  have hh := hidden_at x0 x1 x2 r
  unfold_out out0_12
  frame_out
  unfold k0_pay6
  revert hh
  generalize k0_pay1 (F := Ideal) x0 x1 x2 = h
  intro hh
  pointwise
  exact sum_hidden x0 x1 x2 x3 hh _

/-- The convolution's output gate. -/
theorem out14_at (r : Fin 256) (x : Fin 1024) :
    out0_14 (F := Ideal) x0 x1 x2 x3 x4 x5 x6 x7 x8 (ix3 0 r x) = pcol x0 x1 x2 x3 r ⟨5120 + x.val, by omega⟩ := by
  have hh := hidden_at x0 x1 x2 r
  unfold_out out0_14
  frame_out
  unfold k0_pay8
  revert hh
  generalize k0_pay1 (F := Ideal) x0 x1 x2 = h
  intro hh
  pointwise
  exact sum_hidden x0 x1 x2 x3 hh _

/-- The first mixer's output gate. -/
theorem out13_at (r : Fin 256) (x : Fin 1024) :
    out0_13 (F := Ideal) x0 x1 x2 x3 x4 x5 x6 x7 x8 (ix3 0 r x)
      = pcol x0 x1 x2 x3 r ⟨4096 + x.val, by omega⟩ * logistic (pcol x0 x1 x2 x3 r ⟨4096 + x.val, by omega⟩) := by
  have hh := hidden_at x0 x1 x2 r
  unfold_out out0_13
  frame_out
  unfold k0_pay7
  revert hh
  generalize k0_pay1 (F := Ideal) x0 x1 x2 = h
  intro hh
  pointwise
  simp only [zero_sub]
  exact congrArg (fun t : EReal => t * logistic t) (sum_hidden x0 x1 x2 x3 hh _)

/-- The convolution's input, gated. -/
theorem out15_at (r : Fin 256) (x : Fin 1024) :
    out0_15 (F := Ideal) x0 x1 x2 x3 x4 x5 x6 x7 x8 (ix3 0 r x)
      = pcol x0 x1 x2 x3 r ⟨6144 + x.val, by omega⟩ * pcol x0 x1 x2 x3 r ⟨7168 + x.val, by omega⟩ := by
  have hh := hidden_at x0 x1 x2 r
  unfold_out out0_15
  frame_out
  unfold k0_pay9
  revert hh
  generalize k0_pay1 (F := Ideal) x0 x1 x2 = h
  intro hh
  pointwise
  exact congrArg₂ (fun a b : EReal => a * b) (sum_hidden x0 x1 x2 x3 hh _) (sum_hidden x0 x1 x2 x3 hh _)

/-- The first mixer's gate. -/
theorem out19_at (r : Fin 256) (x : Fin 1024) :
    out0_19 (F := Ideal) x0 x1 x2 x3 x4 x5 x6 x7 x8 (ix3 0 r x) = logistic (pcol x0 x1 x2 x3 r ⟨9728 + x.val, by omega⟩) := by
  have hh := hidden_at x0 x1 x2 r
  unfold_out out0_19
  frame_out
  unfold k0_pay51 k0_pay52
  revert hh
  generalize k0_pay1 (F := Ideal) x0 x1 x2 = h
  intro hh
  pointwise [k0_pay51]
  simp only [zero_sub]
  exact congrArg logistic (sum_hidden x0 x1 x2 x3 hh _)

/-- The second mixer's gate. -/
theorem out20_at (r : Fin 256) (x : Fin 1024) :
    out0_20 (F := Ideal) x0 x1 x2 x3 x4 x5 x6 x7 x8 (ix3 0 r x) = logistic (pcol x0 x1 x2 x3 r ⟨10752 + x.val, by omega⟩) := by
  have hh := hidden_at x0 x1 x2 r
  unfold_out out0_20
  frame_out
  unfold k0_pay53
  revert hh
  generalize k0_pay1 (F := Ideal) x0 x1 x2 = h
  intro hh
  pointwise
  simp only [zero_sub]
  exact congrArg logistic (sum_hidden x0 x1 x2 x3 hh _)

/-- The third mixer's gate. -/
theorem out21_at (r : Fin 256) (x : Fin 1024) :
    out0_21 (F := Ideal) x0 x1 x2 x3 x4 x5 x6 x7 x8 (ix3 0 r x) = logistic (pcol x0 x1 x2 x3 r ⟨11776 + x.val, by omega⟩) := by
  have hh := hidden_at x0 x1 x2 r
  unfold_out out0_21
  frame_out
  unfold k0_pay54
  revert hh
  generalize k0_pay1 (F := Ideal) x0 x1 x2 = h
  intro hh
  pointwise
  simp only [zero_sub]
  exact congrArg logistic (sum_hidden x0 x1 x2 x3 hh _)

end Cert.Proj.Block

end
-- ==== Proof.Proj.Heads.lean ====
/- What the input projection's body leaves in the blocks of the queries, keys and values, by coordinates. -/
module

public import proofs.«01_k».proof.Proof.Proj.Block
public import Idealize.ShloMosaic.Lib.Pipeline.ValueKit

@[expose] public section

set_option maxRecDepth 16384

noncomputable section

namespace Cert.Proj.Block

open Idealize.ShloMosaic Idealize.ShloMosaic.TcCoe Idealize.SL.Sem Cert.Kernel3Ideal Cert.Kernel3Ideal.Gen

section Queries

variable (cs sn : FVec Ideal S256x128 .f32) (gm : FVec Ideal S128x128 .bf16) (gain : FVec Ideal S1x128 .f32) (q : FVec Ideal S256x1024 .f32)

/-- The even lanes' mask. -/
abbrev evenLanes : IVec S256x128 1 := k0_pay15 (iota .tc S256x128 32 [1] iota_S256x128_d1_w32) 2#32 0#32

/-- A query column's head norm and rotation, from a tile of the projection. -/
def turned (r : Fin 256) (x : Fin 1024) : EReal :=
  lanesTurn (lanesNorm (fun e => q (ix2 r ⟨x.val / 128 * 128 + e.val, by omega⟩)) (fun e => gain (ix2 0 e)) (fun e k => gm (ix2 e k)))
    (fun e => cs (ix2 r e)) (fun e => sn (ix2 r e)) (Ideal.ofBits .f32 0x3E000000#32) ⟨x.val % 128, by omega⟩

theorem group_0 (r : Fin 256) (l : Fin 128) :
    k0_pay24 (F := Ideal) cs sn gm gain evenLanes (extractStridedSlice S256x128 ![0, 0] q slices_S256x1024_o0_0_S256x128) (ix2 r l)
      = turned cs sn gm gain q r ⟨0 + l.val, by omega⟩ := by
  have hs : ∀ e : Fin 128, extractStridedSlice S256x128 ![0, 0] q slices_S256x1024_o0_0_S256x128 (ix2 r e) = q (ix2 r ⟨0 + e.val, by omega⟩) := by
    intro e
    pointwise
  have e0 : (0 + l.val) / 128 * 128 = 0 := by omega
  have e1 : (0 + l.val) % 128 = l.val := by omega
  refine (group_at cs sn gm gain evenLanes _ r l (even_at r l)).trans ?_
  unfold turned
  simp only [hs, e0, e1]

theorem group_128 (r : Fin 256) (l : Fin 128) :
    k0_pay24 (F := Ideal) cs sn gm gain evenLanes (extractStridedSlice S256x128 ![0, 128] q slices_S256x1024_o0_128_S256x128) (ix2 r l)
      = turned cs sn gm gain q r ⟨128 + l.val, by omega⟩ := by
  have hs : ∀ e : Fin 128, extractStridedSlice S256x128 ![0, 128] q slices_S256x1024_o0_128_S256x128 (ix2 r e) = q (ix2 r ⟨128 + e.val, by omega⟩) := by
    intro e
    pointwise
  have e0 : (128 + l.val) / 128 * 128 = 128 := by omega
  have e1 : (128 + l.val) % 128 = l.val := by omega
  refine (group_at cs sn gm gain evenLanes _ r l (even_at r l)).trans ?_
  unfold turned
  simp only [hs, e0, e1]

theorem group_256 (r : Fin 256) (l : Fin 128) :
    k0_pay24 (F := Ideal) cs sn gm gain evenLanes (extractStridedSlice S256x128 ![0, 256] q slices_S256x1024_o0_256_S256x128) (ix2 r l)
      = turned cs sn gm gain q r ⟨256 + l.val, by omega⟩ := by
  have hs : ∀ e : Fin 128, extractStridedSlice S256x128 ![0, 256] q slices_S256x1024_o0_256_S256x128 (ix2 r e) = q (ix2 r ⟨256 + e.val, by omega⟩) := by
    intro e
    pointwise
  have e0 : (256 + l.val) / 128 * 128 = 256 := by omega
  have e1 : (256 + l.val) % 128 = l.val := by omega
  refine (group_at cs sn gm gain evenLanes _ r l (even_at r l)).trans ?_
  unfold turned
  simp only [hs, e0, e1]

theorem group_384 (r : Fin 256) (l : Fin 128) :
    k0_pay24 (F := Ideal) cs sn gm gain evenLanes (extractStridedSlice S256x128 ![0, 384] q slices_S256x1024_o0_384_S256x128) (ix2 r l)
      = turned cs sn gm gain q r ⟨384 + l.val, by omega⟩ := by
  have hs : ∀ e : Fin 128, extractStridedSlice S256x128 ![0, 384] q slices_S256x1024_o0_384_S256x128 (ix2 r e) = q (ix2 r ⟨384 + e.val, by omega⟩) := by
    intro e
    pointwise
  have e0 : (384 + l.val) / 128 * 128 = 384 := by omega
  have e1 : (384 + l.val) % 128 = l.val := by omega
  refine (group_at cs sn gm gain evenLanes _ r l (even_at r l)).trans ?_
  unfold turned
  simp only [hs, e0, e1]

theorem group_512 (r : Fin 256) (l : Fin 128) :
    k0_pay24 (F := Ideal) cs sn gm gain evenLanes (extractStridedSlice S256x128 ![0, 512] q slices_S256x1024_o0_512_S256x128) (ix2 r l)
      = turned cs sn gm gain q r ⟨512 + l.val, by omega⟩ := by
  have hs : ∀ e : Fin 128, extractStridedSlice S256x128 ![0, 512] q slices_S256x1024_o0_512_S256x128 (ix2 r e) = q (ix2 r ⟨512 + e.val, by omega⟩) := by
    intro e
    pointwise
  have e0 : (512 + l.val) / 128 * 128 = 512 := by omega
  have e1 : (512 + l.val) % 128 = l.val := by omega
  refine (group_at cs sn gm gain evenLanes _ r l (even_at r l)).trans ?_
  unfold turned
  simp only [hs, e0, e1]

theorem group_640 (r : Fin 256) (l : Fin 128) :
    k0_pay24 (F := Ideal) cs sn gm gain evenLanes (extractStridedSlice S256x128 ![0, 640] q slices_S256x1024_o0_640_S256x128) (ix2 r l)
      = turned cs sn gm gain q r ⟨640 + l.val, by omega⟩ := by
  have hs : ∀ e : Fin 128, extractStridedSlice S256x128 ![0, 640] q slices_S256x1024_o0_640_S256x128 (ix2 r e) = q (ix2 r ⟨640 + e.val, by omega⟩) := by
    intro e
    pointwise
  have e0 : (640 + l.val) / 128 * 128 = 640 := by omega
  have e1 : (640 + l.val) % 128 = l.val := by omega
  refine (group_at cs sn gm gain evenLanes _ r l (even_at r l)).trans ?_
  unfold turned
  simp only [hs, e0, e1]

theorem group_768 (r : Fin 256) (l : Fin 128) :
    k0_pay24 (F := Ideal) cs sn gm gain evenLanes (extractStridedSlice S256x128 ![0, 768] q slices_S256x1024_o0_768_S256x128) (ix2 r l)
      = turned cs sn gm gain q r ⟨768 + l.val, by omega⟩ := by
  have hs : ∀ e : Fin 128, extractStridedSlice S256x128 ![0, 768] q slices_S256x1024_o0_768_S256x128 (ix2 r e) = q (ix2 r ⟨768 + e.val, by omega⟩) := by
    intro e
    pointwise
  have e0 : (768 + l.val) / 128 * 128 = 768 := by omega
  have e1 : (768 + l.val) % 128 = l.val := by omega
  refine (group_at cs sn gm gain evenLanes _ r l (even_at r l)).trans ?_
  unfold turned
  simp only [hs, e0, e1]

theorem group_896 (r : Fin 256) (l : Fin 128) :
    k0_pay24 (F := Ideal) cs sn gm gain evenLanes (extractStridedSlice S256x128 ![0, 896] q slices_S256x1024_o0_896_S256x128) (ix2 r l)
      = turned cs sn gm gain q r ⟨896 + l.val, by omega⟩ := by
  have hs : ∀ e : Fin 128, extractStridedSlice S256x128 ![0, 896] q slices_S256x1024_o0_896_S256x128 (ix2 r e) = q (ix2 r ⟨896 + e.val, by omega⟩) := by
    intro e
    pointwise
  have e0 : (896 + l.val) / 128 * 128 = 896 := by omega
  have e1 : (896 + l.val) % 128 = l.val := by omega
  refine (group_at cs sn gm gain evenLanes _ r l (even_at r l)).trans ?_
  unfold turned
  simp only [hs, e0, e1]

/-- The stored queries are the eight groups side by side. -/
theorem queries_eq :
    k0_pay31 (F := Ideal) cs sn gm q gain evenLanes (k0_pay16 cs sn gm q gain (iota .tc S256x128 32 [1] iota_S256x128_d1_w32) 2#32 0#32)
        (k0_pay21 cs sn gm gain evenLanes (k0_pay17 q) (k0_pay19 q) (k0_pay20 q)) (k0_pay22 cs sn gm q gain evenLanes)
        (k0_pay24 cs sn gm gain evenLanes (k0_pay23 q)) (k0_pay26 (k0_pay25 cs sn gm q gain evenLanes)) (k0_pay27 cs sn gm q gain evenLanes)
        (k0_pay28 gm q gain) (k0_pay29 gm q gain) (k0_pay30 gm q gain)
      = shapeCast S1x256x1024 (truncf (F := Ideal) .bf16 (concatenate S256x1024 1 [
        ⟨S256x128, (k0_pay24 (F := Ideal) cs sn gm gain evenLanes (extractStridedSlice S256x128 ![0, 0] q slices_S256x1024_o0_0_S256x128))⟩,
        ⟨S256x128, (k0_pay24 (F := Ideal) cs sn gm gain evenLanes (extractStridedSlice S256x128 ![0, 128] q slices_S256x1024_o0_128_S256x128))⟩,
        ⟨S256x128, (k0_pay24 (F := Ideal) cs sn gm gain evenLanes (extractStridedSlice S256x128 ![0, 256] q slices_S256x1024_o0_256_S256x128))⟩,
        ⟨S256x128, (k0_pay24 (F := Ideal) cs sn gm gain evenLanes (extractStridedSlice S256x128 ![0, 384] q slices_S256x1024_o0_384_S256x128))⟩,
        ⟨S256x128, (k0_pay24 (F := Ideal) cs sn gm gain evenLanes (extractStridedSlice S256x128 ![0, 512] q slices_S256x1024_o0_512_S256x128))⟩,
        ⟨S256x128, (k0_pay24 (F := Ideal) cs sn gm gain evenLanes (extractStridedSlice S256x128 ![0, 640] q slices_S256x1024_o0_640_S256x128))⟩,
        ⟨S256x128, (k0_pay24 (F := Ideal) cs sn gm gain evenLanes (extractStridedSlice S256x128 ![0, 768] q slices_S256x1024_o0_768_S256x128))⟩,
        ⟨S256x128, (k0_pay24 (F := Ideal) cs sn gm gain evenLanes (extractStridedSlice S256x128 ![0, 896] q slices_S256x1024_o0_896_S256x128))⟩]
        concatenates_S256x128_S256x128_S256x128_S256x128_S256x128_S256x128_S256x128_S256x128_S256x1024_d1) bitsLt_bf16_f32) shapeCasts_S256x1024_S1x256x1024 := rfl

/-- The stored queries, by coordinates. -/
theorem queries_at (r : Fin 256) (x : Fin 1024) :
    k0_pay31 (F := Ideal) cs sn gm q gain evenLanes (k0_pay16 cs sn gm q gain (iota .tc S256x128 32 [1] iota_S256x128_d1_w32) 2#32 0#32)
        (k0_pay21 cs sn gm gain evenLanes (k0_pay17 q) (k0_pay19 q) (k0_pay20 q)) (k0_pay22 cs sn gm q gain evenLanes)
        (k0_pay24 cs sn gm gain evenLanes (k0_pay23 q)) (k0_pay26 (k0_pay25 cs sn gm q gain evenLanes)) (k0_pay27 cs sn gm q gain evenLanes)
        (k0_pay28 gm q gain) (k0_pay29 gm q gain) (k0_pay30 gm q gain) (ix3 0 r x)
      = turned cs sn gm gain q r x := by
  refine (congrFun (queries_eq cs sn gm gain q) _).trans ?_
  have h0 := group_0 cs sn gm gain q r
  revert h0
  generalize (k0_pay24 (F := Ideal) cs sn gm gain evenLanes (extractStridedSlice S256x128 ![0, 0] q slices_S256x1024_o0_0_S256x128)) = p0
  intro h0
  have h1 := group_128 cs sn gm gain q r
  revert h1
  generalize (k0_pay24 (F := Ideal) cs sn gm gain evenLanes (extractStridedSlice S256x128 ![0, 128] q slices_S256x1024_o0_128_S256x128)) = p1
  intro h1
  have h2 := group_256 cs sn gm gain q r
  revert h2
  generalize (k0_pay24 (F := Ideal) cs sn gm gain evenLanes (extractStridedSlice S256x128 ![0, 256] q slices_S256x1024_o0_256_S256x128)) = p2
  intro h2
  have h3 := group_384 cs sn gm gain q r
  revert h3
  generalize (k0_pay24 (F := Ideal) cs sn gm gain evenLanes (extractStridedSlice S256x128 ![0, 384] q slices_S256x1024_o0_384_S256x128)) = p3
  intro h3
  have h4 := group_512 cs sn gm gain q r
  revert h4
  generalize (k0_pay24 (F := Ideal) cs sn gm gain evenLanes (extractStridedSlice S256x128 ![0, 512] q slices_S256x1024_o0_512_S256x128)) = p4
  intro h4
  have h5 := group_640 cs sn gm gain q r
  revert h5
  generalize (k0_pay24 (F := Ideal) cs sn gm gain evenLanes (extractStridedSlice S256x128 ![0, 640] q slices_S256x1024_o0_640_S256x128)) = p5
  intro h5
  have h6 := group_768 cs sn gm gain q r
  revert h6
  generalize (k0_pay24 (F := Ideal) cs sn gm gain evenLanes (extractStridedSlice S256x128 ![0, 768] q slices_S256x1024_o0_768_S256x128)) = p6
  intro h6
  have h7 := group_896 cs sn gm gain q r
  revert h7
  generalize (k0_pay24 (F := Ideal) cs sn gm gain evenLanes (extractStridedSlice S256x128 ![0, 896] q slices_S256x1024_o0_896_S256x128)) = p7
  intro h7
  refine Eq.trans ?_ (glue_at p0 p1 p2 p3 p4 p5 p6 p7 (turned cs sn gm gain q r) r x h0 h1 h2 h3 h4 h5 h6 h7)
  pointwise

end Queries

variable (x0 : FVec Ideal S1x256x1024 .f32) (x1 : FVec Ideal S1x1x6144 .f32) (x2 : FVec Ideal S1x1024 .f32) (x3 : FVec Ideal S1024x12800 .bf16)
  (x4 x5 : FVec Ideal S256x128 .f32) (x6 x7 : FVec Ideal S1x128 .f32) (x8 : FVec Ideal S128x128 .bf16)

theorem normed_at (r : Fin 256) (d : Fin 1024) : k0_pay55 (F := Ideal) x0 x1 x2 x3 x4 x5 x6 x7 x8 (ix2 r d) = hrow x0 x1 x2 r d := by
  unfold k0_pay55
  pointwise [k0_pay1]
  rfl

theorem cos_at (r : Fin 256) (l : Fin 128) : k0_pay57 (F := Ideal) x0 x1 x2 x3 x4 x5 x6 x7 x8 (ix2 r l) = x4 (ix2 r l) := by
  unfold k0_pay57
  pointwise [k0_pay10]

theorem sin_at (r : Fin 256) (l : Fin 128) : k0_pay58 (F := Ideal) x0 x1 x2 x3 x4 x5 x6 x7 x8 (ix2 r l) = x5 (ix2 r l) := by
  unfold k0_pay58
  pointwise [k0_pay11]

theorem same_at (e l : Fin 128) : k0_pay59 (F := Ideal) x0 x1 x2 x3 x4 x5 x6 x7 x8 (ix2 e l) = x8 (ix2 e l) := by
  unfold k0_pay59
  pointwise [k0_pay12]

theorem qgain_at (l : Fin 128) : k0_pay61 (F := Ideal) x0 x1 x2 x3 x4 x5 x6 x7 x8 (ix2 0 l) = x6 (ix2 0 l) := by
  unfold k0_pay61
  pointwise [k0_pay14]

theorem kgain_at (l : Fin 128) : k0_pay65 (F := Ideal) x0 x1 x2 x3 x4 x5 x6 x7 x8 (ix2 0 l) = x7 (ix2 0 l) := by
  unfold k0_pay65
  pointwise [k0_pay33]

theorem qproj_at (r : Fin 256) (x : Fin 1024) :
    k0_pay60 (F := Ideal) x0 x1 x2 x3 x4 x5 x6 x7 x8 (ix2 r x) = pcol x0 x1 x2 x3 r ⟨8192 + x.val, by omega⟩ := by
  have hh := normed_at x0 x1 x2 x3 x4 x5 x6 x7 x8 r
  unfold k0_pay60 k0_pay13
  revert hh
  generalize k0_pay55 (F := Ideal) x0 x1 x2 x3 x4 x5 x6 x7 x8 = h
  intro hh
  pointwise
  exact sum_hidden x0 x1 x2 x3 hh _

theorem kproj_at (r : Fin 256) (x : Fin 256) :
    k0_pay64 (F := Ideal) x0 x1 x2 x3 x4 x5 x6 x7 x8 (ix2 r x) = pcol x0 x1 x2 x3 r ⟨9216 + x.val, by omega⟩ := by
  have hh := normed_at x0 x1 x2 x3 x4 x5 x6 x7 x8 r
  unfold k0_pay64 k0_pay32
  revert hh
  generalize k0_pay55 (F := Ideal) x0 x1 x2 x3 x4 x5 x6 x7 x8 = h
  intro hh
  pointwise
  exact sum_hidden x0 x1 x2 x3 hh _

theorem vproj_at (r : Fin 256) (x : Fin 256) :
    k0_pay73 (F := Ideal) x0 x1 x2 x3 x4 x5 x6 x7 x8 (ix2 r x) = pcol x0 x1 x2 x3 r ⟨9472 + x.val, by omega⟩ := by
  have hh := normed_at x0 x1 x2 x3 x4 x5 x6 x7 x8 r
  unfold k0_pay73 k0_pay41
  revert hh
  generalize k0_pay55 (F := Ideal) x0 x1 x2 x3 x4 x5 x6 x7 x8 = h
  intro hh
  pointwise
  exact sum_hidden x0 x1 x2 x3 hh _

/-- A query column's head norm and rotation, from the blocks. -/
def qrow (r : Fin 256) (x : Fin 1024) : EReal :=
  lanesTurn (lanesNorm (fun e => pcol x0 x1 x2 x3 r ⟨8192 + (x.val / 128 * 128 + e.val), by omega⟩) (fun e => x6 (ix2 0 e)) (fun e k => x8 (ix2 e k)))
    (fun e => x4 (ix2 r e)) (fun e => x5 (ix2 r e)) (Ideal.ofBits .f32 0x3E000000#32) ⟨x.val % 128, by omega⟩

/-- The queries. -/
theorem out16_at (r : Fin 256) (x : Fin 1024) :
    out0_16 (F := Ideal) x0 x1 x2 x3 x4 x5 x6 x7 x8 (ix3 0 r x) = qrow x0 x1 x2 x3 x4 x5 x6 x8 r x := by
  unfold out0_16
  frame_out
  refine (queries_at _ _ _ _ _ r x).trans ?_
  unfold turned qrow
  simp only [cos_at, sin_at, same_at, qgain_at, qproj_at]

/-- A key column's head norm and rotation, from the blocks. -/
def krow (r : Fin 256) (x : Fin 256) : EReal :=
  lanesTurn (lanesNorm (fun e => pcol x0 x1 x2 x3 r ⟨9216 + (x.val / 128 * 128 + e.val), by omega⟩) (fun e => x7 (ix2 0 e)) (fun e k => x8 (ix2 e k)))
    (fun e => x4 (ix2 r e)) (fun e => x5 (ix2 r e)) 1 ⟨x.val % 128, by omega⟩

theorem keyTile_at (r : Fin 256) (x : Fin 256) :
    k0_pay72 (F := Ideal) x0 x1 x2 x3 x4 x5 x6 x7 x8 (ix2 r x) = krow x0 x1 x2 x3 x4 x5 x7 x8 r x := by
  refine (keys_at _ _ _ _ _ (k0_pay64 (F := Ideal) x0 x1 x2 x3 x4 x5 x6 x7 x8) r x (even_at' r)).trans ?_
  unfold krow
  simp only [cos_at, sin_at, same_at, kgain_at, kproj_at]

/-- The values, one head's 64 columns after another. -/
theorem out18_at (a : Fin 4) (r : Fin 256) (d : Fin 64) :
    out0_18 (F := Ideal) x0 x1 x2 x3 x4 x5 x6 x7 x8 (ix4 0 a r d) = pcol x0 x1 x2 x3 r ⟨9472 + (a.val * 64 + d.val), by omega⟩ := by
  refine Eq.trans ?_ (vproj_at x0 x1 x2 x3 x4 x5 x6 x7 x8 r ⟨a.val * 64 + d.val, by omega⟩)
  unfold out0_18
  rw [show k0_pay43 (k0_pay55 x0 x1 x2 x3 x4 x5 x6 x7 x8) (View.ld x3 r0_16) = shapeCast S1x1x256x64 (extractStridedSlice S256x64 ![0, 0] (k0_pay73 (F := Ideal) x0 x1 x2 x3 x4 x5 x6 x7 x8) slices_S256x256_o0_0_S256x64) shapeCasts_S256x64_S1x1x256x64 from rfl]
  generalize k0_pay73 (F := Ideal) x0 x1 x2 x3 x4 x5 x6 x7 x8 = v
  canon_tiles x h
  all_goals
    change a.val = _ at h1
    change r.val = _ at h2
    change d.val = _ at h3
    open_payloads
    pointwise
    exact congrArg v (congrArg₂ ix2 (Fin.ext h2.symm) (Fin.ext (by dsimp only; omega)))

/-- The keys, one head's 64 columns after another. -/
theorem out17_at (a : Fin 4) (r : Fin 256) (d : Fin 64) :
    out0_17 (F := Ideal) x0 x1 x2 x3 x4 x5 x6 x7 x8 (ix4 0 a r d) = krow x0 x1 x2 x3 x4 x5 x7 x8 r ⟨a.val * 64 + d.val, by omega⟩ := by
  refine Eq.trans ?_ (keyTile_at x0 x1 x2 x3 x4 x5 x6 x7 x8 r ⟨a.val * 64 + d.val, by omega⟩)
  unfold out0_17
  rw [show k0_pay42 (k0_pay57 x0 x1 x2 x3 x4 x5 x6 x7 x8) (k0_pay58 x0 x1 x2 x3 x4 x5 x6 x7 x8) (k0_pay59 x0 x1 x2 x3 x4 x5 x6 x7 x8) (k0_pay65 x0 x1 x2 x3 x4 x5 x6 x7 x8) (k0_pay66 (F := Ideal) x0 x1 x2 x3 x4 x5 x6 x7 x8) (k0_pay67 x0 x1 x2 x3 x4 x5 x6 x7 x8) (k0_pay68 x0 x1 x2 x3 x4 x5 x6 x7 x8) (k0_pay69 x0 x1 x2 x3 x4 x5 x6 x7 x8) (k0_pay70 x0 x1 x2 x3 x4 x5 x6 x7 x8) (k0_pay71 x0 x1 x2 x3 x4 x5 x6 x7 x8) = shapeCast S1x1x256x64 (extractStridedSlice S256x64 ![0, 0] (k0_pay72 (F := Ideal) x0 x1 x2 x3 x4 x5 x6 x7 x8) slices_S256x256_o0_0_S256x64) shapeCasts_S256x64_S1x1x256x64 from rfl,
    show k0_pay44 (k0_pay57 x0 x1 x2 x3 x4 x5 x6 x7 x8) (k0_pay58 x0 x1 x2 x3 x4 x5 x6 x7 x8) (k0_pay59 x0 x1 x2 x3 x4 x5 x6 x7 x8) (k0_pay65 x0 x1 x2 x3 x4 x5 x6 x7 x8) (k0_pay66 (F := Ideal) x0 x1 x2 x3 x4 x5 x6 x7 x8) (k0_pay67 x0 x1 x2 x3 x4 x5 x6 x7 x8) (k0_pay68 x0 x1 x2 x3 x4 x5 x6 x7 x8) (k0_pay69 x0 x1 x2 x3 x4 x5 x6 x7 x8) (k0_pay70 x0 x1 x2 x3 x4 x5 x6 x7 x8) (k0_pay71 x0 x1 x2 x3 x4 x5 x6 x7 x8) = extractStridedSlice S256x64 ![0, 64] (k0_pay72 (F := Ideal) x0 x1 x2 x3 x4 x5 x6 x7 x8) slices_S256x256_o0_64_S256x64 from rfl]
  generalize k0_pay72 (F := Ideal) x0 x1 x2 x3 x4 x5 x6 x7 x8 = v
  canon_tiles x h
  all_goals
    change a.val = _ at h1
    change r.val = _ at h2
    change d.val = _ at h3
    open_payloads
    pointwise
    exact congrArg v (congrArg₂ ix2 (Fin.ext h2.symm) (Fin.ext (by dsimp only; omega)))

end Cert.Proj.Block

end
-- ==== Proof.Proj.Array.lean ====
/- The input projection's blocks, from its arguments. -/
module

public import proofs.«01_k».proof.Proof.Gen.Kernel3Ideal.Value
public import proofs.«01_k».proof.Proof.Proj.Tables
public import proofs.«01_k».proof.Proof.Proj.Spec
public import proofs.«01_k».proof.Proof.Proj.Heads

@[expose] public section

set_option maxRecDepth 16384

noncomputable section

namespace Cert.Proj.Array

open Idealize.ShloMosaic Idealize.ShloMosaic.TcCoe Idealize.SL.Sem Cert.Kernel3Ideal Cert.Kernel3Ideal.Gen Cert.Proj.Block Cert.Attn
open Idealize.ShloMosaic.Pipeline (Dat)

/-- Which block of its array each input window holds at a point: the batch and the tile are the point's digits. -/
theorem idx : ∀ t : Fin cfg0.N, win0_0.index t = ![t.val / 17, t.val % 17, 0]
    ∧ win0_1.index t = ![if t.val % 17 < 1 then 8 else t.val / 17, 0, 0]
    ∧ win0_2.index t = ![0, 0]
    ∧ win0_3.index t = ![0, 0]
    ∧ win0_4.index t = ![t.val % 17, 0]
    ∧ win0_5.index t = ![t.val % 17, 0]
    ∧ win0_6.index t = ![0, 0]
    ∧ win0_7.index t = ![0, 0]
    ∧ win0_8.index t = ![0, 0] ∧ t.val < 136 :=
  (by decide +kernel : ∀ t : Fin grid0.N, _)

theorem idx9 : ∀ t : Fin cfg0.N, win0_9.index t = ![t.val / 17, t.val % 17, 0] ∧ t.val < 136 :=
  (by decide +kernel : ∀ t : Fin grid0.N, _)

theorem idx10 : ∀ t : Fin cfg0.N, win0_10.index t = ![t.val / 17, t.val % 17, 0] ∧ t.val < 136 :=
  (by decide +kernel : ∀ t : Fin grid0.N, _)

theorem idx11 : ∀ t : Fin cfg0.N, win0_11.index t = ![t.val / 17, t.val % 17, 0] ∧ t.val < 136 :=
  (by decide +kernel : ∀ t : Fin grid0.N, _)

theorem idx12 : ∀ t : Fin cfg0.N, win0_12.index t = ![t.val / 17, t.val % 17, 0] ∧ t.val < 136 :=
  (by decide +kernel : ∀ t : Fin grid0.N, _)

theorem idx13 : ∀ t : Fin cfg0.N, win0_13.index t = ![t.val / 17, t.val % 17, 0] ∧ t.val < 136 :=
  (by decide +kernel : ∀ t : Fin grid0.N, _)

theorem idx14 : ∀ t : Fin cfg0.N, win0_14.index t = ![t.val / 17, t.val % 17, 0] ∧ t.val < 136 :=
  (by decide +kernel : ∀ t : Fin grid0.N, _)

theorem idx15 : ∀ t : Fin cfg0.N, win0_15.index t = ![t.val / 17, t.val % 17, 0] ∧ t.val < 136 :=
  (by decide +kernel : ∀ t : Fin grid0.N, _)

theorem idx16 : ∀ t : Fin cfg0.N, win0_16.index t = ![t.val / 17, t.val % 17, 0] ∧ t.val < 136 :=
  (by decide +kernel : ∀ t : Fin grid0.N, _)

theorem idx19 : ∀ t : Fin cfg0.N, win0_19.index t = ![t.val / 17, t.val % 17, 0] ∧ t.val < 136 :=
  (by decide +kernel : ∀ t : Fin grid0.N, _)

theorem idx20 : ∀ t : Fin cfg0.N, win0_20.index t = ![t.val / 17, t.val % 17, 0] ∧ t.val < 136 :=
  (by decide +kernel : ∀ t : Fin grid0.N, _)

theorem idx21 : ∀ t : Fin cfg0.N, win0_21.index t = ![t.val / 17, t.val % 17, 0] ∧ t.val < 136 :=
  (by decide +kernel : ∀ t : Fin grid0.N, _)

theorem idx17 : ∀ t : Fin cfg0.N, win0_17.index t = ![t.val / 17, 0, t.val % 17, 0] ∧ t.val < 136 :=
  (by decide +kernel : ∀ t : Fin grid0.N, _)

theorem idx18 : ∀ t : Fin cfg0.N, win0_18.index t = ![t.val / 17, 0, t.val % 17, 0] ∧ t.val < 136 :=
  (by decide +kernel : ∀ t : Fin grid0.N, _)

/-- The batch of a point. -/
abbrev batch (t : Fin cfg0.N) : Fin 8 := ⟨t.val / 17, by have := (idx t).2.2.2.2.2.2.2.2.2; omega⟩

/-- A token of a point's tile. -/
abbrev token (t : Fin cfg0.N) (r : Fin 256) : Fin 4352 := ⟨t.val % 17 * 256 + r.val, by omega⟩

variable (m : (ℓ : Loc nD τ sig) → Buf (Elt Ideal) ℓ) (c : Dev nD)

theorem arg0_found : (V m c main_arg0 : FVec Ideal S8x4352x1024 .f32) = (m ((c : Thread nD τ).loc main_arg0) : FVec Ideal S8x4352x1024 .f32) := by
  unfold_abbrev_sides
  simp only [hostOps0, hostOps0_1, hostOps0_2, hostOps0_3, hostOps0_4, List.flatten_cons, List.flatten_nil, List.append_nil, List.cons_append, List.nil_append]
  after_results

theorem arg1_found : (V m c main_arg1 : FVec Ideal S9x1x6144 .f32) = (m ((c : Thread nD τ).loc main_arg1) : FVec Ideal S9x1x6144 .f32) := by
  unfold_abbrev_sides
  simp only [hostOps0, hostOps0_1, hostOps0_2, hostOps0_3, hostOps0_4, List.flatten_cons, List.flatten_nil, List.append_nil, List.cons_append, List.nil_append]
  after_results

theorem x_block (t : Fin cfg0.N) (r : Fin 256) (d : Fin 1024) :
    (iblk m c 0 t : FVec Ideal S1x256x1024 .f32) (ix3 0 r d)
      = (m ((c : Thread nD τ).loc main_arg0) : FVec Ideal S8x4352x1024 .f32) (ix3 (batch t) (token t r) d) := by
  refine Eq.trans ?_ (congrFun (arg0_found m c) _)
  blk_ext [iblk, idx t]

theorem mod_block (t : Fin cfg0.N) (r : Fin 256) (x : Fin 6144) :
    (iblk m c 1 t : FVec Ideal S1x1x6144 .f32) (ix3 0 0 x)
      = (m ((c : Thread nD τ).loc main_arg1) : FVec Ideal S9x1x6144 .f32) (ix3 (modRow (batch t) (token t r)) 0 x) := by
  refine Eq.trans ?_ (congrFun (arg1_found m c) _)
  have e : (if t.val % 17 < 1 then 8 else t.val / 17) = (modRow (batch t) (token t r)).val := by
    show _ = if t.val % 17 * 256 + r.val < 256 then 8 else t.val / 17
    split_ifs <;> omega
  blk_ext [iblk, idx t]

theorem norm_block (t : Fin cfg0.N) (d : Fin 1024) :
    (iblk m c 2 t : FVec Ideal S1x1024 .f32) (ix2 0 d) = (m ((c : Thread nD τ).loc main_arg2) : FVec Ideal S1024 .f32) (ix1 d) := by
  have h : (V m c main_v61 : FVec Ideal S1x1024 .f32) (ix2 0 d) = (m ((c : Thread nD τ).loc main_arg2) : FVec Ideal S1024 .f32) (ix1 d) := by
    refine (congrFun (norm_found m c) _).trans ?_
    pointwise
  refine Eq.trans ?_ h
  blk_ext [iblk, idx t]

theorem weight_block (t : Fin cfg0.N) (d : Fin 1024) (x : Fin 12800) :
    (iblk m c 3 t : FVec Ideal S1024x12800 .bf16) (ix2 d x) = (m ((c : Thread nD τ).loc main_arg3) : FVec Ideal S1024x12800 .f32) (ix2 d x) := by
  refine Eq.trans ?_ (congrFun (weight_found m c) _)
  blk_ext [iblk, idx t]

/-- The reference's cosines and sines. -/
abbrev cosR : FVec Ideal S4096x32 .f32 := Cert.Reference3Ideal.Read.val_main_v30 (F := Ideal)
abbrev sinR : FVec Ideal S4096x32 .f32 := Cert.Reference3Ideal.Read.val_main_v31 (F := Ideal)

theorem cos_block (t : Fin cfg0.N) (r : Fin 256) (l : Fin 128) :
    (iblk m c 4 t : FVec Ideal S256x128 .f32) (ix2 r l)
      = if h : (token t r).val < 256 then (1 : EReal) else cosR (ix2 ⟨(token t r).val - 256, by omega⟩ ⟨l.val % 64 / 2, by omega⟩) := by
  refine Eq.trans ?_ (cosTable_at cosR (token t r) l)
  refine Eq.trans ?_ (congrFun (cos_found m c) _)
  blk_ext [iblk, idx t]

theorem sin_block (t : Fin cfg0.N) (r : Fin 256) (l : Fin 128) :
    (iblk m c 5 t : FVec Ideal S256x128 .f32) (ix2 r l)
      = if h : (token t r).val < 256 then (0 : EReal)
        else sinR (ix2 ⟨(token t r).val - 256, by omega⟩ ⟨l.val % 64 / 2, by omega⟩) * (if l.val % 2 = 0 then -1 else 1) := by
  refine Eq.trans ?_ (sinTable_at sinR (token t r) l)
  refine Eq.trans ?_ (congrFun (sin_found m c) _)
  blk_ext [iblk, idx t]

theorem qgain_block (t : Fin cfg0.N) (l : Fin 128) :
    (iblk m c 6 t : FVec Ideal S1x128 .f32) (ix2 0 l) = (m ((c : Thread nD τ).loc main_arg4) : FVec Ideal S64 .f32) (ix1 ⟨l.val % 64, by omega⟩) := by
  refine Eq.trans ?_ (gainTable_at _ l)
  refine Eq.trans ?_ (congrFun (qgain_found m c) _)
  blk_ext [iblk, idx t]

theorem kgain_block (t : Fin cfg0.N) (l : Fin 128) :
    (iblk m c 7 t : FVec Ideal S1x128 .f32) (ix2 0 l) = (m ((c : Thread nD τ).loc main_arg5) : FVec Ideal S64 .f32) (ix1 ⟨l.val % 64, by omega⟩) := by
  refine Eq.trans ?_ (gainTable_at _ l)
  refine Eq.trans ?_ (congrFun (kgain_found m c) _)
  blk_ext [iblk, idx t]

theorem same_block (t : Fin cfg0.N) (e l : Fin 128) :
    (iblk m c 8 t : FVec Ideal S128x128 .bf16) (ix2 e l) = if e.val / 64 = l.val / 64 then (1 : EReal) else (0 : EReal) := by
  refine Eq.trans ?_ (same_found_at m c e l)
  blk_ext [iblk, idx t]

/-- The arguments. -/
abbrev aX : FVec Ideal S8x4352x1024 .f32 := m ((c : Thread nD τ).loc main_arg0)
abbrev aM : FVec Ideal S9x1x6144 .f32 := m ((c : Thread nD τ).loc main_arg1)
abbrev aG : FVec Ideal S1024 .f32 := m ((c : Thread nD τ).loc main_arg2)
abbrev aW : FVec Ideal S1024x12800 .f32 := m ((c : Thread nD τ).loc main_arg3)
abbrev aQ : FVec Ideal S64 .f32 := m ((c : Thread nD τ).loc main_arg4)
abbrev aK : FVec Ideal S64 .f32 := m ((c : Thread nD τ).loc main_arg5)

/-- A column of a block's token's projection is the token's. -/
theorem col_block (t : Fin cfg0.N) (r : Fin 256) (x : Fin 12800) :
    pcol (iblk m c 0 t) (iblk m c 1 t) (iblk m c 2 t) (iblk m c 3 t) r x = col (aX m c) (aM m c) (aG m c) (aW m c) (batch t) (token t r) x := by
  unfold pcol hrow col hid
  simp only [x_block, mod_block m c t r, norm_block, weight_block]

/-- A query of a block's token is the token's. -/
theorem query_block (hy : ∀ b t (x : Fin 1024), IsReal (col (aX m c) (aM m c) (aG m c) (aW m c) b t ⟨8192 + x.val, by omega⟩)) (t : Fin cfg0.N) (r : Fin 256) (x : Fin 1024) :
    qrow (iblk m c 0 t) (iblk m c 1 t) (iblk m c 2 t) (iblk m c 3 t) (iblk m c 4 t) (iblk m c 5 t) (iblk m c 6 t) (iblk m c 8 t) r x
      = query (aX m c) (aM m c) (aG m c) (aW m c) (aQ m c) cosR sinR (batch t) (token t r) x := by
  unfold qrow query head
  simp only [col_block, cos_block, sin_block, qgain_block, same_block]
  have hn : ∀ l : Fin 128, lanesNorm (fun e => col (aX m c) (aM m c) (aG m c) (aW m c) (batch t) (token t r) ⟨8192 + (x.val / 128 * 128 + e.val), by omega⟩)
      (fun e => aQ m c (ix1 ⟨e.val % 64, by omega⟩)) (fun e k => if e.val / 64 = k.val / 64 then 1 else 0) l
      = headNorm (fun k => col (aX m c) (aM m c) (aG m c) (aW m c) (batch t) (token t r) ⟨8192 + (x.val / 128 * 128 + (l.val / 64 * 64 + k.val)), by omega⟩)
        (fun k => aQ m c (ix1 k)) ⟨l.val % 64, by omega⟩ := by
    intro l
    refine (lanesNorm_eq (fun e => hy (batch t) (token t r) ⟨x.val / 128 * 128 + e.val, by omega⟩) (fun _ _ => rfl) l).trans ?_
    have e : ∀ k : Fin 64, (l.val / 64 * 64 + k.val) % 64 = k.val := fun k => by omega
    simp only [e]
  have e1 : x.val / 128 * 128 + x.val % 128 / 64 * 64 = x.val / 64 * 64 := by omega
  have e2 : x.val % 128 % 64 = x.val % 64 := by omega
  by_cases h : (token t r).val < 256
  · simp only [dif_pos h]
    refine (lanesTurn_still _ _ _ _ (fun _ => rfl) (fun _ => rfl) _).trans ?_
    refine congrArg (· * _) ((hn _).trans ?_)
    simp only [← Nat.add_assoc (x.val / 128 * 128), e1, e2]
  · simp only [dif_neg h]
    refine (lanesTurn_eq _ _ _ _ (fun p => cosR (ix2 ⟨(token t r).val - 256, by omega⟩ p)) (fun p => sinR (ix2 ⟨(token t r).val - 256, by omega⟩ p)) (fun _ => rfl) (fun _ => rfl) _).trans ?_
    simp only [hn, e2]
    have e3 : ∀ j : Fin 64, (x.val % 128 / 64 * 64 + j.val) / 64 * 64 = x.val % 128 / 64 * 64 := fun j => by omega
    have e4 : ∀ j : Fin 64, (x.val % 128 / 64 * 64 + j.val) % 64 = j.val := fun j => by omega
    simp only [e3, e4, ← Nat.add_assoc (x.val / 128 * 128), e1]

/-- A key of a block's token is the token's. -/
theorem key_block (hy : ∀ b t (x : Fin 256), IsReal (col (aX m c) (aM m c) (aG m c) (aW m c) b t ⟨9216 + x.val, by omega⟩)) (t : Fin cfg0.N) (r : Fin 256) (x : Fin 256) :
    krow (iblk m c 0 t) (iblk m c 1 t) (iblk m c 2 t) (iblk m c 3 t) (iblk m c 4 t) (iblk m c 5 t) (iblk m c 7 t) (iblk m c 8 t) r x
      = key (aX m c) (aM m c) (aG m c) (aW m c) (aK m c) cosR sinR (batch t) ⟨x.val / 64, by omega⟩ (token t r) ⟨x.val % 64, by omega⟩ := by
  unfold krow key head
  simp only [col_block, cos_block, sin_block, kgain_block, same_block]
  have hn : ∀ l : Fin 128, lanesNorm (fun e => col (aX m c) (aM m c) (aG m c) (aW m c) (batch t) (token t r) ⟨9216 + (x.val / 128 * 128 + e.val), by omega⟩)
      (fun e => aK m c (ix1 ⟨e.val % 64, by omega⟩)) (fun e k => if e.val / 64 = k.val / 64 then 1 else 0) l
      = headNorm (fun k => col (aX m c) (aM m c) (aG m c) (aW m c) (batch t) (token t r) ⟨9216 + (x.val / 128 * 128 + (l.val / 64 * 64 + k.val)), by omega⟩)
        (fun k => aK m c (ix1 k)) ⟨l.val % 64, by omega⟩ := by
    intro l
    refine (lanesNorm_eq (fun e => hy (batch t) (token t r) ⟨x.val / 128 * 128 + e.val, by omega⟩) (fun _ _ => rfl) l).trans ?_
    have e : ∀ k : Fin 64, (l.val / 64 * 64 + k.val) % 64 = k.val := fun k => by omega
    simp only [e]
  have e1 : x.val / 128 * 128 + x.val % 128 / 64 * 64 = x.val / 64 * 64 := by omega
  have e2 : x.val % 128 % 64 = x.val % 64 := by omega
  by_cases h : (token t r).val < 256
  · simp only [dif_pos h]
    refine (lanesTurn_still _ _ _ _ (fun _ => rfl) (fun _ => rfl) _).trans ?_
    refine (mul_one _).trans ((hn _).trans ?_)
    simp only [← Nat.add_assoc (x.val / 128 * 128), e1, e2]
  · simp only [dif_neg h]
    refine (lanesTurn_eq _ _ _ _ (fun p => cosR (ix2 ⟨(token t r).val - 256, by omega⟩ p)) (fun p => sinR (ix2 ⟨(token t r).val - 256, by omega⟩ p)) (fun _ => rfl) (fun _ => rfl) _).trans ((mul_one _).trans ?_)
    simp only [hn, e2]
    have e3 : ∀ j : Fin 64, (x.val % 128 / 64 * 64 + j.val) / 64 * 64 = x.val % 128 / 64 * 64 := fun j => by omega
    have e4 : ∀ j : Fin 64, (x.val % 128 / 64 * 64 + j.val) % 64 = j.val := fun j => by omega
    simp only [e3, e4, ← Nat.add_assoc (x.val / 128 * 128), e1]

end Cert.Proj.Array

end
-- ==== Proof.Proj.Final.lean ====
/- The input projection's result arrays after the run. -/
module

public import proofs.«01_k».proof.Proof.Proj.Array

@[expose] public section

set_option maxRecDepth 16384

noncomputable section

namespace Cert.Proj.Array

open Idealize.ShloMosaic Idealize.ShloMosaic.TcCoe Idealize.SL.Sem Cert.Kernel3Ideal Cert.Kernel3Ideal.Gen Cert.Proj.Block Cert.Attn
open Idealize.ShloMosaic.Pipeline (Dat)

variable (m : (ℓ : Loc nD τ sig) → Buf (Elt Ideal) ℓ) (c : Dev nD)

theorem full_block9 (f : Fin 8 → Fin 4352 → Fin 1024 → EReal) (t : Fin cfg0.N) (r : Fin 256) (x : Fin 1024) :
    full f (((cfg0.win 9).blk t).view.emb (ix3 0 r x)) = f (batch t) (token t r) x := by
  refine full_at f _ _ _ _ ?_ ?_ ?_ <;> blk_simp [idx9 t] <;> dsimp only <;> omega

theorem final9 : (dats m 0 c).arrAt 9 cfg0.N = full (first (aX m c) (aM m c) (aG m c) (aW m c)) := by
  refine (dats m 0 c).arrAt_eq_of_covers 9 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (full_block9 _ t r x).symm
  blk_simp
  rw [after0_9]
  refine (out9_at _ _ _ _ _ _ _ _ _ r x).trans ?_
  unfold first
  simp only [col_block]

theorem full_block10 (f : Fin 8 → Fin 4352 → Fin 1024 → EReal) (t : Fin cfg0.N) (r : Fin 256) (x : Fin 1024) :
    full f (((cfg0.win 10).blk t).view.emb (ix3 0 r x)) = f (batch t) (token t r) x := by
  refine full_at f _ _ _ _ ?_ ?_ ?_ <;> blk_simp [idx10 t] <;> dsimp only <;> omega

theorem final10 : (dats m 0 c).arrAt 10 cfg0.N = full (part (aX m c) (aM m c) (aG m c) (aW m c) 1024 (by decide)) := by
  refine (dats m 0 c).arrAt_eq_of_covers 10 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (full_block10 _ t r x).symm
  blk_simp
  rw [after0_10]
  refine (out10_at _ _ _ _ _ _ _ _ _ r x).trans ?_
  unfold part
  simp only [col_block]

theorem full_block11 (f : Fin 8 → Fin 4352 → Fin 1024 → EReal) (t : Fin cfg0.N) (r : Fin 256) (x : Fin 1024) :
    full f (((cfg0.win 11).blk t).view.emb (ix3 0 r x)) = f (batch t) (token t r) x := by
  refine full_at f _ _ _ _ ?_ ?_ ?_ <;> blk_simp [idx11 t] <;> dsimp only <;> omega

theorem final11 : (dats m 0 c).arrAt 11 cfg0.N = full (part (aX m c) (aM m c) (aG m c) (aW m c) 2048 (by decide)) := by
  refine (dats m 0 c).arrAt_eq_of_covers 11 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (full_block11 _ t r x).symm
  blk_simp
  rw [after0_11]
  refine (out11_at _ _ _ _ _ _ _ _ _ r x).trans ?_
  unfold part
  simp only [col_block]

theorem full_block12 (f : Fin 8 → Fin 4352 → Fin 1024 → EReal) (t : Fin cfg0.N) (r : Fin 256) (x : Fin 1024) :
    full f (((cfg0.win 12).blk t).view.emb (ix3 0 r x)) = f (batch t) (token t r) x := by
  refine full_at f _ _ _ _ ?_ ?_ ?_ <;> blk_simp [idx12 t] <;> dsimp only <;> omega

theorem final12 : (dats m 0 c).arrAt 12 cfg0.N = full (part (aX m c) (aM m c) (aG m c) (aW m c) 3072 (by decide)) := by
  refine (dats m 0 c).arrAt_eq_of_covers 12 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (full_block12 _ t r x).symm
  blk_simp
  rw [after0_12]
  refine (out12_at _ _ _ _ _ _ _ _ _ r x).trans ?_
  unfold part
  simp only [col_block]

theorem full_block13 (f : Fin 8 → Fin 4352 → Fin 1024 → EReal) (t : Fin cfg0.N) (r : Fin 256) (x : Fin 1024) :
    full f (((cfg0.win 13).blk t).view.emb (ix3 0 r x)) = f (batch t) (token t r) x := by
  refine full_at f _ _ _ _ ?_ ?_ ?_ <;> blk_simp [idx13 t] <;> dsimp only <;> omega

theorem final13 : (dats m 0 c).arrAt 13 cfg0.N = full (gated (aX m c) (aM m c) (aG m c) (aW m c)) := by
  refine (dats m 0 c).arrAt_eq_of_covers 13 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (full_block13 _ t r x).symm
  blk_simp
  rw [after0_13]
  refine (out13_at _ _ _ _ _ _ _ _ _ r x).trans ?_
  unfold gated
  simp only [col_block]

theorem full_block14 (f : Fin 8 → Fin 4352 → Fin 1024 → EReal) (t : Fin cfg0.N) (r : Fin 256) (x : Fin 1024) :
    full f (((cfg0.win 14).blk t).view.emb (ix3 0 r x)) = f (batch t) (token t r) x := by
  refine full_at f _ _ _ _ ?_ ?_ ?_ <;> blk_simp [idx14 t] <;> dsimp only <;> omega

theorem final14 : (dats m 0 c).arrAt 14 cfg0.N = full (part (aX m c) (aM m c) (aG m c) (aW m c) 5120 (by decide)) := by
  refine (dats m 0 c).arrAt_eq_of_covers 14 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (full_block14 _ t r x).symm
  blk_simp
  rw [after0_14]
  refine (out14_at _ _ _ _ _ _ _ _ _ r x).trans ?_
  unfold part
  simp only [col_block]

theorem full_block15 (f : Fin 8 → Fin 4352 → Fin 1024 → EReal) (t : Fin cfg0.N) (r : Fin 256) (x : Fin 1024) :
    full f (((cfg0.win 15).blk t).view.emb (ix3 0 r x)) = f (batch t) (token t r) x := by
  refine full_at f _ _ _ _ ?_ ?_ ?_ <;> blk_simp [idx15 t] <;> dsimp only <;> omega

theorem final15 : (dats m 0 c).arrAt 15 cfg0.N = full (inner (aX m c) (aM m c) (aG m c) (aW m c)) := by
  refine (dats m 0 c).arrAt_eq_of_covers 15 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (full_block15 _ t r x).symm
  blk_simp
  rw [after0_15]
  refine (out15_at _ _ _ _ _ _ _ _ _ r x).trans ?_
  unfold inner
  simp only [col_block]

theorem full_block16 (f : Fin 8 → Fin 4352 → Fin 1024 → EReal) (t : Fin cfg0.N) (r : Fin 256) (x : Fin 1024) :
    full f (((cfg0.win 16).blk t).view.emb (ix3 0 r x)) = f (batch t) (token t r) x := by
  refine full_at f _ _ _ _ ?_ ?_ ?_ <;> blk_simp [idx16 t] <;> dsimp only <;> omega

theorem final16 (hy : ∀ b t (x : Fin 1024), IsReal (col (aX m c) (aM m c) (aG m c) (aW m c) b t ⟨8192 + x.val, by omega⟩)) : (dats m 0 c).arrAt 16 cfg0.N = full (query (aX m c) (aM m c) (aG m c) (aW m c) (aQ m c) cosR sinR) := by
  refine (dats m 0 c).arrAt_eq_of_covers 16 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (full_block16 _ t r x).symm
  blk_simp
  rw [after0_16]
  refine (out16_at _ _ _ _ _ _ _ _ _ r x).trans ?_
  exact query_block m c hy t r x

theorem full_block19 (f : Fin 8 → Fin 4352 → Fin 1024 → EReal) (t : Fin cfg0.N) (r : Fin 256) (x : Fin 1024) :
    full f (((cfg0.win 19).blk t).view.emb (ix3 0 r x)) = f (batch t) (token t r) x := by
  refine full_at f _ _ _ _ ?_ ?_ ?_ <;> blk_simp [idx19 t] <;> dsimp only <;> omega

theorem final19 : (dats m 0 c).arrAt 19 cfg0.N = full (gate (aX m c) (aM m c) (aG m c) (aW m c) 9728 (by decide)) := by
  refine (dats m 0 c).arrAt_eq_of_covers 19 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (full_block19 _ t r x).symm
  blk_simp
  rw [after0_19]
  refine (out19_at _ _ _ _ _ _ _ _ _ r x).trans ?_
  unfold gate
  simp only [col_block]

theorem full_block20 (f : Fin 8 → Fin 4352 → Fin 1024 → EReal) (t : Fin cfg0.N) (r : Fin 256) (x : Fin 1024) :
    full f (((cfg0.win 20).blk t).view.emb (ix3 0 r x)) = f (batch t) (token t r) x := by
  refine full_at f _ _ _ _ ?_ ?_ ?_ <;> blk_simp [idx20 t] <;> dsimp only <;> omega

theorem final20 : (dats m 0 c).arrAt 20 cfg0.N = full (gate (aX m c) (aM m c) (aG m c) (aW m c) 10752 (by decide)) := by
  refine (dats m 0 c).arrAt_eq_of_covers 20 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (full_block20 _ t r x).symm
  blk_simp
  rw [after0_20]
  refine (out20_at _ _ _ _ _ _ _ _ _ r x).trans ?_
  unfold gate
  simp only [col_block]

theorem full_block21 (f : Fin 8 → Fin 4352 → Fin 1024 → EReal) (t : Fin cfg0.N) (r : Fin 256) (x : Fin 1024) :
    full f (((cfg0.win 21).blk t).view.emb (ix3 0 r x)) = f (batch t) (token t r) x := by
  refine full_at f _ _ _ _ ?_ ?_ ?_ <;> blk_simp [idx21 t] <;> dsimp only <;> omega

theorem final21 : (dats m 0 c).arrAt 21 cfg0.N = full (gate (aX m c) (aM m c) (aG m c) (aW m c) 11776 (by decide)) := by
  refine (dats m 0 c).arrAt_eq_of_covers 21 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (full_block21 _ t r x).symm
  blk_simp
  rw [after0_21]
  refine (out21_at _ _ _ _ _ _ _ _ _ r x).trans ?_
  unfold gate
  simp only [col_block]

theorem split_block17 (f : Fin 8 → Fin 4 → Fin 4352 → Fin 64 → EReal) (t : Fin cfg0.N) (a : Fin 4) (r : Fin 256) (d : Fin 64) :
    split f (((cfg0.win 17).blk t).view.emb (ix4 0 a r d)) = f (batch t) a (token t r) d := by
  refine split_at f _ _ _ _ _ ?_ ?_ ?_ ?_ <;> blk_simp [idx17 t] <;> dsimp only <;> omega

theorem final17 (hy : ∀ b t (x : Fin 256), IsReal (col (aX m c) (aM m c) (aG m c) (aW m c) b t ⟨9216 + x.val, by omega⟩)) : (dats m 0 c).arrAt 17 cfg0.N = split (key (aX m c) (aM m c) (aG m c) (aW m c) (aK m c) cosR sinR) := by
  refine (dats m 0 c).arrAt_eq_of_covers 17 _ (by decide +kernel) fun t hf y => ?_
  obtain ⟨a, r, d, rfl⟩ : ∃ (a : Fin 4) (r : Fin 256) (d : Fin 64), y = ix4 0 a r d := ⟨y 1, y 2, y 3, by
    have e : y = ix4 (y 0) (y 1) (y 2) (y 3) := eq_ix4 y
    have e0 : y 0 = (0 : Fin 1) := Subsingleton.elim (α := Fin 1) _ _
    rw [e0] at e
    exact e⟩
  refine Eq.trans ?_ (split_block17 _ t a r d).symm
  blk_simp
  rw [after0_17]
  refine (out17_at _ _ _ _ _ _ _ _ _ a r d).trans ?_
  refine (key_block m c hy t r _).trans ?_
  have e1 : (a.val * 64 + d.val) / 64 = a.val := by omega
  have e2 : (a.val * 64 + d.val) % 64 = d.val := by omega
  simp only [e1, e2]

theorem split_block18 (f : Fin 8 → Fin 4 → Fin 4352 → Fin 64 → EReal) (t : Fin cfg0.N) (a : Fin 4) (r : Fin 256) (d : Fin 64) :
    split f (((cfg0.win 18).blk t).view.emb (ix4 0 a r d)) = f (batch t) a (token t r) d := by
  refine split_at f _ _ _ _ _ ?_ ?_ ?_ ?_ <;> blk_simp [idx18 t] <;> dsimp only <;> omega

theorem final18 : (dats m 0 c).arrAt 18 cfg0.N = split (value (aX m c) (aM m c) (aG m c) (aW m c)) := by
  refine (dats m 0 c).arrAt_eq_of_covers 18 _ (by decide +kernel) fun t hf y => ?_
  obtain ⟨a, r, d, rfl⟩ : ∃ (a : Fin 4) (r : Fin 256) (d : Fin 64), y = ix4 0 a r d := ⟨y 1, y 2, y 3, by
    have e : y = ix4 (y 0) (y 1) (y 2) (y 3) := eq_ix4 y
    have e0 : y 0 = (0 : Fin 1) := Subsingleton.elim (α := Fin 1) _ _
    rw [e0] at e
    exact e⟩
  refine Eq.trans ?_ (split_block18 _ t a r d).symm
  blk_simp
  rw [after0_18]
  refine (out18_at _ _ _ _ _ _ _ _ _ a r d).trans ?_
  unfold value
  simp only [col_block]

end Cert.Proj.Array

end
-- ==== Proof.Proj.RefCol.lean ====
/- The input projection's reference: the modulated norm and the projection. -/
module

public import proofs.«01_k».proof.Proof.Gen.Reference3Ideal.Read
public import proofs.«01_k».proof.Proof.Proj.Spec
public import Idealize.ShloMosaic.Lib.Pipeline.ValueKit

@[expose] public section

set_option maxRecDepth 16384

noncomputable section

namespace Cert.Proj.Reference

open Idealize.ShloMosaic Idealize.ShloMosaic.TcCoe Idealize.SL.Sem Cert.Reference3Ideal Cert.Reference3Ideal.Read

variable (x0 : FVec Ideal S8x4352x1024 .f32) (x1 : FVec Ideal S9x1x6144 .f32) (x2 : FVec Ideal S1024 .f32) (x3 : FVec Ideal S1024x12800 .f32)
  (x4 x5 : FVec Ideal S64 .f32)

/-- The latent tokens' rows over their root mean square, times the gain. -/
theorem latent_norm_at (b : Fin 8) (t : Fin 4096) (d : Fin 1024) :
    val_main_v49 (F := Ideal) x0 x2 (ix3 b t d)
      = x0 (ix3 b (⟨256 + t.val, by omega⟩ : Fin 4352) d) * Ideal.rsqrt (Ideal.div (∑ k, x0 (ix3 b (⟨256 + t.val, by omega⟩ : Fin 4352) k) * x0 (ix3 b (⟨256 + t.val, by omega⟩ : Fin 4352) k)) (Ideal.ofBits .f32 0x44800000#32)
          + Ideal.ofBits .f32 0x358637BD#32) * x2 (ix1 d) := by
  have hs : ∀ d : Fin 1024, val_main_v36 (F := Ideal) x0 (ix3 b t d) = x0 (ix3 b (⟨256 + t.val, by omega⟩ : Fin 4352) d) := by
    intro d
    unfold val_main_v36
    pointwise
  unfold val_main_v49 val_main_v46 val_main_v48 val_main_v47 val_main_v45 val_main_v44 val_main_v43 val_main_v41 val_main_v39 val_main_v38 val_main_v37
  revert hs
  generalize val_main_v36 (F := Ideal) x0 = s
  intro hs
  pointwise [val_main_v40, val_main_v42, val_main_cst_3, val_main_cst_4, val_main_cst_5]
  simp only [hs]

/-- The latent tokens' modulated norm. -/
theorem latent_hidden_at (b : Fin 8) (t : Fin 4096) (d : Fin 1024) :
    val_main_v55 (F := Ideal) x0 x1 x2 (ix3 b t d) = hid x0 x1 x2 b (⟨256 + t.val, by omega⟩ : Fin 4352) d := by
  have hn := latent_norm_at x0 x2 b t d
  unfold val_main_v55 val_main_v54 val_main_v53 val_main_v52 val_main_v51
  revert hn
  generalize val_main_v49 (F := Ideal) x0 x2 = s
  intro hn
  pointwise [val_main_v50, val_main_v32, val_main_v33, val_main_cst_6]
  rw [hn]
  have e : modRow b (⟨256 + t.val, by omega⟩ : Fin 4352) = ⟨b.val, by omega⟩ := Fin.ext (by show (if 256 + t.val < 256 then 8 else b.val) = b.val; rw [if_neg (by omega)])
  unfold hid hidden
  rw [e]

/-- The latent tokens' projection. -/
theorem latent_col_at (b : Fin 8) (t : Fin 4096) (x : Fin 12800) :
    val_main_v56 (F := Ideal) x0 x1 x2 x3 (ix3 b t x) = col x0 x1 x2 x3 b (⟨256 + t.val, by omega⟩ : Fin 4352) x := by
  have hh := latent_hidden_at x0 x1 x2 b t
  unfold val_main_v56
  revert hh
  generalize val_main_v55 (F := Ideal) x0 x1 x2 = s
  intro hh
  pointwise
  unfold col proj
  exact Finset.sum_congr rfl fun d _ => Ideal.mul_congr (hh d) rfl

/-- The context tokens' rows over their root mean square, times the gain. -/
theorem context_norm_at (b : Fin 8) (t : Fin 256) (d : Fin 1024) :
    val_main_v84 (F := Ideal) x0 x2 (ix3 b t d)
      = x0 (ix3 b (⟨t.val, by omega⟩ : Fin 4352) d) * Ideal.rsqrt (Ideal.div (∑ k, x0 (ix3 b (⟨t.val, by omega⟩ : Fin 4352) k) * x0 (ix3 b (⟨t.val, by omega⟩ : Fin 4352) k)) (Ideal.ofBits .f32 0x44800000#32)
          + Ideal.ofBits .f32 0x358637BD#32) * x2 (ix1 d) := by
  have hs : ∀ d : Fin 1024, val_main_v71 (F := Ideal) x0 (ix3 b t d) = x0 (ix3 b (⟨t.val, by omega⟩ : Fin 4352) d) := by
    intro d
    unfold val_main_v71
    pointwise
  unfold val_main_v84 val_main_v81 val_main_v83 val_main_v82 val_main_v80 val_main_v79 val_main_v78 val_main_v76 val_main_v74 val_main_v73 val_main_v72
  revert hs
  generalize val_main_v71 (F := Ideal) x0 = s
  intro hs
  pointwise [val_main_v75, val_main_v77, val_main_cst_7, val_main_cst_8, val_main_cst_9]
  simp only [hs]

/-- The context tokens' modulated norm. -/
theorem context_hidden_at (b : Fin 8) (t : Fin 256) (d : Fin 1024) :
    val_main_v90 (F := Ideal) x0 x1 x2 (ix3 b t d) = hid x0 x1 x2 b (⟨t.val, by omega⟩ : Fin 4352) d := by
  have hn := context_norm_at x0 x2 b t d
  unfold val_main_v90 val_main_v89 val_main_v88 val_main_v87 val_main_v86
  revert hn
  generalize val_main_v84 (F := Ideal) x0 x2 = s
  intro hn
  pointwise [val_main_v85, val_main_v34, val_main_v35, val_main_cst_10]
  rw [hn]
  have e : modRow b (⟨t.val, by omega⟩ : Fin 4352) = 8 := Fin.ext (by show (if t.val < 256 then 8 else b.val) = 8; rw [if_pos t.isLt])
  unfold hid hidden
  rw [e]

/-- The context tokens' projection. -/
theorem context_col_at (b : Fin 8) (t : Fin 256) (x : Fin 12800) :
    val_main_v91 (F := Ideal) x0 x1 x2 x3 (ix3 b t x) = col x0 x1 x2 x3 b (⟨t.val, by omega⟩ : Fin 4352) x := by
  have hh := context_hidden_at x0 x1 x2 b t
  unfold val_main_v91
  revert hh
  generalize val_main_v90 (F := Ideal) x0 x1 x2 = s
  intro hh
  pointwise
  unfold col proj
  exact Finset.sum_congr rfl fun d _ => Ideal.mul_congr (hh d) rfl

end Cert.Proj.Reference

end
-- ==== Proof.Proj.RefHead.lean ====
/- The input projection's reference: the head norm and the rotation. -/
module

public import proofs.«01_k».proof.Proof.Proj.RefCol

@[expose] public section

set_option maxRecDepth 16384

noncomputable section

namespace Cert.Proj.Reference

open Idealize.ShloMosaic Idealize.ShloMosaic.TcCoe Idealize.SL.Sem Cert.Reference3Ideal Cert.Reference3Ideal.Read

variable (x0 : FVec Ideal S8x4352x1024 .f32) (x1 : FVec Ideal S9x1x6144 .f32) (x2 : FVec Ideal S1024 .f32) (x3 : FVec Ideal S1024x12800 .f32)
  (x4 x5 : FVec Ideal S64 .f32)

/-- The latent queries, normalized. -/
theorem lq_norm_at (b : Fin 8) (t : Fin 4096) (h : Fin 16) (j : Fin 64) :
    val_main_v119 (F := Ideal) x0 x1 x2 x3 x4 (ix4 b t h j)
      = headNorm (fun k => col x0 x1 x2 x3 b (⟨256 + t.val, by omega⟩ : Fin 4352) ⟨8192 + (h.val * 64 + k.val), by omega⟩) (fun k => x4 (ix1 k)) j := by
  have hs : ∀ k : Fin 64, val_main_v106 (F := Ideal) x0 x1 x2 x3 (ix4 b t h k) = col x0 x1 x2 x3 b (⟨256 + t.val, by omega⟩ : Fin 4352) ⟨8192 + (h.val * 64 + k.val), by omega⟩ := by
    intro k
    have hc := latent_col_at x0 x1 x2 x3 b t
    unfold val_main_v106 val_main_v65
    revert hc
    generalize val_main_v56 (F := Ideal) x0 x1 x2 x3 = s
    intro hc
    pointwise
    exact hc _
  unfold val_main_v119 val_main_v118 val_main_v117 val_main_v116 val_main_v115 val_main_v114 val_main_v113 val_main_v111 val_main_v109 val_main_v108 val_main_v107
  revert hs
  generalize val_main_v106 (F := Ideal) x0 x1 x2 x3 = s
  intro hs
  pointwise [val_main_v110, val_main_v112, val_main_cst_11, val_main_cst_12, val_main_cst_13]
  simp only [hs]
  rfl

/-- The latent keys, normalized. -/
theorem lk_norm_at (b : Fin 8) (t : Fin 4096) (h : Fin 4) (j : Fin 64) :
    val_main_v151 (F := Ideal) x0 x1 x2 x3 x5 (ix4 b t h j)
      = headNorm (fun k => col x0 x1 x2 x3 b (⟨256 + t.val, by omega⟩ : Fin 4352) ⟨9216 + (h.val * 64 + k.val), by omega⟩) (fun k => x5 (ix1 k)) j := by
  have hs : ∀ k : Fin 64, val_main_v138 (F := Ideal) x0 x1 x2 x3 (ix4 b t h k) = col x0 x1 x2 x3 b (⟨256 + t.val, by omega⟩ : Fin 4352) ⟨9216 + (h.val * 64 + k.val), by omega⟩ := by
    intro k
    have hc := latent_col_at x0 x1 x2 x3 b t
    unfold val_main_v138 val_main_v66
    revert hc
    generalize val_main_v56 (F := Ideal) x0 x1 x2 x3 = s
    intro hc
    pointwise
    exact hc _
  unfold val_main_v151 val_main_v150 val_main_v149 val_main_v148 val_main_v147 val_main_v146 val_main_v145 val_main_v143 val_main_v141 val_main_v140 val_main_v139
  revert hs
  generalize val_main_v138 (F := Ideal) x0 x1 x2 x3 = s
  intro hs
  pointwise [val_main_v142, val_main_v144, val_main_cst_14, val_main_cst_15, val_main_cst_16]
  simp only [hs]
  rfl

/-- The context queries, normalized. -/
theorem cq_norm_at (b : Fin 8) (t : Fin 256) (h : Fin 16) (j : Fin 64) :
    val_main_v183 (F := Ideal) x0 x1 x2 x3 x4 (ix4 b t h j)
      = headNorm (fun k => col x0 x1 x2 x3 b (⟨t.val, by omega⟩ : Fin 4352) ⟨8192 + (h.val * 64 + k.val), by omega⟩) (fun k => x4 (ix1 k)) j := by
  have hs : ∀ k : Fin 64, val_main_v170 (F := Ideal) x0 x1 x2 x3 (ix4 b t h k) = col x0 x1 x2 x3 b (⟨t.val, by omega⟩ : Fin 4352) ⟨8192 + (h.val * 64 + k.val), by omega⟩ := by
    intro k
    have hc := context_col_at x0 x1 x2 x3 b t
    unfold val_main_v170 val_main_v100
    revert hc
    generalize val_main_v91 (F := Ideal) x0 x1 x2 x3 = s
    intro hc
    pointwise
    exact hc _
  unfold val_main_v183 val_main_v182 val_main_v181 val_main_v180 val_main_v179 val_main_v178 val_main_v177 val_main_v175 val_main_v173 val_main_v172 val_main_v171
  revert hs
  generalize val_main_v170 (F := Ideal) x0 x1 x2 x3 = s
  intro hs
  pointwise [val_main_v174, val_main_v176, val_main_cst_17, val_main_cst_18, val_main_cst_19]
  simp only [hs]
  rfl

/-- The context keys, normalized. -/
theorem ck_norm_at (b : Fin 8) (t : Fin 256) (h : Fin 4) (j : Fin 64) :
    val_main_v197 (F := Ideal) x0 x1 x2 x3 x5 (ix4 b t h j)
      = headNorm (fun k => col x0 x1 x2 x3 b (⟨t.val, by omega⟩ : Fin 4352) ⟨9216 + (h.val * 64 + k.val), by omega⟩) (fun k => x5 (ix1 k)) j := by
  have hs : ∀ k : Fin 64, val_main_v184 (F := Ideal) x0 x1 x2 x3 (ix4 b t h k) = col x0 x1 x2 x3 b (⟨t.val, by omega⟩ : Fin 4352) ⟨9216 + (h.val * 64 + k.val), by omega⟩ := by
    intro k
    have hc := context_col_at x0 x1 x2 x3 b t
    unfold val_main_v184 val_main_v101
    revert hc
    generalize val_main_v91 (F := Ideal) x0 x1 x2 x3 = s
    intro hc
    pointwise
    exact hc _
  unfold val_main_v197 val_main_v196 val_main_v195 val_main_v194 val_main_v193 val_main_v192 val_main_v191 val_main_v189 val_main_v187 val_main_v186 val_main_v185
  revert hs
  generalize val_main_v184 (F := Ideal) x0 x1 x2 x3 = s
  intro hs
  pointwise [val_main_v188, val_main_v190, val_main_cst_20, val_main_cst_21, val_main_cst_22]
  simp only [hs]
  rfl

/-- The latent queries, rotated. -/
theorem lq_turn_at (b : Fin 8) (t : Fin 4096) (h : Fin 16) (j : Fin 64) :
    val_main_v137 (F := Ideal) x0 x1 x2 x3 x4 (ix4 b t h j)
      = turn (fun j => val_main_v119 (F := Ideal) x0 x1 x2 x3 x4 (ix4 b t h j)) (fun p => val_main_v30 (F := Ideal) (ix2 t p)) (fun p => val_main_v31 (F := Ideal) (ix2 t p)) j := by
  unfold val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120
  generalize val_main_v119 (F := Ideal) x0 x1 x2 x3 x4 = s
  generalize val_main_v30 (F := Ideal) = cs
  generalize val_main_v31 (F := Ideal) = sn
  pointwise
  unfold turn
  by_cases h0 : j.val % 2 = 0
  · have e1 : 2 * (j.val / 2) = j.val := by omega
    have e2 : 1 + j.val = j.val + 1 := by omega
    rw [dif_pos (show j.val % 2 < 1 by omega), dif_pos h0]
    simp only [e1, e2]
  · have e1 : 2 * (j.val / 2) = j.val - 1 := by omega
    have e2 : 1 + (j.val - 1) = j.val := by omega
    rw [dif_neg (show ¬ j.val % 2 < 1 by omega), dif_neg h0]
    simp only [e1, e2]

/-- The latent keys, rotated. -/
theorem lk_turn_at (b : Fin 8) (t : Fin 4096) (h : Fin 4) (j : Fin 64) :
    val_main_v169 (F := Ideal) x0 x1 x2 x3 x5 (ix4 b t h j)
      = turn (fun j => val_main_v151 (F := Ideal) x0 x1 x2 x3 x5 (ix4 b t h j)) (fun p => val_main_v30 (F := Ideal) (ix2 t p)) (fun p => val_main_v31 (F := Ideal) (ix2 t p)) j := by
  unfold val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152
  generalize val_main_v151 (F := Ideal) x0 x1 x2 x3 x5 = s
  generalize val_main_v30 (F := Ideal) = cs
  generalize val_main_v31 (F := Ideal) = sn
  pointwise
  unfold turn
  by_cases h0 : j.val % 2 = 0
  · have e1 : 2 * (j.val / 2) = j.val := by omega
    have e2 : 1 + j.val = j.val + 1 := by omega
    rw [dif_pos (show j.val % 2 < 1 by omega), dif_pos h0]
    simp only [e1, e2]
  · have e1 : 2 * (j.val / 2) = j.val - 1 := by omega
    have e2 : 1 + (j.val - 1) = j.val := by omega
    rw [dif_neg (show ¬ j.val % 2 < 1 by omega), dif_neg h0]
    simp only [e1, e2]

end Cert.Proj.Reference

end
-- ==== Proof.Proj.RefAttn.lean ====
/- The input projection's reference: the heads over all tokens. -/
module

public import proofs.«01_k».proof.Proof.Proj.RefHead

@[expose] public section

set_option maxRecDepth 16384

noncomputable section

namespace Cert.Proj.Reference

open Idealize.ShloMosaic Idealize.ShloMosaic.TcCoe Idealize.SL.Sem Cert.Reference3Ideal Cert.Reference3Ideal.Read

variable (x0 : FVec Ideal S8x4352x1024 .f32) (x1 : FVec Ideal S9x1x6144 .f32) (x2 : FVec Ideal S1024 .f32) (x3 : FVec Ideal S1024x12800 .f32)
  (x4 x5 : FVec Ideal S64 .f32)

theorem queryHead_at (b : Fin 8) (t : Fin 4352) (a : Fin 16) (d : Fin 64) :
    val_main_v212 (F := Ideal) x0 x1 x2 x3 x4 (ix4 b t a d)
      = head (val_main_v30 (F := Ideal)) (val_main_v31 (F := Ideal)) (fun j => col x0 x1 x2 x3 b t ⟨8192 + (a.val * 64 + j.val), by omega⟩) (fun j => x4 (ix1 j)) t d := by
  have hc := cq_norm_at x0 x1 x2 x3 x4 b
  have hl := fun (t : Fin 4096) => lq_turn_at x0 x1 x2 x3 x4 b t a d
  have hn := lq_norm_at x0 x1 x2 x3 x4 b
  unfold val_main_v212
  revert hc hl hn
  generalize val_main_v183 (F := Ideal) x0 x1 x2 x3 x4 = p
  generalize val_main_v137 (F := Ideal) x0 x1 x2 x3 x4 = q
  generalize val_main_v119 (F := Ideal) x0 x1 x2 x3 x4 = s
  intro hc hl hn
  pointwise
  unfold head
  by_cases h : t.val < 256
  · rw [dif_pos h, dif_pos h, hc]
  · rw [dif_neg h, dif_neg h, hl]
    have e : 256 + (t.val - 256) = t.val := by omega
    simp only [hn, e]

theorem keyHead_at (b : Fin 8) (t : Fin 4352) (a : Fin 4) (d : Fin 64) :
    val_main_v216 (F := Ideal) x0 x1 x2 x3 x5 (ix4 b t a d)
      = head (val_main_v30 (F := Ideal)) (val_main_v31 (F := Ideal)) (fun j => col x0 x1 x2 x3 b t ⟨9216 + (a.val * 64 + j.val), by omega⟩) (fun j => x5 (ix1 j)) t d := by
  have hc := ck_norm_at x0 x1 x2 x3 x5 b
  have hl := fun (t : Fin 4096) => lk_turn_at x0 x1 x2 x3 x5 b t a d
  have hn := lk_norm_at x0 x1 x2 x3 x5 b
  unfold val_main_v216
  revert hc hl hn
  generalize val_main_v197 (F := Ideal) x0 x1 x2 x3 x5 = p
  generalize val_main_v169 (F := Ideal) x0 x1 x2 x3 x5 = q
  generalize val_main_v151 (F := Ideal) x0 x1 x2 x3 x5 = s
  intro hc hl hn
  pointwise
  unfold head
  by_cases h : t.val < 256
  · rw [dif_pos h, dif_pos h, hc]
  · rw [dif_neg h, dif_neg h, hl]
    have e : 256 + (t.val - 256) = t.val := by omega
    simp only [hn, e]

end Cert.Proj.Reference

end
-- ==== Proof.Proj.Reference.lean ====
/- The input projection's reference: its results. -/
module

public import proofs.«01_k».proof.Proof.Proj.RefCol

@[expose] public section

set_option maxRecDepth 16384

noncomputable section

namespace Cert.Proj.Reference

open Idealize.ShloMosaic Idealize.ShloMosaic.TcCoe Idealize.SL.Sem Cert.Reference3Ideal Cert.Reference3Ideal.Read

variable (x0 : FVec Ideal S8x4352x1024 .f32) (x1 : FVec Ideal S9x1x6144 .f32) (x2 : FVec Ideal S1024 .f32) (x3 : FVec Ideal S1024x12800 .f32)
  (x4 x5 : FVec Ideal S64 .f32)

theorem part0_at (b : Fin 8) (t : Fin 4352) (x : Fin 1024) :
    val_main_v198 (F := Ideal) x0 x1 x2 x3 (ix3 b t x) = col x0 x1 x2 x3 b t ⟨x.val, by omega⟩ := by
  have hc := context_col_at x0 x1 x2 x3 b
  have hl := latent_col_at x0 x1 x2 x3 b
  unfold val_main_v198 val_main_v92 val_main_v57
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem part1024_at (b : Fin 8) (t : Fin 4352) (x : Fin 1024) :
    val_main_v199 (F := Ideal) x0 x1 x2 x3 (ix3 b t x) = col x0 x1 x2 x3 b t ⟨1024 + x.val, by omega⟩ := by
  have hc := context_col_at x0 x1 x2 x3 b
  have hl := latent_col_at x0 x1 x2 x3 b
  unfold val_main_v199 val_main_v93 val_main_v58
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem part2048_at (b : Fin 8) (t : Fin 4352) (x : Fin 1024) :
    val_main_v200 (F := Ideal) x0 x1 x2 x3 (ix3 b t x) = col x0 x1 x2 x3 b t ⟨2048 + x.val, by omega⟩ := by
  have hc := context_col_at x0 x1 x2 x3 b
  have hl := latent_col_at x0 x1 x2 x3 b
  unfold val_main_v200 val_main_v94 val_main_v59
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem part3072_at (b : Fin 8) (t : Fin 4352) (x : Fin 1024) :
    val_main_v201 (F := Ideal) x0 x1 x2 x3 (ix3 b t x) = col x0 x1 x2 x3 b t ⟨3072 + x.val, by omega⟩ := by
  have hc := context_col_at x0 x1 x2 x3 b
  have hl := latent_col_at x0 x1 x2 x3 b
  unfold val_main_v201 val_main_v95 val_main_v60
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem part4096_at (b : Fin 8) (t : Fin 4352) (x : Fin 1024) :
    val_main_v202 (F := Ideal) x0 x1 x2 x3 (ix3 b t x) = col x0 x1 x2 x3 b t ⟨4096 + x.val, by omega⟩ := by
  have hc := context_col_at x0 x1 x2 x3 b
  have hl := latent_col_at x0 x1 x2 x3 b
  unfold val_main_v202 val_main_v96 val_main_v61
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem part5120_at (b : Fin 8) (t : Fin 4352) (x : Fin 1024) :
    val_main_v203 (F := Ideal) x0 x1 x2 x3 (ix3 b t x) = col x0 x1 x2 x3 b t ⟨5120 + x.val, by omega⟩ := by
  have hc := context_col_at x0 x1 x2 x3 b
  have hl := latent_col_at x0 x1 x2 x3 b
  unfold val_main_v203 val_main_v97 val_main_v62
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem part6144_at (b : Fin 8) (t : Fin 4352) (x : Fin 1024) :
    val_main_v204 (F := Ideal) x0 x1 x2 x3 (ix3 b t x) = col x0 x1 x2 x3 b t ⟨6144 + x.val, by omega⟩ := by
  have hc := context_col_at x0 x1 x2 x3 b
  have hl := latent_col_at x0 x1 x2 x3 b
  unfold val_main_v204 val_main_v98 val_main_v63
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem part7168_at (b : Fin 8) (t : Fin 4352) (x : Fin 1024) :
    val_main_v205 (F := Ideal) x0 x1 x2 x3 (ix3 b t x) = col x0 x1 x2 x3 b t ⟨7168 + x.val, by omega⟩ := by
  have hc := context_col_at x0 x1 x2 x3 b
  have hl := latent_col_at x0 x1 x2 x3 b
  unfold val_main_v205 val_main_v99 val_main_v64
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem part9472_at (b : Fin 8) (t : Fin 4352) (x : Fin 256) :
    val_main_v208 (F := Ideal) x0 x1 x2 x3 (ix3 b t x) = col x0 x1 x2 x3 b t ⟨9472 + x.val, by omega⟩ := by
  have hc := context_col_at x0 x1 x2 x3 b
  have hl := latent_col_at x0 x1 x2 x3 b
  unfold val_main_v208 val_main_v102 val_main_v67
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem part9728_at (b : Fin 8) (t : Fin 4352) (x : Fin 1024) :
    val_main_v209 (F := Ideal) x0 x1 x2 x3 (ix3 b t x) = col x0 x1 x2 x3 b t ⟨9728 + x.val, by omega⟩ := by
  have hc := context_col_at x0 x1 x2 x3 b
  have hl := latent_col_at x0 x1 x2 x3 b
  unfold val_main_v209 val_main_v103 val_main_v68
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem part10752_at (b : Fin 8) (t : Fin 4352) (x : Fin 1024) :
    val_main_v210 (F := Ideal) x0 x1 x2 x3 (ix3 b t x) = col x0 x1 x2 x3 b t ⟨10752 + x.val, by omega⟩ := by
  have hc := context_col_at x0 x1 x2 x3 b
  have hl := latent_col_at x0 x1 x2 x3 b
  unfold val_main_v210 val_main_v104 val_main_v69
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem part11776_at (b : Fin 8) (t : Fin 4352) (x : Fin 1024) :
    val_main_v211 (F := Ideal) x0 x1 x2 x3 (ix3 b t x) = col x0 x1 x2 x3 b t ⟨11776 + x.val, by omega⟩ := by
  have hc := context_col_at x0 x1 x2 x3 b
  have hl := latent_col_at x0 x1 x2 x3 b
  unfold val_main_v211 val_main_v105 val_main_v70
  revert hc hl
  generalize val_main_v91 (F := Ideal) x0 x1 x2 x3 = p
  generalize val_main_v56 (F := Ideal) x0 x1 x2 x3 = q
  intro hc hl
  pointwise
  by_cases h : t.val < 256
  · rw [dif_pos h, hc]
  · rw [dif_neg h, hl]
    have e : 256 + (t.val - 256) = t.val := by omega
    simp only [e]

theorem res9_eq : val_main_v238 (F := Ideal) x0 x1 x2 x3 = full (first x0 x1 x2 x3) := by
  funext i
  obtain ⟨b, t, x, rfl⟩ : ∃ (b : Fin 8) (t : Fin 4352) (x : Fin 1024), i = ix3 b t x := ⟨i 0, i 1, i 2, eq_ix3 i⟩
  refine Eq.trans ?_ (full_at _ _ b t x rfl rfl rfl).symm
  refine Eq.trans ?_ (part0_at x0 x1 x2 x3 b t x)
  unfold val_main_v238
  generalize val_main_v198 (F := Ideal) x0 x1 x2 x3 = s
  pointwise

theorem res10_eq : val_main_v199 (F := Ideal) x0 x1 x2 x3 = full (part x0 x1 x2 x3 1024 (by decide)) := by
  funext i
  obtain ⟨b, t, x, rfl⟩ : ∃ (b : Fin 8) (t : Fin 4352) (x : Fin 1024), i = ix3 b t x := ⟨i 0, i 1, i 2, eq_ix3 i⟩
  refine Eq.trans ?_ (full_at _ _ b t x rfl rfl rfl).symm
  refine Eq.trans ?_ (part1024_at x0 x1 x2 x3 b t x)
  rfl

theorem res11_eq : val_main_v200 (F := Ideal) x0 x1 x2 x3 = full (part x0 x1 x2 x3 2048 (by decide)) := by
  funext i
  obtain ⟨b, t, x, rfl⟩ : ∃ (b : Fin 8) (t : Fin 4352) (x : Fin 1024), i = ix3 b t x := ⟨i 0, i 1, i 2, eq_ix3 i⟩
  refine Eq.trans ?_ (full_at _ _ b t x rfl rfl rfl).symm
  refine Eq.trans ?_ (part2048_at x0 x1 x2 x3 b t x)
  rfl

theorem res12_eq : val_main_v239 (F := Ideal) x0 x1 x2 x3 = full (part x0 x1 x2 x3 3072 (by decide)) := by
  funext i
  obtain ⟨b, t, x, rfl⟩ : ∃ (b : Fin 8) (t : Fin 4352) (x : Fin 1024), i = ix3 b t x := ⟨i 0, i 1, i 2, eq_ix3 i⟩
  refine Eq.trans ?_ (full_at _ _ b t x rfl rfl rfl).symm
  refine Eq.trans ?_ (part3072_at x0 x1 x2 x3 b t x)
  unfold val_main_v239
  generalize val_main_v201 (F := Ideal) x0 x1 x2 x3 = s
  pointwise

theorem res14_eq : val_main_v242 (F := Ideal) x0 x1 x2 x3 = full (part x0 x1 x2 x3 5120 (by decide)) := by
  funext i
  obtain ⟨b, t, x, rfl⟩ : ∃ (b : Fin 8) (t : Fin 4352) (x : Fin 1024), i = ix3 b t x := ⟨i 0, i 1, i 2, eq_ix3 i⟩
  refine Eq.trans ?_ (full_at _ _ b t x rfl rfl rfl).symm
  refine Eq.trans ?_ (part5120_at x0 x1 x2 x3 b t x)
  unfold val_main_v242
  generalize val_main_v203 (F := Ideal) x0 x1 x2 x3 = s
  pointwise

theorem res13_eq : val_main_v241 (F := Ideal) x0 x1 x2 x3 = full (gated x0 x1 x2 x3) := by
  funext i
  obtain ⟨b, t, x, rfl⟩ : ∃ (b : Fin 8) (t : Fin 4352) (x : Fin 1024), i = ix3 b t x := ⟨i 0, i 1, i 2, eq_ix3 i⟩
  refine Eq.trans ?_ (full_at _ _ b t x rfl rfl rfl).symm
  have h := part4096_at x0 x1 x2 x3 b t x
  unfold val_main_v241 val_main_v240 val_main_call0_v5 val_main_call0_v3 val_main_call0_v1 val_main_call0_v0
  revert h
  generalize val_main_v202 (F := Ideal) x0 x1 x2 x3 = s
  intro h
  pointwise [val_main_call0_v4, val_main_call0_v2, val_main_call0_cst, val_main_call0_cst_0]
  rw [h]
  rfl

theorem res15_eq : val_main_v244 (F := Ideal) x0 x1 x2 x3 = full (inner x0 x1 x2 x3) := by
  funext i
  obtain ⟨b, t, x, rfl⟩ : ∃ (b : Fin 8) (t : Fin 4352) (x : Fin 1024), i = ix3 b t x := ⟨i 0, i 1, i 2, eq_ix3 i⟩
  refine Eq.trans ?_ (full_at _ _ b t x rfl rfl rfl).symm
  have h := part6144_at x0 x1 x2 x3 b t x
  have h' := part7168_at x0 x1 x2 x3 b t x
  unfold val_main_v244 val_main_v243
  revert h h'
  generalize val_main_v204 (F := Ideal) x0 x1 x2 x3 = s
  generalize val_main_v205 (F := Ideal) x0 x1 x2 x3 = s'
  intro h h'
  pointwise
  rw [h, h']
  rfl

theorem res19_eq : val_main_v248 (F := Ideal) x0 x1 x2 x3 = full (gate x0 x1 x2 x3 9728 (by decide)) := by
  funext i
  obtain ⟨b, t, x, rfl⟩ : ∃ (b : Fin 8) (t : Fin 4352) (x : Fin 1024), i = ix3 b t x := ⟨i 0, i 1, i 2, eq_ix3 i⟩
  refine Eq.trans ?_ (full_at _ _ b t x rfl rfl rfl).symm
  have h := part9728_at x0 x1 x2 x3 b t x
  unfold val_main_v248 val_main_v225 val_main_v223 val_main_v221 val_main_v220
  revert h
  generalize val_main_v209 (F := Ideal) x0 x1 x2 x3 = s
  intro h
  pointwise [val_main_v222, val_main_v224, val_main_cst_24, val_main_cst_25]
  rw [h]
  rfl

theorem res20_eq : val_main_v249 (F := Ideal) x0 x1 x2 x3 = full (gate x0 x1 x2 x3 10752 (by decide)) := by
  funext i
  obtain ⟨b, t, x, rfl⟩ : ∃ (b : Fin 8) (t : Fin 4352) (x : Fin 1024), i = ix3 b t x := ⟨i 0, i 1, i 2, eq_ix3 i⟩
  refine Eq.trans ?_ (full_at _ _ b t x rfl rfl rfl).symm
  have h := part10752_at x0 x1 x2 x3 b t x
  unfold val_main_v249 val_main_v231 val_main_v229 val_main_v227 val_main_v226
  revert h
  generalize val_main_v210 (F := Ideal) x0 x1 x2 x3 = s
  intro h
  pointwise [val_main_v228, val_main_v230, val_main_cst_26, val_main_cst_27]
  rw [h]
  rfl

theorem res21_eq : val_main_v250 (F := Ideal) x0 x1 x2 x3 = full (gate x0 x1 x2 x3 11776 (by decide)) := by
  funext i
  obtain ⟨b, t, x, rfl⟩ : ∃ (b : Fin 8) (t : Fin 4352) (x : Fin 1024), i = ix3 b t x := ⟨i 0, i 1, i 2, eq_ix3 i⟩
  refine Eq.trans ?_ (full_at _ _ b t x rfl rfl rfl).symm
  have h := part11776_at x0 x1 x2 x3 b t x
  unfold val_main_v250 val_main_v237 val_main_v235 val_main_v233 val_main_v232
  revert h
  generalize val_main_v211 (F := Ideal) x0 x1 x2 x3 = s
  intro h
  pointwise [val_main_v234, val_main_v236, val_main_cst_28, val_main_cst_29]
  rw [h]
  rfl

end Cert.Proj.Reference

end
-- ==== Proof.Proj.RefOut.lean ====
/- The input projection's reference: the queries, keys and values. -/
module

public import proofs.«01_k».proof.Proof.Proj.RefAttn
public import proofs.«01_k».proof.Proof.Proj.Reference

@[expose] public section

set_option maxRecDepth 16384

noncomputable section

namespace Cert.Proj.Reference

open Idealize.ShloMosaic Idealize.ShloMosaic.TcCoe Idealize.SL.Sem Cert.Reference3Ideal Cert.Reference3Ideal.Read

variable (x0 : FVec Ideal S8x4352x1024 .f32) (x1 : FVec Ideal S9x1x6144 .f32) (x2 : FVec Ideal S1024 .f32) (x3 : FVec Ideal S1024x12800 .f32)
  (x4 x5 : FVec Ideal S64 .f32)

theorem merged_at (s : FVec Ideal S8x4352x16x64 .f32) (h : S8x4352x16x64.ShapeCasts S8x4352x1024) (b : Fin 8) (t : Fin 4352) (x : Fin 1024) :
    shapeCast S8x4352x1024 s h (ix3 b t x) = s (ix4 b t ⟨x.val / 64, by omega⟩ ⟨x.val % 64, by omega⟩) := by
  pointwise

theorem mergedQuery_at (b : Fin 8) (t : Fin 4352) (x : Fin 1024) :
    val_main_v213 (F := Ideal) x0 x1 x2 x3 x4 (ix3 b t x) = val_main_v212 (F := Ideal) x0 x1 x2 x3 x4 (ix4 b t ⟨x.val / 64, by omega⟩ ⟨x.val % 64, by omega⟩) := by
  unfold val_main_v213
  exact merged_at _ _ b t x

theorem scale_at (i : S8x4352x1024.Idx) : val_main_v214 (F := Ideal) i = Ideal.ofBits .f32 0x3E000000#32 := by
  rw [val_main_v214_apply]
  rfl

theorem scaled_at (b : Fin 8) (t : Fin 4352) (x : Fin 1024) :
    val_main_v245 (F := Ideal) x0 x1 x2 x3 x4 (ix3 b t x) = val_main_v213 (F := Ideal) x0 x1 x2 x3 x4 (ix3 b t x) * val_main_v214 (F := Ideal) (ix3 b t x) := by
  rw [val_main_v245_apply, val_main_v215_apply]
  generalize val_main_v213 (F := Ideal) x0 x1 x2 x3 x4 = s
  generalize val_main_v214 (F := Ideal) = s'
  rfl

theorem res16_eq : val_main_v245 (F := Ideal) x0 x1 x2 x3 x4 = full (query x0 x1 x2 x3 x4 (val_main_v30 (F := Ideal)) (val_main_v31 (F := Ideal))) := by
  funext i
  obtain ⟨b, t, x, rfl⟩ : ∃ (b : Fin 8) (t : Fin 4352) (x : Fin 1024), i = ix3 b t x := ⟨i 0, i 1, i 2, eq_ix3 i⟩
  refine Eq.trans ?_ (full_at _ _ b t x rfl rfl rfl).symm
  refine (scaled_at x0 x1 x2 x3 x4 b t x).trans ?_
  rw [scale_at, mergedQuery_at, queryHead_at]
  unfold query
  generalize Ideal.ofBits .f32 0x3E000000#32 = s
  rfl

theorem res17_eq : val_main_v246 (F := Ideal) x0 x1 x2 x3 x5 = split (key x0 x1 x2 x3 x5 (val_main_v30 (F := Ideal)) (val_main_v31 (F := Ideal))) := by
  funext i
  obtain ⟨b, a, t, d, rfl⟩ : ∃ (b : Fin 8) (a : Fin 4) (t : Fin 4352) (d : Fin 64), i = ix4 b a t d := ⟨i 0, i 1, i 2, i 3, eq_ix4 i⟩
  refine Eq.trans ?_ (split_at _ _ b a t d rfl rfl rfl rfl).symm
  have h := keyHead_at x0 x1 x2 x3 x5 b t
  unfold val_main_v246 val_main_v217
  revert h
  generalize val_main_v216 (F := Ideal) x0 x1 x2 x3 x5 = s
  generalize val_main_v30 (F := Ideal) = C
  generalize val_main_v31 (F := Ideal) = S
  intro h
  pointwise
  exact h _ _

theorem splitValue_at (s : FVec Ideal S8x4352x256 .f32) (h : S8x4352x256.ShapeCasts S8x4352x4x64) (b : Fin 8) (t : Fin 4352) (a : Fin 4) (d : Fin 64) :
    shapeCast S8x4352x4x64 s h (ix4 b t a d) = s (ix3 b t ⟨a.val * 64 + d.val, by omega⟩) := by
  pointwise

theorem values_at (b : Fin 8) (t : Fin 4352) (a : Fin 4) (d : Fin 64) :
    val_main_v218 (F := Ideal) x0 x1 x2 x3 (ix4 b t a d) = val_main_v208 (F := Ideal) x0 x1 x2 x3 (ix3 b t ⟨a.val * 64 + d.val, by omega⟩) := by
  unfold val_main_v218
  exact splitValue_at _ _ b t a d

theorem turnedHeads_at (s : FVec Ideal S8x4352x4x64 .f32) (h : S8x4352x4x64.Transposes [0, 2, 1, 3] S8x4x4352x64) (b : Fin 8) (a : Fin 4) (t : Fin 4352) (d : Fin 64) :
    transpose S8x4x4352x64 [0, 2, 1, 3] s h (ix4 b a t d) = s (ix4 b t a d) := by
  pointwise

theorem turnedValues_at (b : Fin 8) (a : Fin 4) (t : Fin 4352) (d : Fin 64) :
    val_main_v219 (F := Ideal) x0 x1 x2 x3 (ix4 b a t d) = val_main_v218 (F := Ideal) x0 x1 x2 x3 (ix4 b t a d) := by
  unfold val_main_v219
  exact turnedHeads_at _ _ b a t d

theorem narrowValues_at (i : S8x4x4352x64.Idx) : val_main_v247 (F := Ideal) x0 x1 x2 x3 i = val_main_v219 (F := Ideal) x0 x1 x2 x3 i := by
  rw [val_main_v247_apply]
  generalize val_main_v219 (F := Ideal) x0 x1 x2 x3 = s
  rfl

theorem res18_eq : val_main_v247 (F := Ideal) x0 x1 x2 x3 = split (value x0 x1 x2 x3) := by
  funext i
  obtain ⟨b, a, t, d, rfl⟩ : ∃ (b : Fin 8) (a : Fin 4) (t : Fin 4352) (d : Fin 64), i = ix4 b a t d := ⟨i 0, i 1, i 2, i 3, eq_ix4 i⟩
  refine Eq.trans ?_ (split_at _ _ b a t d rfl rfl rfl rfl).symm
  refine (narrowValues_at x0 x1 x2 x3 _).trans ((turnedValues_at x0 x1 x2 x3 b a t d).trans ((values_at x0 x1 x2 x3 b t a d).trans ?_))
  exact part9472_at x0 x1 x2 x3 b t ⟨a.val * 64 + d.val, by omega⟩

end Cert.Proj.Reference

end
-- ==== Proof.Proj.Claim.lean ====
/- The input projection's claim: on finite inputs of its attention part the kernel's results are the reference's. -/
module

public import proofs.«01_k».proof.Defs
public import proofs.«01_k».proof.Proof.Attn.Claim
public import proofs.«01_k».proof.Proof.Proj.Final
public import proofs.«01_k».proof.Proof.Proj.RefOut
public import proofs.«01_k».proof.Proof.Gen.Reference3Ideal.Run
public import Idealize.ShloMosaic.Lib.Claim

@[expose] public section

set_option maxRecDepth 16384

noncomputable section

namespace Cert.Proj

open Idealize.ShloMosaic Idealize.ShloMosaic.TcCoe Idealize.SL.Sem Cert.Attn Cert.Kernel3Ideal

/-- The side conditions of the precondition's operations. -/
theorem preFacts : Cert.Pre_finite_projection_inputs.Facts where
  slices_S1024x12800_S1024x1280_0_8192 := by decide
  bcast_S_S8x4352x1024 := by decide
  slices_S9x1x6144_S9x1x2048_0_0_0 := by decide
  bcast_S_S9x1x2048 := by decide
  bcast_S_S1024 := by decide
  bcast_S_S1024x1280 := by decide

attribute [local instance] preFacts

section Finite

variable (xc : FVec Ideal S8x4352x1024 .f32) (mod : FVec Ideal S9x1x6144 .f32) (g : FVec Ideal S1024 .f32) (w : FVec Ideal S1024x12800 .f32)
  (qg kg : FVec Ideal S64 .f32)

theorem finite_tokens (h : (Cert.Pre_finite_projection_inputs.fn (F := Ideal) xc mod g w qg kg).1 = fun _ => 1#1) (b : Fin 8) (t : Fin 4352) (d : Fin 1024) :
    IsReal (xc (ix3 b t d)) := by
  have e := congrFun h (ix3 b t d)
  unfold Cert.Pre_finite_projection_inputs.fn at e
  pointwise [ofBits_inf] at e
  exact isReal_of_test e

theorem finite_modulation (h : (Cert.Pre_finite_projection_inputs.fn (F := Ideal) xc mod g w qg kg).2.1 = fun _ => 1#1) (r : Fin 9) (d : Fin 2048) :
    IsReal (mod (ix3 r 0 ⟨d.val, by omega⟩)) := by
  have e := congrFun h (ix3 r 0 d)
  unfold Cert.Pre_finite_projection_inputs.fn at e
  pointwise [ofBits_inf] at e
  exact isReal_of_test e

theorem finite_gain (h : (Cert.Pre_finite_projection_inputs.fn (F := Ideal) xc mod g w qg kg).2.2.1 = fun _ => 1#1) (d : Fin 1024) :
    IsReal (g (ix1 d)) := by
  have e := congrFun h (ix1 d)
  unfold Cert.Pre_finite_projection_inputs.fn at e
  pointwise [ofBits_inf] at e
  exact isReal_of_test e

theorem finite_weights (h : (Cert.Pre_finite_projection_inputs.fn (F := Ideal) xc mod g w qg kg).2.2.2 = fun _ => 1#1) (d : Fin 1024) (x : Fin 1280) :
    IsReal (w (ix2 d ⟨8192 + x.val, by omega⟩)) := by
  have e := congrFun h (ix2 d x)
  unfold Cert.Pre_finite_projection_inputs.fn at e
  pointwise [ofBits_inf] at e
  exact isReal_of_test e

/-- The attention's columns of the projection are finite. -/
theorem finite_col (h0 : (Cert.Pre_finite_projection_inputs.fn (F := Ideal) xc mod g w qg kg).1 = fun _ => 1#1)
    (h1 : (Cert.Pre_finite_projection_inputs.fn (F := Ideal) xc mod g w qg kg).2.1 = fun _ => 1#1)
    (h2 : (Cert.Pre_finite_projection_inputs.fn (F := Ideal) xc mod g w qg kg).2.2.1 = fun _ => 1#1)
    (h3 : (Cert.Pre_finite_projection_inputs.fn (F := Ideal) xc mod g w qg kg).2.2.2 = fun _ => 1#1) (b : Fin 8) (t : Fin 4352) (x : Fin 1280) :
    IsReal (col xc mod g w b t ⟨8192 + x.val, by omega⟩) :=
  isReal_proj
    (isReal_hidden (fun d => finite_tokens xc mod g w qg kg h0 b t d)
      (fun d => finite_modulation xc mod g w qg kg h1 (modRow b t) ⟨d.val, by omega⟩)
      (fun d => finite_modulation xc mod g w qg kg h1 (modRow b t) ⟨1024 + d.val, by omega⟩)
      (fun d => finite_gain xc mod g w qg kg h2 d))
    (fun d => finite_weights xc mod g w qg kg h3 d x)

end Finite

theorem congr_four {A B C D R : Type} (f : A → B → C → D → R) {a a' : A} {b b' : B} {c c' : C} {d d' : D}
    (ha : a = a') (hb : b = b') (hc : c = c') (hd : d = d') : f a b c d = f a' b' c' d' := by
  rw [ha, hb, hc, hd]

theorem congr_five {A B C D E R : Type} (f : A → B → C → D → E → R) {a a' : A} {b b' : B} {c c' : C} {d d' : D} {e e' : E}
    (ha : a = a') (hb : b = b') (hc : c = c') (hd : d = d') (he : e = e') : f a b c d e = f a' b' c' d' e' := by
  rw [ha, hb, hc, hd, he]

set_option maxHeartbeats 4000000 in
theorem algebraic : Cert.algebraic_Kernel3Ideal_Reference3Ideal_pre_finite_projection_inputs
    (hKernel3Ideal := Cert.Kernel3Ideal.Gen.facts) (hReference3Ideal := Cert.Reference3Ideal.Gen.facts) := by
  intro m g m' g' hpre hagree
  refine ⟨fun c => full (first (Array.aX m c) (Array.aM m c) (Array.aG m c) (Array.aW m c)),
    fun c => full (part (Array.aX m c) (Array.aM m c) (Array.aG m c) (Array.aW m c) 1024 (by decide)),
    fun c => full (part (Array.aX m c) (Array.aM m c) (Array.aG m c) (Array.aW m c) 2048 (by decide)),
    fun c => full (part (Array.aX m c) (Array.aM m c) (Array.aG m c) (Array.aW m c) 3072 (by decide)),
    fun c => full (gated (Array.aX m c) (Array.aM m c) (Array.aG m c) (Array.aW m c)),
    fun c => full (part (Array.aX m c) (Array.aM m c) (Array.aG m c) (Array.aW m c) 5120 (by decide)),
    fun c => full (inner (Array.aX m c) (Array.aM m c) (Array.aG m c) (Array.aW m c)),
    fun c => full (query (Array.aX m c) (Array.aM m c) (Array.aG m c) (Array.aW m c) (Array.aQ m c) Array.cosR Array.sinR),
    fun c => split (key (Array.aX m c) (Array.aM m c) (Array.aG m c) (Array.aW m c) (Array.aK m c) Array.cosR Array.sinR),
    fun c => split (value (Array.aX m c) (Array.aM m c) (Array.aG m c) (Array.aW m c)),
    fun c => full (gate (Array.aX m c) (Array.aM m c) (Array.aG m c) (Array.aW m c) 9728 (by decide)),
    fun c => full (gate (Array.aX m c) (Array.aM m c) (Array.aG m c) (Array.aW m c) 10752 (by decide)),
    fun c => full (gate (Array.aX m c) (Array.aM m c) (Array.aG m c) (Array.aW m c) 11776 (by decide)), ?_, ?_⟩
  · refine (θ_run _ _ _).mono (fun r h c => ?_) (Cert.Kernel3Ideal.Value.run_blocks m g)
    obtain ⟨h9, h10, h11, h12, h13, h14, h15, h16, h17, h18, h19, h20, h21, hr⟩ := h c
    obtain ⟨p0, p1, p2, p3⟩ := hpre c
    have hf := finite_col _ _ _ _ _ _ p0 p1 p2 p3
    have hq : ∀ b t (x : Fin 1024), IsReal (col (Array.aX m c) (Array.aM m c) (Array.aG m c) (Array.aW m c) b t ⟨8192 + x.val, by omega⟩) :=
      fun b t x => hf b t ⟨x.val, by omega⟩
    have hk : ∀ b t (x : Fin 256), IsReal (col (Array.aX m c) (Array.aM m c) (Array.aG m c) (Array.aW m c) b t ⟨9216 + x.val, by omega⟩) := fun b t x => by
      have e : 8192 + (1024 + x.val) = 9216 + x.val := by omega
      have h := hf b t ⟨1024 + x.val, by omega⟩
      simp only [e] at h
      exact h
    exact ⟨h9.trans (Array.final9 m c), h10.trans (Array.final10 m c), h11.trans (Array.final11 m c), h12.trans (Array.final12 m c), h13.trans (Array.final13 m c), h14.trans (Array.final14 m c), h15.trans (Array.final15 m c), h16.trans (Array.final16 m c hq), h17.trans (Array.final17 m c hk), h18.trans (Array.final18 m c), h19.trans (Array.final19 m c), h20.trans (Array.final20 m c), h21.trans (Array.final21 m c), hr⟩
  · refine (θ_run _ _ _).mono (fun r h c => ?_) (Cert.Reference3Ideal.Value.run m' g')
    obtain ⟨h9, h10, h11, h12, h13, h14, h15, h16, h17, h18, h19, h20, h21, hr⟩ := h c
    obtain ⟨e0, e1, e2, e3, e4, e5⟩ := hagree c
    refine ⟨?_, ?_, ?_, ?_, ?_, ?_, ?_, ?_, ?_, ?_, ?_, ?_, ?_, hr⟩
    · exact (h9.trans (Cert.Reference3Ideal.Read.val_main_v238_eq _)).trans ((Reference.res9_eq _ _ _ _).trans (congr_four (fun a b d e => full (first a b d e)) e0 e1 e2 e3))
    · exact (h10.trans (Cert.Reference3Ideal.Read.val_main_v199_eq _)).trans ((Reference.res10_eq _ _ _ _).trans (congr_four (fun a b d e => full (part a b d e 1024 (by decide))) e0 e1 e2 e3))
    · exact (h11.trans (Cert.Reference3Ideal.Read.val_main_v200_eq _)).trans ((Reference.res11_eq _ _ _ _).trans (congr_four (fun a b d e => full (part a b d e 2048 (by decide))) e0 e1 e2 e3))
    · exact (h12.trans (Cert.Reference3Ideal.Read.val_main_v239_eq _)).trans ((Reference.res12_eq _ _ _ _).trans (congr_four (fun a b d e => full (part a b d e 3072 (by decide))) e0 e1 e2 e3))
    · exact (h13.trans (Cert.Reference3Ideal.Read.val_main_v241_eq _)).trans ((Reference.res13_eq _ _ _ _).trans (congr_four (fun a b d e => full (gated a b d e)) e0 e1 e2 e3))
    · exact (h14.trans (Cert.Reference3Ideal.Read.val_main_v242_eq _)).trans ((Reference.res14_eq _ _ _ _).trans (congr_four (fun a b d e => full (part a b d e 5120 (by decide))) e0 e1 e2 e3))
    · exact (h15.trans (Cert.Reference3Ideal.Read.val_main_v244_eq _)).trans ((Reference.res15_eq _ _ _ _).trans (congr_four (fun a b d e => full (inner a b d e)) e0 e1 e2 e3))
    · exact (h16.trans (Cert.Reference3Ideal.Read.val_main_v245_eq _)).trans ((Reference.res16_eq _ _ _ _ _).trans (congr_five (fun a b d e f => full (query a b d e f Array.cosR Array.sinR)) e0 e1 e2 e3 e4))
    · exact (h17.trans (Cert.Reference3Ideal.Read.val_main_v246_eq _)).trans ((Reference.res17_eq _ _ _ _ _).trans (congr_five (fun a b d e f => split (key a b d e f Array.cosR Array.sinR)) e0 e1 e2 e3 e5))
    · exact (h18.trans (Cert.Reference3Ideal.Read.val_main_v247_eq _)).trans ((Reference.res18_eq _ _ _ _).trans (congr_four (fun a b d e => split (value a b d e)) e0 e1 e2 e3))
    · exact (h19.trans (Cert.Reference3Ideal.Read.val_main_v248_eq _)).trans ((Reference.res19_eq _ _ _ _).trans (congr_four (fun a b d e => full (gate a b d e 9728 (by decide))) e0 e1 e2 e3))
    · exact (h20.trans (Cert.Reference3Ideal.Read.val_main_v249_eq _)).trans ((Reference.res20_eq _ _ _ _).trans (congr_four (fun a b d e => full (gate a b d e 10752 (by decide))) e0 e1 e2 e3))
    · exact (h21.trans (Cert.Reference3Ideal.Read.val_main_v250_eq _)).trans ((Reference.res21_eq _ _ _ _).trans (congr_four (fun a b d e => full (gate a b d e 11776 (by decide))) e0 e1 e2 e3))

end Cert.Proj

end
-- ==== Proof.Merge.Row.lean ====
/- The merge of one token, by coordinates: the convolution's branch, the gated sum of the mixers' projections, the residual
   and the router's weights. -/
module

public import proofs.«01_k».proof.Proof.Proj.Row

@[expose] public section

noncomputable section

namespace Cert.Merge

open Idealize.ShloMosaic Cert.Attn Cert.Proj

/-- The convolution's branch: a token's columns and its neighbours', weighted and gated. -/
def convRow (w : Fin 3 → Fin 1024 → EReal) (p u n g : Fin 1024 → EReal) (x : Fin 1024) : EReal :=
  g x * (w 0 x * p x + w 1 x * u x + w 2 x * n x)

/-- The mixers' projections, gated and summed. -/
def mixRow (ga gb gc a b c : Fin 1024 → EReal) (wa wb wc : Fin 1024 → Fin 1024 → EReal) (x : Fin 1024) : EReal :=
  ga x * proj a (fun d => wa d x) + gb x * proj b (fun d => wb d x) + gc x * proj c (fun d => wc d x)

/-- The residual: a token's columns plus its gated output projection. -/
def residual (x g y : Fin 1024 → EReal) (w : Fin 1024 → Fin 1024 → EReal) (j : Fin 1024) : EReal := x j + g j * proj y (fun d => w d j)

/-- The router's weights: a softmax of its scores. -/
def softmax (l : Fin 16 → EReal) (e : Fin 16) : EReal :=
  Ideal.div (Ideal.exp (l e - rowMax l)) (∑ k, Ideal.exp (l k - rowMax l))

end Cert.Merge

end
-- ==== Proof.Merge.Block.lean ====
/- What the merge's body leaves in its result blocks, by coordinates. -/
module

public import proofs.«01_k».proof.Proof.Gen.Kernel4Ideal.Frame
public import proofs.«01_k».proof.Proof.Merge.Row
public import proofs.«01_k».proof.Proof.Attn.Layout
public import Idealize.ShloMosaic.Lib.Pipeline.ValueKit

@[expose] public section

set_option maxRecDepth 16384

noncomputable section

namespace Cert.Merge.Block

open Idealize.ShloMosaic Idealize.ShloMosaic.TcCoe Idealize.SL.Sem Cert.Kernel4Ideal Cert.Kernel4Ideal.Gen Cert.Proj Cert.Attn

theorem cur_at (v2 : FVec Ideal S1x256x1024 .bf16) (r : Fin 256) (x : Fin 1024) : k0_pay5 (F := Ideal) v2 (ix2 r x) = v2 (ix3 0 r x) := by
  pointwise [k0_pay5]

theorem prev_at (i : grid0.Coords) (v2 : FVec Ideal S1x256x1024 .bf16) (v12 : FVec Ideal S1x1x1024 .bf16) (r : Fin 256) (x : Fin 1024) :
    k0_pay6 (F := Ideal) i v2 v12 (ix2 r x)
      = if r.val = 0 then (if (i 1).val = 0 ∨ (i 1).val = 1 then 0 else v12 (ix3 0 0 x)) else v2 (ix3 0 ⟨r.val - 1, by omega⟩ x) := by
  have h := cur_at v2
  unfold k0_pay6
  revert h
  generalize k0_pay5 (F := Ideal) v2 = s
  intro h
  pointwise
  have hi := (by decide +kernel : ∀ k : Fin 17, Scalar.andi (Scalar.cmpi CmpIPredicate.ne (BitVec.ofNat 32 k.val) 0#32)
      (Scalar.cmpi CmpIPredicate.ne (BitVec.ofNat 32 k.val) 1#32) = if k.val = 0 ∨ k.val = 1 then 0#1 else 1#1) (i 1)
  have hr := (by decide +kernel : ∀ k : Fin 256, IntOp.cmpi CmpIPredicate.eq (BitVec.ofNat 32 k.val) 0#32 = if k.val = 0 then 1#1 else 0#1) r
  rw [hi, hr]
  by_cases h0 : r.val = 0
  · by_cases h1 : (i 1).val = 0 ∨ (i 1).val = 1
    · simp [h0, h1, Scalar.select]
    · simp [h0, h1, Scalar.select]
  · rw [if_neg h0, if_neg h0]
    refine Eq.trans (b := s (ix2 ⟨(r.val + 256 - 1) % 256, by omega⟩ x)) (by simp [Scalar.select]) ?_
    refine (h _ x).trans (congrArg (fun k => v2 (ix3 0 k x)) (Fin.ext ?_))
    dsimp only
    omega

theorem next_at (i : grid0.Coords) (v2 : FVec Ideal S1x256x1024 .bf16) (v17 : FVec Ideal S1x1x1024 .bf16) (r : Fin 256) (x : Fin 1024) :
    k0_pay7 (F := Ideal) i v2 v17 (ix2 r x)
      = if r.val = 255 then (if (i 1).val = 0 ∨ (i 1).val = 16 then 0 else v17 (ix3 0 0 x)) else v2 (ix3 0 ⟨(r.val + 1) % 256, by omega⟩ x) := by
  have h := cur_at v2
  unfold k0_pay7
  revert h
  generalize k0_pay5 (F := Ideal) v2 = s
  intro h
  pointwise
  have hi := (by decide +kernel : ∀ k : Fin 17, Scalar.andi (Scalar.cmpi CmpIPredicate.ne (BitVec.ofNat 32 k.val) 0#32)
      (Scalar.cmpi CmpIPredicate.ne (BitVec.ofNat 32 k.val) 16#32) = if k.val = 0 ∨ k.val = 16 then 0#1 else 1#1) (i 1)
  have hr := (by decide +kernel : ∀ k : Fin 256, IntOp.cmpi CmpIPredicate.eq (BitVec.ofNat 32 k.val) 255#32 = if k.val = 255 then 1#1 else 0#1) r
  rw [hi, hr]
  by_cases h0 : r.val = 255
  · by_cases h1 : (i 1).val = 0 ∨ (i 1).val = 16
    · simp [h0, h1, Scalar.select]
    · simp [h0, h1, Scalar.select]
  · rw [if_neg h0, if_neg h0]
    refine Eq.trans (b := s (ix2 ⟨(r.val + 256 - 255) % 256, by omega⟩ x)) (by simp [Scalar.select]) ?_
    refine (h _ x).trans (congrArg (fun k => v2 (ix3 0 k x)) (Fin.ext ?_))
    dsimp only
    omega

theorem mix_at (v4 v27 v33 : FVec Ideal S256x1024 .f32) (v34 : FVec Ideal S3x1024 .f32) (v46 v51 v54 v60 : FVec Ideal S1x256x1024 .bf16)
    (v56 v63 : FVec Ideal S1024x1024 .bf16) (r : Fin 256) (x : Fin 1024) :
    k0_pay8 (F := Ideal) v4 v27 v33 v34 v46 v51 v54 v56 v60 v63 (ix2 r x)
      = v51 (ix3 0 r x) * proj (fun d => v54 (ix3 0 r d)) (fun d => v56 (ix2 d x))
        + v60 (ix3 0 r x) * proj (convRow (fun k d => v34 (ix2 k d)) (fun d => v27 (ix2 r d)) (fun d => v4 (ix2 r d)) (fun d => v33 (ix2 r d)) (fun d => v46 (ix3 0 r d)))
            (fun d => v63 (ix2 d x)) := by
  unfold k0_pay8
  pointwise
  rfl

theorem merged_at (v1 : FVec Ideal S1x6144 .f32) (v67 v70 : FVec Ideal S256x1024 .f32) (v71 : FVec Ideal S1x256x1024 .bf16)
    (v73 v82 : FVec Ideal S1024x1024 .bf16) (v78 : FVec Ideal S1x256x1024 .f32) (r : Fin 256) (j : Fin 1024) :
    k0_pay10 (F := Ideal) v1 v67 v70 v71 v73 v78 v82 (ix2 r j)
      = residual (fun d => v78 (ix3 0 r d)) (fun d => v1 (ix2 0 ⟨2048 + d.val, by omega⟩))
          (fun x => v67 (ix2 r x) + v70 (ix2 r x) * proj (fun d => v71 (ix3 0 r d)) (fun d => v73 (ix2 d x))) (fun d j => v82 (ix2 d j)) j := by
  unfold k0_pay10
  pointwise
  rfl

theorem normed_at (v1 : FVec Ideal S1x6144 .f32) (v67 v70 : FVec Ideal S256x1024 .f32) (v71 : FVec Ideal S1x256x1024 .bf16)
    (v73 v82 : FVec Ideal S1024x1024 .bf16) (v78 : FVec Ideal S1x256x1024 .f32) (v91 : FVec Ideal S1x1024 .f32) (r : Fin 256) (j : Fin 1024) :
    k0_pay1 (F := Ideal) (k0_pay12 v1) (k0_pay13 (F := Ideal) v1 v67 v70 v71 v73 v78 v82 v91) (ix2 r j)
      = hidden (fun d => k0_pay10 (F := Ideal) v1 v67 v70 v71 v73 v78 v82 (ix2 r d)) (fun d => v1 (ix2 0 ⟨3072 + d.val, by omega⟩))
          (fun d => v1 (ix2 0 ⟨4096 + d.val, by omega⟩)) (fun d => v91 (ix2 0 d)) j := by
  unfold k0_pay1 k0_pay12 k0_pay13
  generalize k0_pay10 (F := Ideal) v1 v67 v70 v71 v73 v78 v82 = s
  pointwise
  rfl

theorem chances_at (v93 : FVec Ideal S1x1024 .f32) (v110 : FVec Ideal S256x1024 .f32) (v117 : FVec Ideal S16x1024 .f32) (e : Fin 16) (r : Fin 256) :
    k0_pay3 (F := Ideal) v93 v110 v117 (ix3 0 e r)
      = softmax (fun k => proj (fun d => k0_pay1 (F := Ideal) v93 v110 (ix2 r d)) (fun d => v117 (ix2 k d))) e := by
  unfold k0_pay3
  generalize k0_pay1 (F := Ideal) v93 v110 = s
  pointwise
  rw [show Ideal.ofBits FTy.f32 4286578688#32 = ⊥ from ofBits_neg_inf]
  have e : ∀ k : Fin 16, ∑ d, v117 (ix2 k d) * s (ix2 r d) = proj (fun d => s (ix2 r d)) (fun d => v117 (ix2 k d)) :=
    fun k => Finset.sum_congr rfl fun d _ => mul_comm _ _
  simp only [e]
  rfl

/-- The rows before a tile's rows: within the tile, or from the tile before where the stream goes on. -/
def rowBefore (i : grid0.Coords) (u : FVec Ideal S1x256x1024 .bf16) (h : Fin 1024 → EReal) (r : Fin 256) (x : Fin 1024) : EReal :=
  if r.val = 0 then (if (i 1).val = 0 ∨ (i 1).val = 1 then 0 else h x) else u (ix3 0 ⟨r.val - 1, by omega⟩ x)

/-- The rows after a tile's rows. -/
def rowAfter (i : grid0.Coords) (u : FVec Ideal S1x256x1024 .bf16) (h : Fin 1024 → EReal) (r : Fin 256) (x : Fin 1024) : EReal :=
  if r.val = 255 then (if (i 1).val = 0 ∨ (i 1).val = 16 then 0 else h x) else u (ix3 0 ⟨(r.val + 1) % 256, by omega⟩ x)

/-- A tile's merged row, of the tile's blocks. -/
def mergedB (i : grid0.Coords) (x0 : FVec Ideal S1x256x1024 .f32) (x1 : FVec Ideal S1x1x6144 .f32) (x2 x3 x4 : FVec Ideal S1x256x1024 .bf16)
    (p n : Fin 1024 → EReal) (x7 x8 x9 x10 : FVec Ideal S1x256x1024 .bf16) (x11 : FVec Ideal S3x1024 .f32)
    (x12 x13 x14 x15 : FVec Ideal S1024x1024 .bf16) (r : Fin 256) : Fin 1024 → EReal :=
  residual (fun d => x0 (ix3 0 r d)) (fun d => x1 (ix3 0 0 ⟨2048 + d.val, by omega⟩))
    (mixRow (fun d => x8 (ix3 0 r d)) (fun d => x9 (ix3 0 r d)) (fun d => x10 (ix3 0 r d)) (fun d => x2 (ix3 0 r d))
      (convRow (fun k d => x11 (ix2 k d)) (rowBefore i x4 p r) (fun d => x4 (ix3 0 r d)) (rowAfter i x4 n r) (fun d => x3 (ix3 0 r d)))
      (fun d => x7 (ix3 0 r d)) (fun d x => x12 (ix2 d x)) (fun d x => x13 (ix2 d x)) (fun d x => x14 (ix2 d x)))
    (fun d j => x15 (ix2 d j))

/-- A tile's normed row. -/
def normedB (x1 : FVec Ideal S1x1x6144 .f32) (x16 : FVec Ideal S1x1024 .f32) (s : Fin 1024 → EReal) : Fin 1024 → EReal :=
  hidden s (fun d => x1 (ix3 0 0 ⟨3072 + d.val, by omega⟩)) (fun d => x1 (ix3 0 0 ⟨4096 + d.val, by omega⟩)) (fun d => x16 (ix2 0 d))

variable (i : grid0.Coords) (x0 : FVec Ideal S1x256x1024 .f32) (x1 : FVec Ideal S1x1x6144 .f32) (x2 x3 x4 : FVec Ideal S1x256x1024 .bf16)

section
variable (p n : FVec Ideal S1x1x1024 .bf16)
  (x7 x8 x9 x10 : FVec Ideal S1x256x1024 .bf16) (x11 : FVec Ideal S3x1024 .f32) (x12 x13 x14 x15 : FVec Ideal S1024x1024 .bf16) (x16 : FVec Ideal S1x1024 .f32)
  (x17 : FVec Ideal S16x1024 .f32)

theorem table_at (x : Fin 6144) : k0_pay4 (F := Ideal) x1 (ix2 0 x) = x1 (ix3 0 0 x) := by
  pointwise [k0_pay4]

theorem gate_at (r : Fin 256) (x : Fin 1024) : k0_pay9 (F := Ideal) x10 (ix2 r x) = x10 (ix3 0 r x) := by
  pointwise [k0_pay9]

theorem mergedB_at (r : Fin 256) (j : Fin 1024) :
    k0_pay10 (F := Ideal) (k0_pay4 x1) (k0_pay8 (k0_pay5 x4) (k0_pay6 i x4 p) (k0_pay7 i x4 n) x11 x3 x8 x2 x12 x9 x13) (k0_pay9 x10) x7 x14 x0 x15 (ix2 r j)
      = mergedB i x0 x1 x2 x3 x4 (fun x => p (ix3 0 0 x)) (fun x => n (ix3 0 0 x)) x7 x8 x9 x10 x11 x12 x13 x14 x15 r j := by
  rw [merged_at]
  simp only [mix_at, table_at, gate_at, cur_at, prev_at, next_at]
  rfl

theorem normedB_at (r : Fin 256) (j : Fin 1024) :
    k0_pay1 (F := Ideal) (k0_pay12 (k0_pay4 x1)) (k0_pay13 (F := Ideal) (k0_pay4 x1) (k0_pay8 (k0_pay5 x4) (k0_pay6 i x4 p) (k0_pay7 i x4 n) x11 x3 x8 x2 x12 x9 x13)
        (k0_pay9 x10) x7 x14 x0 x15 x16) (ix2 r j)
      = normedB x1 x16 (mergedB i x0 x1 x2 x3 x4 (fun x => p (ix3 0 0 x)) (fun x => n (ix3 0 0 x)) x7 x8 x9 x10 x11 x12 x13 x14 x15 r) j := by
  rw [normed_at]
  simp only [mergedB_at, table_at]
  rfl

theorem chancesB_at (e : Fin 16) (r : Fin 256) :
    k0_pay3 (F := Ideal) (k0_pay12 (k0_pay4 x1)) (k0_pay13 (F := Ideal) (k0_pay4 x1) (k0_pay8 (k0_pay5 x4) (k0_pay6 i x4 p) (k0_pay7 i x4 n) x11 x3 x8 x2 x12 x9 x13)
        (k0_pay9 x10) x7 x14 x0 x15 x16) x17 (ix3 0 e r)
      = softmax (fun k => proj (normedB x1 x16 (mergedB i x0 x1 x2 x3 x4 (fun x => p (ix3 0 0 x)) (fun x => n (ix3 0 0 x)) x7 x8 x9 x10 x11 x12 x13 x14 x15 r))
          (fun d => x17 (ix2 k d))) e := by
  rw [chances_at]
  simp only [normedB_at]

end

variable (x5 x6 : FVec Ideal S1x16x1024 .bf16)
  (x7 x8 x9 x10 : FVec Ideal S1x256x1024 .bf16) (x11 : FVec Ideal S3x1024 .f32) (x12 x13 x14 x15 : FVec Ideal S1024x1024 .bf16) (x16 : FVec Ideal S1x1024 .f32)
  (x17 : FVec Ideal S16x1024 .f32)

theorem store_at (v1 : FVec Ideal S1x6144 .f32) (v67 v70 : FVec Ideal S256x1024 .f32) (v71 : FVec Ideal S1x256x1024 .bf16)
    (v73 v82 : FVec Ideal S1024x1024 .bf16) (v78 : FVec Ideal S1x256x1024 .f32) (r : Fin 256) (j : Fin 1024) :
    k0_pay11 (F := Ideal) v1 v67 v70 v71 v73 v78 v82 (ix3 0 r j) = k0_pay10 (F := Ideal) v1 v67 v70 v71 v73 v78 v82 (ix2 r j) := by
  unfold k0_pay11
  generalize k0_pay10 (F := Ideal) v1 v67 v70 v71 v73 v78 v82 = s
  pointwise

theorem store_normed_at (v93 : FVec Ideal S1x1024 .f32) (v110 : FVec Ideal S256x1024 .f32) (r : Fin 256) (j : Fin 1024) :
    k0_pay2 (F := Ideal) v93 v110 (ix3 0 r j) = k0_pay1 (F := Ideal) v93 v110 (ix2 r j) := by
  unfold k0_pay2
  generalize k0_pay1 (F := Ideal) v93 v110 = s
  pointwise

/-- Equal halo rows give equal merged rows. -/
theorem mergedB_congr {p p' n n' : Fin 1024 → EReal} (hp : ∀ x, p x = p' x) (hn : ∀ x, n x = n' x) (r : Fin 256) :
    mergedB i x0 x1 x2 x3 x4 p n x7 x8 x9 x10 x11 x12 x13 x14 x15 r = mergedB i x0 x1 x2 x3 x4 p' n' x7 x8 x9 x10 x11 x12 x13 x14 x15 r := by
  rw [show p = p' from funext hp, show n = n' from funext hn]

theorem out18_at (r : Fin 256) (j : Fin 1024) :
    out0_18 (F := Ideal) i x0 x1 x2 x3 x4 x5 x6 x7 x8 x9 x10 x11 x12 x13 x14 x15 x16 x17 (ix3 0 r j) = mergedB i x0 x1 x2 x3 x4 (fun x => x5 (ix3 0 15 x)) (fun x => x6 (ix3 0 0 x)) x7 x8 x9 x10 x11 x12 x13 x14 x15 r j := by
  unfold_out out0_18
  frame_out
  refine (store_at _ _ _ _ _ _ _ r j).trans ((mergedB_at _ _ _ _ _ _ _ _ _ _ _ _ _ _ _ _ _ r j).trans ?_)
  refine congrFun (mergedB_congr _ _ _ _ _ _ _ _ _ _ _ _ _ _ _ (fun x => ?_) (fun x => ?_) r) j
  · pointwise
  · pointwise

theorem out19_at (r : Fin 256) (j : Fin 1024) :
    out0_19 (F := Ideal) i x0 x1 x2 x3 x4 x5 x6 x7 x8 x9 x10 x11 x12 x13 x14 x15 x16 x17 (ix3 0 r j) = normedB x1 x16 (mergedB i x0 x1 x2 x3 x4 (fun x => x5 (ix3 0 15 x)) (fun x => x6 (ix3 0 0 x)) x7 x8 x9 x10 x11 x12 x13 x14 x15 r) j := by
  unfold_out out0_19
  frame_out
  refine (store_normed_at _ _ r j).trans ((normedB_at _ _ _ _ _ _ _ _ _ _ _ _ _ _ _ _ _ _ r j).trans ?_)
  refine congrFun (congrArg (normedB x1 x16) (mergedB_congr _ _ _ _ _ _ _ _ _ _ _ _ _ _ _ (fun x => ?_) (fun x => ?_) r)) j
  · pointwise
  · pointwise

theorem out20_at (e : Fin 16) (r : Fin 256) :
    out0_20 (F := Ideal) i x0 x1 x2 x3 x4 x5 x6 x7 x8 x9 x10 x11 x12 x13 x14 x15 x16 x17 (ix3 0 e r) = softmax (fun k => proj (normedB x1 x16 (mergedB i x0 x1 x2 x3 x4 (fun x => x5 (ix3 0 15 x)) (fun x => x6 (ix3 0 0 x)) x7 x8 x9 x10 x11 x12 x13 x14 x15 r)) (fun d => x17 (ix2 k d))) e := by
  unfold_out out0_20
  frame_out
  refine (chancesB_at _ _ _ _ _ _ _ _ _ _ _ _ _ _ _ _ _ _ _ e r).trans ?_
  refine congrArg (fun s => softmax (fun k => proj (normedB x1 x16 s) (fun d => x17 (ix2 k d))) e) (mergedB_congr _ _ _ _ _ _ _ _ _ _ _ _ _ _ _ (fun x => ?_) (fun x => ?_) r)
  · pointwise
  · pointwise

end Cert.Merge.Block

end
-- ==== Proof.Merge.Spec.lean ====
/- The merge's results as functions of its arguments: the merged rows, their modulated norm, and the router's weights. -/
module

public import proofs.«01_k».proof.Proof.Gen.Kernel4Ideal
public import proofs.«01_k».proof.Proof.Merge.Row
public import proofs.«01_k».proof.Proof.Proj.Spec

@[expose] public section

set_option maxRecDepth 16384

noncomputable section

namespace Cert.Merge

open Idealize.ShloMosaic Cert.Kernel4Ideal Cert.Attn Cert.Proj

section
variable (cu : FVec Ideal S8x4352x1024 .bf16)

/-- The row before a token in its stream: zero before the first context and the first latent token. -/
def prev (b : Fin 8) (t : Fin 4352) (x : Fin 1024) : EReal :=
  if t.val = 0 ∨ t.val = 256 then 0 else cu (ix3 b ⟨t.val - 1, by omega⟩ x)

/-- The row after a token in its stream: zero after the last context and the last latent token. -/
def next (b : Fin 8) (t : Fin 4352) (x : Fin 1024) : EReal :=
  if t.val = 255 ∨ t.val = 4351 then 0 else cu (ix3 b ⟨(t.val + 1) % 4352, by omega⟩ x)
end

variable (xc : FVec Ideal S8x4352x1024 .f32) (mod : FVec Ideal S9x1x6144 .f32) (a cb cu att ga gb gc : FVec Ideal S8x4352x1024 .bf16)
  (cw : FVec Ideal S3x1024 .f32) (wa wb wc wo : FVec Ideal S1024x1024 .f32) (g2 : FVec Ideal S1024 .f32) (wr : FVec Ideal S1024x16 .f32)

/-- The convolution's branch of a token. -/
def branch (b : Fin 8) (t : Fin 4352) : Fin 1024 → EReal :=
  convRow (fun k d => cw (ix2 k d)) (prev cu b t) (fun d => cu (ix3 b t d)) (next cu b t) (fun d => cb (ix3 b t d))

/-- The mixers' gated sum of a token. -/
def mixed (b : Fin 8) (t : Fin 4352) : Fin 1024 → EReal :=
  mixRow (fun d => ga (ix3 b t d)) (fun d => gb (ix3 b t d)) (fun d => gc (ix3 b t d)) (fun d => a (ix3 b t d)) (branch cb cu cw b t)
    (fun d => att (ix3 b t d)) (fun d x => wa (ix2 d x)) (fun d x => wb (ix2 d x)) (fun d x => wc (ix2 d x))

/-- A token's merged columns. -/
def merged (b : Fin 8) (t : Fin 4352) : Fin 1024 → EReal :=
  residual (fun d => xc (ix3 b t d)) (fun d => mod (ix3 (modRow b t) 0 ⟨2048 + d.val, by omega⟩))
    (mixed a cb cu att ga gb gc cw wa wb wc b t) (fun d j => wo (ix2 d j))

/-- A row's modulated norm. -/
def renorm (s : Fin 1024 → EReal) (b : Fin 8) (t : Fin 4352) : Fin 1024 → EReal :=
  hidden s (fun d => mod (ix3 (modRow b t) 0 ⟨3072 + d.val, by omega⟩)) (fun d => mod (ix3 (modRow b t) 0 ⟨4096 + d.val, by omega⟩)) (fun d => g2 (ix1 d))

/-- A token's modulated norm. -/
def normed (b : Fin 8) (t : Fin 4352) : Fin 1024 → EReal :=
  renorm mod g2 (merged xc mod a cb cu att ga gb gc cw wa wb wc wo b t) b t

/-- The router's weights of a row. -/
def route (s : Fin 1024 → EReal) (e : Fin 16) : EReal := softmax (fun k => proj s (fun d => wr (ix2 d k))) e

/-- The router's weights of a token. -/
def chance (b : Fin 8) (e : Fin 16) (t : Fin 4352) : EReal :=
  route wr (normed xc mod a cb cu att ga gb gc cw wa wb wc wo g2 b t) e

/-- An array over the experts' tokens. -/
def third (f : Fin 8 → Fin 16 → Fin 4352 → EReal) : S8x16x4352.Idx → EReal := fun i => f (i 0) (i 1) (i 2)

theorem third_at (f : Fin 8 → Fin 16 → Fin 4352 → EReal) (i : S8x16x4352.Idx) (b : Fin 8) (e : Fin 16) (t : Fin 4352)
    (h0 : (i 0).val = b.val) (h1 : (i 1).val = e.val) (h2 : (i 2).val = t.val) : third f i = f b e t := by
  have e0 : i 0 = b := Fin.ext h0
  have e1 : i 1 = e := Fin.ext h1
  have e2 : i 2 = t := Fin.ext h2
  unfold third
  rw [e0, e1, e2]

end Cert.Merge

end
-- ==== Proof.Merge.Array.lean ====
/- The merge's blocks, from its arguments. -/
module

public import proofs.«01_k».proof.Proof.Gen.Kernel4Ideal.Value
public import proofs.«01_k».proof.Proof.Merge.Block
public import proofs.«01_k».proof.Proof.Merge.Spec

@[expose] public section

set_option maxRecDepth 16384

noncomputable section

namespace Cert.Merge.Array

open Idealize.ShloMosaic Idealize.ShloMosaic.TcCoe Idealize.SL.Sem Cert.Kernel4Ideal Cert.Kernel4Ideal.Gen Cert.Merge.Block Cert.Attn Cert.Proj
open Idealize.ShloMosaic.Pipeline (Dat)

theorem idx0 : ∀ t : Fin cfg0.N, win0_0.index t = ![t.val / 17, t.val % 17, 0] ∧ t.val < 136 :=
  (by decide +kernel : ∀ t : Fin grid0.N, _)

theorem idx1 : ∀ t : Fin cfg0.N, win0_1.index t = ![if t.val % 17 < 1 then 8 else t.val / 17, 0, 0] ∧ t.val < 136 :=
  (by decide +kernel : ∀ t : Fin grid0.N, _)

theorem idx2 : ∀ t : Fin cfg0.N, win0_2.index t = ![t.val / 17, t.val % 17, 0] ∧ t.val < 136 :=
  (by decide +kernel : ∀ t : Fin grid0.N, _)

theorem idx3 : ∀ t : Fin cfg0.N, win0_3.index t = ![t.val / 17, t.val % 17, 0] ∧ t.val < 136 :=
  (by decide +kernel : ∀ t : Fin grid0.N, _)

theorem idx4 : ∀ t : Fin cfg0.N, win0_4.index t = ![t.val / 17, t.val % 17, 0] ∧ t.val < 136 :=
  (by decide +kernel : ∀ t : Fin grid0.N, _)

theorem idx5 : ∀ t : Fin cfg0.N, win0_5.index t = ![t.val / 17, t.val % 17 * 16 - 1, 0] ∧ t.val < 136 :=
  (by decide +kernel : ∀ t : Fin grid0.N, _)

theorem idx6 : ∀ t : Fin cfg0.N, win0_6.index t = ![t.val / 17, min (t.val % 17 * 16 + 16) 271, 0] ∧ t.val < 136 :=
  (by decide +kernel : ∀ t : Fin grid0.N, _)

theorem idx7 : ∀ t : Fin cfg0.N, win0_7.index t = ![t.val / 17, t.val % 17, 0] ∧ t.val < 136 :=
  (by decide +kernel : ∀ t : Fin grid0.N, _)

theorem idx8 : ∀ t : Fin cfg0.N, win0_8.index t = ![t.val / 17, t.val % 17, 0] ∧ t.val < 136 :=
  (by decide +kernel : ∀ t : Fin grid0.N, _)

theorem idx9 : ∀ t : Fin cfg0.N, win0_9.index t = ![t.val / 17, t.val % 17, 0] ∧ t.val < 136 :=
  (by decide +kernel : ∀ t : Fin grid0.N, _)

theorem idx10 : ∀ t : Fin cfg0.N, win0_10.index t = ![t.val / 17, t.val % 17, 0] ∧ t.val < 136 :=
  (by decide +kernel : ∀ t : Fin grid0.N, _)

theorem idx11 : ∀ t : Fin cfg0.N, win0_11.index t = ![0, 0] ∧ t.val < 136 :=
  (by decide +kernel : ∀ t : Fin grid0.N, _)

theorem idx12 : ∀ t : Fin cfg0.N, win0_12.index t = ![0, 0] ∧ t.val < 136 :=
  (by decide +kernel : ∀ t : Fin grid0.N, _)

theorem idx13 : ∀ t : Fin cfg0.N, win0_13.index t = ![0, 0] ∧ t.val < 136 :=
  (by decide +kernel : ∀ t : Fin grid0.N, _)

theorem idx14 : ∀ t : Fin cfg0.N, win0_14.index t = ![0, 0] ∧ t.val < 136 :=
  (by decide +kernel : ∀ t : Fin grid0.N, _)

theorem idx15 : ∀ t : Fin cfg0.N, win0_15.index t = ![0, 0] ∧ t.val < 136 :=
  (by decide +kernel : ∀ t : Fin grid0.N, _)

theorem idx16 : ∀ t : Fin cfg0.N, win0_16.index t = ![0, 0] ∧ t.val < 136 :=
  (by decide +kernel : ∀ t : Fin grid0.N, _)

theorem idx17 : ∀ t : Fin cfg0.N, win0_17.index t = ![0, 0] ∧ t.val < 136 :=
  (by decide +kernel : ∀ t : Fin grid0.N, _)

theorem idx18 : ∀ t : Fin cfg0.N, win0_18.index t = ![t.val / 17, t.val % 17, 0] ∧ t.val < 136 :=
  (by decide +kernel : ∀ t : Fin grid0.N, _)

theorem idx19 : ∀ t : Fin cfg0.N, win0_19.index t = ![t.val / 17, t.val % 17, 0] ∧ t.val < 136 :=
  (by decide +kernel : ∀ t : Fin grid0.N, _)

theorem idx20 : ∀ t : Fin cfg0.N, win0_20.index t = ![t.val / 17, 0, t.val % 17] ∧ t.val < 136 :=
  (by decide +kernel : ∀ t : Fin grid0.N, _)

/-- The tile of a point. -/
theorem tile : ∀ t : Fin cfg0.N, (grid0.coords t 1).val = t.val % 17 :=
  (by decide +kernel : ∀ t : Fin grid0.N, _)

/-- The batch of a point. -/
abbrev batch (t : Fin cfg0.N) : Fin 8 := ⟨t.val / 17, by have := (idx0 t).2; omega⟩

/-- A token of a point's tile. -/
abbrev token (t : Fin cfg0.N) (r : Fin 256) : Fin 4352 := ⟨t.val % 17 * 256 + r.val, by omega⟩

variable (m : (ℓ : Loc nD τ sig) → Buf (Elt Ideal) ℓ) (c : Dev nD)

abbrev aX : FVec Ideal S8x4352x1024 .f32 := m ((c : Thread nD τ).loc main_arg0)
abbrev aM : FVec Ideal S9x1x6144 .f32 := m ((c : Thread nD τ).loc main_arg1)
abbrev aA : FVec Ideal S8x4352x1024 .bf16 := m ((c : Thread nD τ).loc main_arg2)
abbrev aCb : FVec Ideal S8x4352x1024 .bf16 := m ((c : Thread nD τ).loc main_arg3)
abbrev aCu : FVec Ideal S8x4352x1024 .bf16 := m ((c : Thread nD τ).loc main_arg4)
abbrev aAtt : FVec Ideal S8x4352x1024 .bf16 := m ((c : Thread nD τ).loc main_arg5)
abbrev aGa : FVec Ideal S8x4352x1024 .bf16 := m ((c : Thread nD τ).loc main_arg6)
abbrev aGb : FVec Ideal S8x4352x1024 .bf16 := m ((c : Thread nD τ).loc main_arg7)
abbrev aGc : FVec Ideal S8x4352x1024 .bf16 := m ((c : Thread nD τ).loc main_arg8)
abbrev aCw : FVec Ideal S3x1024 .f32 := m ((c : Thread nD τ).loc main_arg9)
abbrev aWa : FVec Ideal S1024x1024 .f32 := m ((c : Thread nD τ).loc main_arg10)
abbrev aWb : FVec Ideal S1024x1024 .f32 := m ((c : Thread nD τ).loc main_arg11)
abbrev aWc : FVec Ideal S1024x1024 .f32 := m ((c : Thread nD τ).loc main_arg12)
abbrev aWo : FVec Ideal S1024x1024 .f32 := m ((c : Thread nD τ).loc main_arg13)
abbrev aG : FVec Ideal S1024 .f32 := m ((c : Thread nD τ).loc main_arg14)
abbrev aR : FVec Ideal S1024x16 .f32 := m ((c : Thread nD τ).loc main_arg15)

theorem x_block (t : Fin cfg0.N) (r : Fin 256) (d : Fin 1024) :
    (iblk m c 0 t : FVec Ideal S1x256x1024 .f32) (ix3 0 r d) = aX m c (ix3 (batch t) (token t r) d) := by
  refine Eq.trans ?_ (congrFun (V_main_arg0 m c) _)
  blk_ext [iblk, idx0 t]

theorem a_block (t : Fin cfg0.N) (r : Fin 256) (d : Fin 1024) :
    (iblk m c 2 t : FVec Ideal S1x256x1024 .bf16) (ix3 0 r d) = aA m c (ix3 (batch t) (token t r) d) := by
  refine Eq.trans ?_ (congrFun (V_main_arg2 m c) _)
  blk_ext [iblk, idx2 t]

theorem cb_block (t : Fin cfg0.N) (r : Fin 256) (d : Fin 1024) :
    (iblk m c 3 t : FVec Ideal S1x256x1024 .bf16) (ix3 0 r d) = aCb m c (ix3 (batch t) (token t r) d) := by
  refine Eq.trans ?_ (congrFun (V_main_arg3 m c) _)
  blk_ext [iblk, idx3 t]

theorem cu_block (t : Fin cfg0.N) (r : Fin 256) (d : Fin 1024) :
    (iblk m c 4 t : FVec Ideal S1x256x1024 .bf16) (ix3 0 r d) = aCu m c (ix3 (batch t) (token t r) d) := by
  refine Eq.trans ?_ (congrFun (V_main_arg4 m c) _)
  blk_ext [iblk, idx4 t]

theorem att_block (t : Fin cfg0.N) (r : Fin 256) (d : Fin 1024) :
    (iblk m c 7 t : FVec Ideal S1x256x1024 .bf16) (ix3 0 r d) = aAtt m c (ix3 (batch t) (token t r) d) := by
  refine Eq.trans ?_ (congrFun (V_main_arg5 m c) _)
  blk_ext [iblk, idx7 t]

theorem ga_block (t : Fin cfg0.N) (r : Fin 256) (d : Fin 1024) :
    (iblk m c 8 t : FVec Ideal S1x256x1024 .bf16) (ix3 0 r d) = aGa m c (ix3 (batch t) (token t r) d) := by
  refine Eq.trans ?_ (congrFun (V_main_arg6 m c) _)
  blk_ext [iblk, idx8 t]

theorem gb_block (t : Fin cfg0.N) (r : Fin 256) (d : Fin 1024) :
    (iblk m c 9 t : FVec Ideal S1x256x1024 .bf16) (ix3 0 r d) = aGb m c (ix3 (batch t) (token t r) d) := by
  refine Eq.trans ?_ (congrFun (V_main_arg7 m c) _)
  blk_ext [iblk, idx9 t]

theorem gc_block (t : Fin cfg0.N) (r : Fin 256) (d : Fin 1024) :
    (iblk m c 10 t : FVec Ideal S1x256x1024 .bf16) (ix3 0 r d) = aGc m c (ix3 (batch t) (token t r) d) := by
  refine Eq.trans ?_ (congrFun (V_main_arg8 m c) _)
  blk_ext [iblk, idx10 t]

theorem before_block (t : Fin cfg0.N) (h : t.val % 17 ≠ 0) (d : Fin 1024) :
    (iblk m c 5 t : FVec Ideal S1x16x1024 .bf16) (ix3 0 15 d) = aCu m c (ix3 (batch t) ⟨t.val % 17 * 256 - 1, by omega⟩ d) := by
  refine Eq.trans ?_ (congrFun (V_main_arg4 m c) _)
  blk_ext [iblk, idx5 t]

theorem after_block (t : Fin cfg0.N) (h : t.val % 17 ≠ 16) (d : Fin 1024) :
    (iblk m c 6 t : FVec Ideal S1x16x1024 .bf16) (ix3 0 0 d) = aCu m c (ix3 (batch t) ⟨t.val % 17 * 256 + 256, by omega⟩ d) := by
  refine Eq.trans ?_ (congrFun (V_main_arg4 m c) _)
  blk_ext [iblk, idx6 t]

theorem mod_block (t : Fin cfg0.N) (r : Fin 256) (x : Fin 6144) :
    (iblk m c 1 t : FVec Ideal S1x1x6144 .f32) (ix3 0 0 x) = aM m c (ix3 (modRow (batch t) (token t r)) 0 x) := by
  refine Eq.trans ?_ (congrFun (V_main_arg1 m c) _)
  have e : (if t.val % 17 < 1 then 8 else t.val / 17) = (modRow (batch t) (token t r)).val := by
    show _ = if t.val % 17 * 256 + r.val < 256 then 8 else t.val / 17
    split_ifs <;> omega
  blk_ext [iblk, idx1 t]

theorem conv_block (t : Fin cfg0.N) (k : Fin 3) (d : Fin 1024) :
    (iblk m c 11 t : FVec Ideal S3x1024 .f32) (ix2 k d) = aCw m c (ix2 k d) := by
  refine Eq.trans ?_ (congrFun (V_main_arg9 m c) _)
  blk_ext [iblk, idx11 t]

theorem wa_block (t : Fin cfg0.N) (d x : Fin 1024) :
    (iblk m c 12 t : FVec Ideal S1024x1024 .bf16) (ix2 d x) = aWa m c (ix2 d x) := by
  have h : (V m c main_v0 : FVec Ideal S1024x1024 .bf16) = aWa m c := by
    unfold_abbrev_sides
    after_results
    rfl
  refine Eq.trans ?_ (congrFun h _)
  blk_ext [iblk, idx12 t]

theorem wb_block (t : Fin cfg0.N) (d x : Fin 1024) :
    (iblk m c 13 t : FVec Ideal S1024x1024 .bf16) (ix2 d x) = aWb m c (ix2 d x) := by
  have h : (V m c main_v1 : FVec Ideal S1024x1024 .bf16) = aWb m c := by
    unfold_abbrev_sides
    after_results
    rfl
  refine Eq.trans ?_ (congrFun h _)
  blk_ext [iblk, idx13 t]

theorem wc_block (t : Fin cfg0.N) (d x : Fin 1024) :
    (iblk m c 14 t : FVec Ideal S1024x1024 .bf16) (ix2 d x) = aWc m c (ix2 d x) := by
  have h : (V m c main_v2 : FVec Ideal S1024x1024 .bf16) = aWc m c := by
    unfold_abbrev_sides
    after_results
    rfl
  refine Eq.trans ?_ (congrFun h _)
  blk_ext [iblk, idx14 t]

theorem wo_block (t : Fin cfg0.N) (d x : Fin 1024) :
    (iblk m c 15 t : FVec Ideal S1024x1024 .bf16) (ix2 d x) = aWo m c (ix2 d x) := by
  have h : (V m c main_v3 : FVec Ideal S1024x1024 .bf16) = aWo m c := by
    unfold_abbrev_sides
    after_results
    rfl
  refine Eq.trans ?_ (congrFun h _)
  blk_ext [iblk, idx15 t]

theorem norm_block (t : Fin cfg0.N) (d : Fin 1024) : (iblk m c 16 t : FVec Ideal S1x1024 .f32) (ix2 0 d) = aG m c (ix1 d) := by
  have h : (V m c main_v4 : FVec Ideal S1x1024 .f32) = broadcastInDim S1x1024 ![1] bcast_S1024_S1x1024_1 (aG m c) := by
    unfold_abbrev_sides
    after_results
  refine Eq.trans ?_ ((congrFun h (ix2 0 d)).trans (by pointwise))
  blk_ext [iblk, idx16 t]

theorem router_block (t : Fin cfg0.N) (e : Fin 16) (d : Fin 1024) : (iblk m c 17 t : FVec Ideal S16x1024 .f32) (ix2 e d) = aR m c (ix2 d e) := by
  have h : (V m c main_v5 : FVec Ideal S16x1024 .f32) = Idealize.ShloMosaic.transpose S16x1024 [1, 0] (aR m c) transposes_S1024x16_S16x1024_1_0 := by
    unfold_abbrev_sides
    after_results
  refine Eq.trans ?_ ((congrFun h (ix2 e d)).trans (by pointwise))
  blk_ext [iblk, idx17 t]

end Cert.Merge.Array

end
-- ==== Proof.Merge.Final.lean ====
/- The merge's result arrays after the run. -/
module

public import proofs.«01_k».proof.Proof.Merge.Array

@[expose] public section

set_option maxRecDepth 16384

noncomputable section

namespace Cert.Merge.Array

open Idealize.ShloMosaic Idealize.ShloMosaic.TcCoe Idealize.SL.Sem Cert.Kernel4Ideal Cert.Kernel4Ideal.Gen Cert.Merge.Block Cert.Attn Cert.Proj
open Idealize.ShloMosaic.Pipeline (Dat)

variable (m : (ℓ : Loc nD τ sig) → Buf (Elt Ideal) ℓ) (c : Dev nD)

theorem rowBefore_block (t : Fin cfg0.N) (r : Fin 256) (x : Fin 1024) :
    rowBefore (grid0.coords t) (iblk m c 4 t) (fun x => (iblk m c 5 t : FVec Ideal S1x16x1024 .bf16) (ix3 0 15 x)) r x
      = prev (aCu m c) (batch t) (token t r) x := by
  unfold rowBefore prev
  rw [tile t]
  have hr := r.isLt
  dsimp only
  by_cases h : r.val = 0
  · rw [if_pos h]
    by_cases h1 : t.val % 17 = 0 ∨ t.val % 17 = 1
    · rw [if_pos h1, if_pos (by omega)]
    · rw [if_neg h1, if_neg (by omega)]
      refine (before_block m c t (by omega) x).trans (congrArg (fun k => aCu m c (ix3 (batch t) k x)) (Fin.ext ?_))
      show t.val % 17 * 256 - 1 = t.val % 17 * 256 + r.val - 1
      omega
  · rw [if_neg h, if_neg (by omega)]
    refine (cu_block m c t ⟨r.val - 1, by omega⟩ x).trans (congrArg (fun k => aCu m c (ix3 (batch t) k x)) (Fin.ext ?_))
    show t.val % 17 * 256 + (r.val - 1) = t.val % 17 * 256 + r.val - 1
    omega

theorem rowAfter_block (t : Fin cfg0.N) (r : Fin 256) (x : Fin 1024) :
    rowAfter (grid0.coords t) (iblk m c 4 t) (fun x => (iblk m c 6 t : FVec Ideal S1x16x1024 .bf16) (ix3 0 0 x)) r x
      = next (aCu m c) (batch t) (token t r) x := by
  unfold rowAfter next
  rw [tile t]
  have hr := r.isLt
  dsimp only
  by_cases h : r.val = 255
  · rw [if_pos h]
    by_cases h1 : t.val % 17 = 0 ∨ t.val % 17 = 16
    · rw [if_pos h1, if_pos (by omega)]
    · rw [if_neg h1, if_neg (by omega)]
      refine (after_block m c t (by omega) x).trans (congrArg (fun k => aCu m c (ix3 (batch t) k x)) (Fin.ext ?_))
      show t.val % 17 * 256 + 256 = (t.val % 17 * 256 + r.val + 1) % 4352
      omega
  · rw [if_neg h, if_neg (by omega)]
    refine (cu_block m c t ⟨(r.val + 1) % 256, by omega⟩ x).trans (congrArg (fun k => aCu m c (ix3 (batch t) k x)) (Fin.ext ?_))
    show t.val % 17 * 256 + (r.val + 1) % 256 = (t.val % 17 * 256 + r.val + 1) % 4352
    omega

theorem merged_block (t : Fin cfg0.N) (r : Fin 256) :
    mergedB (grid0.coords t) (iblk m c 0 t) (iblk m c 1 t) (iblk m c 2 t) (iblk m c 3 t) (iblk m c 4 t) (fun x => (iblk m c 5 t : FVec Ideal S1x16x1024 .bf16) (ix3 0 15 x)) (fun x => (iblk m c 6 t : FVec Ideal S1x16x1024 .bf16) (ix3 0 0 x)) (iblk m c 7 t) (iblk m c 8 t) (iblk m c 9 t) (iblk m c 10 t) (iblk m c 11 t) (iblk m c 12 t) (iblk m c 13 t) (iblk m c 14 t) (iblk m c 15 t) r = merged (aX m c) (aM m c) (aA m c) (aCb m c) (aCu m c) (aAtt m c) (aGa m c) (aGb m c) (aGc m c) (aCw m c) (aWa m c) (aWb m c) (aWc m c) (aWo m c) (batch t) (token t r) := by
  unfold mergedB merged mixed branch
  simp only [x_block, a_block, cb_block, cu_block, att_block, ga_block, gb_block, gc_block, mod_block m c t r, conv_block, wa_block, wb_block, wc_block, wo_block]
  rw [show rowBefore (grid0.coords t) (iblk m c 4 t) (fun x => (iblk m c 5 t : FVec Ideal S1x16x1024 .bf16) (ix3 0 15 x)) r
      = prev (aCu m c) (batch t) (token t r) from funext (rowBefore_block m c t r),
    show rowAfter (grid0.coords t) (iblk m c 4 t) (fun x => (iblk m c 6 t : FVec Ideal S1x16x1024 .bf16) (ix3 0 0 x)) r
      = next (aCu m c) (batch t) (token t r) from funext (rowAfter_block m c t r)]

theorem normed_block (t : Fin cfg0.N) (r : Fin 256) (s : Fin 1024 → EReal) :
    normedB (iblk m c 1 t) (iblk m c 16 t) s = renorm (aM m c) (aG m c) s (batch t) (token t r) := by
  unfold normedB renorm
  simp only [mod_block m c t r, norm_block]

theorem split3 (y : S1x256x1024.Idx) : ∃ (r : Fin 256) (x : Fin 1024), y = ix3 0 r x := ⟨y 1, y 2, by
  have e : y = ix3 (y 0) (y 1) (y 2) := eq_ix3 y
  have e0 : y 0 = (0 : Fin 1) := Subsingleton.elim (α := Fin 1) _ _
  rw [e0] at e
  exact e⟩

theorem full_block18 (f : Fin 8 → Fin 4352 → Fin 1024 → EReal) (t : Fin cfg0.N) (r : Fin 256) (x : Fin 1024) :
    full f (((cfg0.win 18).blk t).view.emb (ix3 0 r x)) = f (batch t) (token t r) x := by
  refine full_at f _ _ _ _ ?_ ?_ ?_ <;> blk_simp [idx18 t] <;> dsimp only <;> omega

theorem final18 : (dats m 0 c).arrAt 18 cfg0.N = full (merged (aX m c) (aM m c) (aA m c) (aCb m c) (aCu m c) (aAtt m c) (aGa m c) (aGb m c) (aGc m c) (aCw m c) (aWa m c) (aWb m c) (aWc m c) (aWo m c)) := by
  refine (dats m 0 c).arrAt_eq_of_covers 18 _ (by decide +kernel) fun t hf y => ?_
  obtain ⟨r, x, rfl⟩ := split3 y
  refine Eq.trans ?_ (full_block18 _ t r x).symm
  blk_simp
  rw [after0_18]
  refine (out18_at _ _ _ _ _ _ _ _ _ _ _ _ _ _ _ _ _ _ _ r x).trans ?_
  exact congrFun (merged_block m c t r) x

theorem full_block19 (f : Fin 8 → Fin 4352 → Fin 1024 → EReal) (t : Fin cfg0.N) (r : Fin 256) (x : Fin 1024) :
    full f (((cfg0.win 19).blk t).view.emb (ix3 0 r x)) = f (batch t) (token t r) x := by
  refine full_at f _ _ _ _ ?_ ?_ ?_ <;> blk_simp [idx19 t] <;> dsimp only <;> omega

theorem final19 : (dats m 0 c).arrAt 19 cfg0.N = full (normed (aX m c) (aM m c) (aA m c) (aCb m c) (aCu m c) (aAtt m c) (aGa m c) (aGb m c) (aGc m c) (aCw m c) (aWa m c) (aWb m c) (aWc m c) (aWo m c) (aG m c)) := by
  refine (dats m 0 c).arrAt_eq_of_covers 19 _ (by decide +kernel) fun t hf y => ?_
  obtain ⟨r, x, rfl⟩ := split3 y
  refine Eq.trans ?_ (full_block19 _ t r x).symm
  blk_simp
  rw [after0_19]
  refine (out19_at _ _ _ _ _ _ _ _ _ _ _ _ _ _ _ _ _ _ _ r x).trans ?_
  rw [merged_block m c t r, normed_block m c t r]
  rfl

theorem third_block20 (f : Fin 8 → Fin 16 → Fin 4352 → EReal) (t : Fin cfg0.N) (e : Fin 16) (r : Fin 256) :
    third f (((cfg0.win 20).blk t).view.emb (ix3 0 e r)) = f (batch t) e (token t r) := by
  refine third_at f _ _ _ _ ?_ ?_ ?_ <;> blk_simp [idx20 t] <;> dsimp only <;> omega

theorem final20 : (dats m 0 c).arrAt 20 cfg0.N = third (chance (aX m c) (aM m c) (aA m c) (aCb m c) (aCu m c) (aAtt m c) (aGa m c) (aGb m c) (aGc m c) (aCw m c) (aWa m c) (aWb m c) (aWc m c) (aWo m c) (aG m c) (aR m c)) := by
  refine (dats m 0 c).arrAt_eq_of_covers 20 _ (by decide +kernel) fun t hf y => ?_
  obtain ⟨e, r, rfl⟩ : ∃ (e : Fin 16) (r : Fin 256), y = ix3 0 e r := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (third_block20 _ t e r).symm
  blk_simp
  rw [after0_20]
  refine (out20_at _ _ _ _ _ _ _ _ _ _ _ _ _ _ _ _ _ _ _ e r).trans ?_
  rw [merged_block m c t r, normed_block m c t r]
  simp only [router_block]
  rfl

end Cert.Merge.Array

end
-- ==== Proof.Merge.RefConv.lean ====
/- The merge's reference: the convolution of both streams. -/
module

public import proofs.«01_k».proof.Proof.Gen.Reference4Ideal.Read
public import proofs.«01_k».proof.Proof.Merge.Spec
public import proofs.«01_k».proof.Proof.Attn.Layout
public import Idealize.ShloMosaic.Lib.Pipeline.ValueKit

@[expose] public section

set_option maxRecDepth 16384

noncomputable section

namespace Cert.Merge.Reference

open Idealize.ShloMosaic Idealize.ShloMosaic.TcCoe Idealize.SL.Sem Cert.Reference4Ideal Cert.Reference4Ideal.Read Cert.Proj Cert.Attn

variable (x0 : FVec Ideal S8x4352x1024 .f32) (x1 : FVec Ideal S9x1x6144 .f32) (x2 x3 x4 x5 x6 x7 x8 : FVec Ideal S8x4352x1024 .bf16)
  (x9 : FVec Ideal S3x1024 .f32) (x10 x11 x12 x13 : FVec Ideal S1024x1024 .f32) (x14 : FVec Ideal S1024 .f32) (x15 : FVec Ideal S1024x16 .f32)

/-- The context rows with a zero row before and after them. -/
theorem context_pad_at (b : Fin 8) (k : Fin 258) (x : Fin 1024) :
    val_main_v19 (F := Ideal) x4 (ix3 b k x) = if h : 1 ≤ k.val ∧ k.val - 1 < 256 then x4 (ix3 b ⟨k.val - 1, by omega⟩ x) else 0 := by
  have hs : ∀ t : Fin 256, val_main_v11 (F := Ideal) x4 (ix3 b t x) = x4 (ix3 b (⟨t.val, by omega⟩ : Fin 4352) x) := by
    intro t
    unfold val_main_v11 val_main_v2
    pointwise
  have hz : val_main_call0_v0 (F := Ideal) (Shape.Idx.first Gen.h_S_) = 0 := by
    show ((((0#32 : BitVec 32).toInt : ℤ) : ℝ) : EReal) = 0
    simp
  unfold val_main_v19
  revert hs hz
  generalize val_main_v11 (F := Ideal) x4 = s
  generalize val_main_call0_v0 (F := Ideal) = z
  intro hs hz
  pointwise
  rw [hz]
  by_cases h : 1 ≤ k.val ∧ k.val - 1 < 256
  · rw [dif_pos h, dif_pos h]
    exact hs _
  · rw [dif_neg h, dif_neg h]

/-- The convolution of the context rows. -/
theorem context_conv_at (b : Fin 8) (t : Fin 256) (x : Fin 1024) :
    val_main_v39 (F := Ideal) x4 x9 (ix3 b t x)
      = x9 (ix2 0 x) * prev x4 b (⟨t.val, by omega⟩ : Fin 4352) x + x9 (ix2 1 x) * x4 (ix3 b (⟨t.val, by omega⟩ : Fin 4352) x) + x9 (ix2 2 x) * next x4 b (⟨t.val, by omega⟩ : Fin 4352) x := by
  have ht := t.isLt
  have hp := fun k => context_pad_at x4 b k x
  have h0 : val_main_v19 (F := Ideal) x4 (ix3 b ⟨t.val, by omega⟩ x) = prev x4 b (⟨t.val, by omega⟩ : Fin 4352) x := by
    rw [hp]
    unfold prev
    dsimp only
    by_cases h : t.val = 0
    · rw [dif_neg (by omega), if_pos (by omega)]
    · rw [dif_pos (by omega), if_neg (by omega)]
  have h1 : val_main_v19 (F := Ideal) x4 (ix3 b ⟨1 + t.val, by omega⟩ x) = x4 (ix3 b (⟨t.val, by omega⟩ : Fin 4352) x) := by
    rw [hp]
    rw [dif_pos (by dsimp only; omega)]
    exact congrArg (fun k => x4 (ix3 b k x)) (Fin.ext (by dsimp only; omega))
  have h2 : val_main_v19 (F := Ideal) x4 (ix3 b ⟨2 + t.val, by omega⟩ x) = next x4 b (⟨t.val, by omega⟩ : Fin 4352) x := by
    rw [hp]
    unfold next
    dsimp only
    by_cases h : t.val = 255
    · rw [dif_neg (by omega), if_pos (by omega)]
    · rw [dif_pos (by omega), if_neg (by omega)]
      exact congrArg (fun k => x4 (ix3 b k x)) (Fin.ext (by dsimp only; omega))
  unfold val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20
  revert h0 h1 h2
  clear hp
  generalize val_main_v19 (F := Ideal) x4 = s
  intro h0 h1 h2
  pointwise
  rw [h0, h1, h2]

/-- The latent rows with a zero row before and after them. -/
theorem latent_pad_at (b : Fin 8) (k : Fin 4098) (x : Fin 1024) :
    val_main_v96 (F := Ideal) x4 (ix3 b k x) = if h : 1 ≤ k.val ∧ k.val - 1 < 4096 then x4 (ix3 b ⟨256 + (k.val - 1), by omega⟩ x) else 0 := by
  have hs : ∀ t : Fin 4096, val_main_v88 (F := Ideal) x4 (ix3 b t x) = x4 (ix3 b (⟨256 + t.val, by omega⟩ : Fin 4352) x) := by
    intro t
    unfold val_main_v88 val_main_v2
    pointwise
  have hz : val_main_call1_v0 (F := Ideal) (Shape.Idx.first Gen.h_S_) = 0 := by
    show ((((0#32 : BitVec 32).toInt : ℤ) : ℝ) : EReal) = 0
    simp
  unfold val_main_v96
  revert hs hz
  generalize val_main_v88 (F := Ideal) x4 = s
  generalize val_main_call1_v0 (F := Ideal) = z
  intro hs hz
  pointwise
  rw [hz]
  by_cases h : 1 ≤ k.val ∧ k.val - 1 < 4096
  · rw [dif_pos h, dif_pos h]
    exact hs _
  · rw [dif_neg h, dif_neg h]

/-- The convolution of the latent rows. -/
theorem latent_conv_at (b : Fin 8) (t : Fin 4096) (x : Fin 1024) :
    val_main_v116 (F := Ideal) x4 x9 (ix3 b t x)
      = x9 (ix2 0 x) * prev x4 b (⟨256 + t.val, by omega⟩ : Fin 4352) x + x9 (ix2 1 x) * x4 (ix3 b (⟨256 + t.val, by omega⟩ : Fin 4352) x) + x9 (ix2 2 x) * next x4 b (⟨256 + t.val, by omega⟩ : Fin 4352) x := by
  have ht := t.isLt
  have hp := fun k => latent_pad_at x4 b k x
  have h0 : val_main_v96 (F := Ideal) x4 (ix3 b ⟨t.val, by omega⟩ x) = prev x4 b (⟨256 + t.val, by omega⟩ : Fin 4352) x := by
    rw [hp]
    unfold prev
    dsimp only
    by_cases h : t.val = 0
    · rw [dif_neg (by omega), if_pos (by omega)]
    · rw [dif_pos (by omega), if_neg (by omega)]
      exact congrArg (fun k => x4 (ix3 b k x)) (Fin.ext (by dsimp only; omega))
  have h1 : val_main_v96 (F := Ideal) x4 (ix3 b ⟨1 + t.val, by omega⟩ x) = x4 (ix3 b (⟨256 + t.val, by omega⟩ : Fin 4352) x) := by
    rw [hp]
    rw [dif_pos (by dsimp only; omega)]
    exact congrArg (fun k => x4 (ix3 b k x)) (Fin.ext (by dsimp only; omega))
  have h2 : val_main_v96 (F := Ideal) x4 (ix3 b ⟨2 + t.val, by omega⟩ x) = next x4 b (⟨256 + t.val, by omega⟩ : Fin 4352) x := by
    rw [hp]
    unfold next
    dsimp only
    by_cases h : t.val = 4095
    · rw [dif_neg (by omega), if_pos (by omega)]
    · rw [dif_pos (by omega), if_neg (by omega)]
      exact congrArg (fun k => x4 (ix3 b k x)) (Fin.ext (by dsimp only; omega))
  unfold val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97
  revert h0 h1 h2
  clear hp
  generalize val_main_v96 (F := Ideal) x4 = s
  intro h0 h1 h2
  pointwise
  rw [h0, h1, h2]

end Cert.Merge.Reference

end
-- ==== Proof.Merge.RefMerge.lean ====
/- The merge's reference: the mixers' gated sum and the merged rows. -/
module

public import proofs.«01_k».proof.Proof.Merge.RefConv

@[expose] public section

set_option maxRecDepth 16384

noncomputable section

namespace Cert.Merge.Reference

open Idealize.ShloMosaic Idealize.ShloMosaic.TcCoe Idealize.SL.Sem Cert.Reference4Ideal Cert.Reference4Ideal.Read Cert.Proj Cert.Attn

variable (x0 : FVec Ideal S8x4352x1024 .f32) (x1 : FVec Ideal S9x1x6144 .f32) (x2 x3 x4 x5 x6 x7 x8 : FVec Ideal S8x4352x1024 .bf16)
  (x9 : FVec Ideal S3x1024 .f32) (x10 x11 x12 x13 : FVec Ideal S1024x1024 .f32) (x14 : FVec Ideal S1024 .f32) (x15 : FVec Ideal S1024x16 .f32)

theorem context_a_at (b : Fin 8) (t : Fin 256) (x : Fin 1024) : val_main_v9 (F := Ideal) x2 (ix3 b t x) = x2 (ix3 b (⟨t.val, by omega⟩ : Fin 4352) x) := by
  unfold val_main_v9 val_main_v0
  pointwise

theorem context_cb_at (b : Fin 8) (t : Fin 256) (x : Fin 1024) : val_main_v10 (F := Ideal) x3 (ix3 b t x) = x3 (ix3 b (⟨t.val, by omega⟩ : Fin 4352) x) := by
  unfold val_main_v10 val_main_v1
  pointwise

theorem context_att_at (b : Fin 8) (t : Fin 256) (x : Fin 1024) : val_main_v12 (F := Ideal) x5 (ix3 b t x) = x5 (ix3 b (⟨t.val, by omega⟩ : Fin 4352) x) := by
  unfold val_main_v12 val_main_v3
  pointwise

theorem context_ga_at (b : Fin 8) (t : Fin 256) (x : Fin 1024) : val_main_v13 (F := Ideal) x6 (ix3 b t x) = x6 (ix3 b (⟨t.val, by omega⟩ : Fin 4352) x) := by
  unfold val_main_v13 val_main_v4
  pointwise

theorem context_gb_at (b : Fin 8) (t : Fin 256) (x : Fin 1024) : val_main_v14 (F := Ideal) x7 (ix3 b t x) = x7 (ix3 b (⟨t.val, by omega⟩ : Fin 4352) x) := by
  unfold val_main_v14 val_main_v5
  pointwise

theorem context_gc_at (b : Fin 8) (t : Fin 256) (x : Fin 1024) : val_main_v15 (F := Ideal) x8 (ix3 b t x) = x8 (ix3 b (⟨t.val, by omega⟩ : Fin 4352) x) := by
  unfold val_main_v15 val_main_v6
  pointwise

/-- The mixers' gated sum of the context rows. -/
theorem context_mixed_at (b : Fin 8) (t : Fin 256) (x : Fin 1024) :
    val_main_v48 (F := Ideal) x2 x3 x4 x5 x6 x7 x8 x9 x10 x11 x12 (ix3 b t x) = mixed x2 x3 x4 x5 x6 x7 x8 x9 x10 x11 x12 b (⟨t.val, by omega⟩ : Fin 4352) x := by
  have ha := context_a_at x2 b t
  have hcb := context_cb_at x3 b t
  have hat := context_att_at x5 b t
  have hga := context_ga_at x6 b t
  have hgb := context_gb_at x7 b t
  have hgc := context_gc_at x8 b t
  have hc := context_conv_at x4 x9 b t
  unfold val_main_v48 val_main_v47 val_main_v46 val_main_v45 val_main_v44 val_main_v43 val_main_v42 val_main_v41 val_main_v40
  revert ha hcb hat hga hgb hgc hc
  generalize val_main_v9 (F := Ideal) x2 = sa
  generalize val_main_v10 (F := Ideal) x3 = scb
  generalize val_main_v12 (F := Ideal) x5 = sat
  generalize val_main_v13 (F := Ideal) x6 = sga
  generalize val_main_v14 (F := Ideal) x7 = sgb
  generalize val_main_v15 (F := Ideal) x8 = sgc
  generalize val_main_v39 (F := Ideal) x4 x9 = sc
  intro ha hcb hat hga hgb hgc hc
  pointwise
  simp only [ha, hcb, hat, hga, hgb, hgc, hc]
  rfl

theorem context_modRow (b : Fin 8) (t : Fin 256) : modRow b (⟨t.val, by omega⟩ : Fin 4352) = 8 :=
  Fin.ext (by show (if t.val < 256 then 8 else b.val) = 8; rw [if_pos t.isLt])

/-- The context rows merged. -/
theorem context_merged_at (b : Fin 8) (t : Fin 256) (x : Fin 1024) :
    val_main_v52 (F := Ideal) x0 x1 x2 x3 x4 x5 x6 x7 x8 x9 x10 x11 x12 x13 (ix3 b t x) = merged x0 x1 x2 x3 x4 x5 x6 x7 x8 x9 x10 x11 x12 x13 b (⟨t.val, by omega⟩ : Fin 4352) x := by
  have hm := context_mixed_at x2 x3 x4 x5 x6 x7 x8 x9 x10 x11 x12 b t
  unfold val_main_v52 val_main_v51 val_main_v50 val_main_v49
  revert hm
  generalize val_main_v48 (F := Ideal) x2 x3 x4 x5 x6 x7 x8 x9 x10 x11 x12 = s
  intro hm
  pointwise [val_main_v16, val_main_v8, val_main_v7]
  simp only [hm]
  unfold merged residual
  rw [context_modRow b t]
  rfl

theorem latent_a_at (b : Fin 8) (t : Fin 4096) (x : Fin 1024) : val_main_v86 (F := Ideal) x2 (ix3 b t x) = x2 (ix3 b (⟨256 + t.val, by omega⟩ : Fin 4352) x) := by
  unfold val_main_v86 val_main_v0
  pointwise

theorem latent_cb_at (b : Fin 8) (t : Fin 4096) (x : Fin 1024) : val_main_v87 (F := Ideal) x3 (ix3 b t x) = x3 (ix3 b (⟨256 + t.val, by omega⟩ : Fin 4352) x) := by
  unfold val_main_v87 val_main_v1
  pointwise

theorem latent_att_at (b : Fin 8) (t : Fin 4096) (x : Fin 1024) : val_main_v89 (F := Ideal) x5 (ix3 b t x) = x5 (ix3 b (⟨256 + t.val, by omega⟩ : Fin 4352) x) := by
  unfold val_main_v89 val_main_v3
  pointwise

theorem latent_ga_at (b : Fin 8) (t : Fin 4096) (x : Fin 1024) : val_main_v90 (F := Ideal) x6 (ix3 b t x) = x6 (ix3 b (⟨256 + t.val, by omega⟩ : Fin 4352) x) := by
  unfold val_main_v90 val_main_v4
  pointwise

theorem latent_gb_at (b : Fin 8) (t : Fin 4096) (x : Fin 1024) : val_main_v91 (F := Ideal) x7 (ix3 b t x) = x7 (ix3 b (⟨256 + t.val, by omega⟩ : Fin 4352) x) := by
  unfold val_main_v91 val_main_v5
  pointwise

theorem latent_gc_at (b : Fin 8) (t : Fin 4096) (x : Fin 1024) : val_main_v92 (F := Ideal) x8 (ix3 b t x) = x8 (ix3 b (⟨256 + t.val, by omega⟩ : Fin 4352) x) := by
  unfold val_main_v92 val_main_v6
  pointwise

/-- The mixers' gated sum of the latent rows. -/
theorem latent_mixed_at (b : Fin 8) (t : Fin 4096) (x : Fin 1024) :
    val_main_v125 (F := Ideal) x2 x3 x4 x5 x6 x7 x8 x9 x10 x11 x12 (ix3 b t x) = mixed x2 x3 x4 x5 x6 x7 x8 x9 x10 x11 x12 b (⟨256 + t.val, by omega⟩ : Fin 4352) x := by
  have ha := latent_a_at x2 b t
  have hcb := latent_cb_at x3 b t
  have hat := latent_att_at x5 b t
  have hga := latent_ga_at x6 b t
  have hgb := latent_gb_at x7 b t
  have hgc := latent_gc_at x8 b t
  have hc := latent_conv_at x4 x9 b t
  unfold val_main_v125 val_main_v124 val_main_v123 val_main_v122 val_main_v121 val_main_v120 val_main_v119 val_main_v118 val_main_v117
  revert ha hcb hat hga hgb hgc hc
  generalize val_main_v86 (F := Ideal) x2 = sa
  generalize val_main_v87 (F := Ideal) x3 = scb
  generalize val_main_v89 (F := Ideal) x5 = sat
  generalize val_main_v90 (F := Ideal) x6 = sga
  generalize val_main_v91 (F := Ideal) x7 = sgb
  generalize val_main_v92 (F := Ideal) x8 = sgc
  generalize val_main_v116 (F := Ideal) x4 x9 = sc
  intro ha hcb hat hga hgb hgc hc
  pointwise
  simp only [ha, hcb, hat, hga, hgb, hgc, hc]
  rfl

theorem latent_modRow (b : Fin 8) (t : Fin 4096) : modRow b (⟨256 + t.val, by omega⟩ : Fin 4352) = ⟨b.val, by omega⟩ :=
  Fin.ext (by show (if 256 + t.val < 256 then 8 else b.val) = b.val; rw [if_neg (by omega)])

/-- The latent rows merged. -/
theorem latent_merged_at (b : Fin 8) (t : Fin 4096) (x : Fin 1024) :
    val_main_v129 (F := Ideal) x0 x1 x2 x3 x4 x5 x6 x7 x8 x9 x10 x11 x12 x13 (ix3 b t x) = merged x0 x1 x2 x3 x4 x5 x6 x7 x8 x9 x10 x11 x12 x13 b (⟨256 + t.val, by omega⟩ : Fin 4352) x := by
  have hm := latent_mixed_at x2 x3 x4 x5 x6 x7 x8 x9 x10 x11 x12 b t
  unfold val_main_v129 val_main_v128 val_main_v127 val_main_v126
  revert hm
  generalize val_main_v125 (F := Ideal) x2 x3 x4 x5 x6 x7 x8 x9 x10 x11 x12 = s
  intro hm
  pointwise [val_main_v93, val_main_v85, val_main_v84]
  simp only [hm]
  unfold merged residual
  rw [latent_modRow b t]
  rfl

end Cert.Merge.Reference

end
-- ==== Proof.Merge.RefNorm.lean ====
/- The merge's reference: the modulated norm of the merged rows. -/
module

public import proofs.«01_k».proof.Proof.Merge.RefMerge

@[expose] public section

set_option maxRecDepth 16384

noncomputable section

namespace Cert.Merge.Reference

open Idealize.ShloMosaic Idealize.ShloMosaic.TcCoe Idealize.SL.Sem Cert.Reference4Ideal Cert.Reference4Ideal.Read Cert.Proj Cert.Attn

variable (x0 : FVec Ideal S8x4352x1024 .f32) (x1 : FVec Ideal S9x1x6144 .f32) (x2 x3 x4 x5 x6 x7 x8 : FVec Ideal S8x4352x1024 .bf16)
  (x9 : FVec Ideal S3x1024 .f32) (x10 x11 x12 x13 : FVec Ideal S1024x1024 .f32) (x14 : FVec Ideal S1024 .f32) (x15 : FVec Ideal S1024x16 .f32)

/-- The context rows' modulated norm. -/
theorem context_normed_at (b : Fin 8) (t : Fin 256) (x : Fin 1024) :
    val_main_v71 (F := Ideal) x0 x1 x2 x3 x4 x5 x6 x7 x8 x9 x10 x11 x12 x13 x14 (ix3 b t x) = normed x0 x1 x2 x3 x4 x5 x6 x7 x8 x9 x10 x11 x12 x13 x14 b (⟨t.val, by omega⟩ : Fin 4352) x := by
  have hm := context_merged_at x0 x1 x2 x3 x4 x5 x6 x7 x8 x9 x10 x11 x12 x13 b t
  have hn : val_main_v65 (F := Ideal) x0 x1 x2 x3 x4 x5 x6 x7 x8 x9 x10 x11 x12 x13 x14 (ix3 b t x)
      = merged x0 x1 x2 x3 x4 x5 x6 x7 x8 x9 x10 x11 x12 x13 b (⟨t.val, by omega⟩ : Fin 4352) x * Ideal.rsqrt (Ideal.div (∑ k, merged x0 x1 x2 x3 x4 x5 x6 x7 x8 x9 x10 x11 x12 x13 b (⟨t.val, by omega⟩ : Fin 4352) k * merged x0 x1 x2 x3 x4 x5 x6 x7 x8 x9 x10 x11 x12 x13 b (⟨t.val, by omega⟩ : Fin 4352) k) (Ideal.ofBits .f32 0x44800000#32)
          + Ideal.ofBits .f32 0x358637BD#32) * x14 (ix1 x) := by
    unfold val_main_v65 val_main_v64 val_main_v63 val_main_v62 val_main_v61 val_main_v60 val_main_v59 val_main_v57 val_main_v55 val_main_v54 val_main_v53
    revert hm
    generalize val_main_v52 (F := Ideal) x0 x1 x2 x3 x4 x5 x6 x7 x8 x9 x10 x11 x12 x13 = s
    intro hm
    pointwise [val_main_v56, val_main_v58, val_main_cst, val_main_cst_0, val_main_cst_1]
    simp only [hm]
  unfold val_main_v71 val_main_v70 val_main_v69 val_main_v68 val_main_v67
  revert hn
  generalize val_main_v65 (F := Ideal) x0 x1 x2 x3 x4 x5 x6 x7 x8 x9 x10 x11 x12 x13 x14 = s
  intro hn
  pointwise [val_main_v66, val_main_v17, val_main_v18, val_main_v7, val_main_cst_2]
  rw [hn]
  unfold normed renorm Cert.Proj.hidden
  rw [context_modRow b t]

/-- The latent rows' modulated norm. -/
theorem latent_normed_at (b : Fin 8) (t : Fin 4096) (x : Fin 1024) :
    val_main_v148 (F := Ideal) x0 x1 x2 x3 x4 x5 x6 x7 x8 x9 x10 x11 x12 x13 x14 (ix3 b t x) = normed x0 x1 x2 x3 x4 x5 x6 x7 x8 x9 x10 x11 x12 x13 x14 b (⟨256 + t.val, by omega⟩ : Fin 4352) x := by
  have hm := latent_merged_at x0 x1 x2 x3 x4 x5 x6 x7 x8 x9 x10 x11 x12 x13 b t
  have hn : val_main_v142 (F := Ideal) x0 x1 x2 x3 x4 x5 x6 x7 x8 x9 x10 x11 x12 x13 x14 (ix3 b t x)
      = merged x0 x1 x2 x3 x4 x5 x6 x7 x8 x9 x10 x11 x12 x13 b (⟨256 + t.val, by omega⟩ : Fin 4352) x * Ideal.rsqrt (Ideal.div (∑ k, merged x0 x1 x2 x3 x4 x5 x6 x7 x8 x9 x10 x11 x12 x13 b (⟨256 + t.val, by omega⟩ : Fin 4352) k * merged x0 x1 x2 x3 x4 x5 x6 x7 x8 x9 x10 x11 x12 x13 b (⟨256 + t.val, by omega⟩ : Fin 4352) k) (Ideal.ofBits .f32 0x44800000#32)
          + Ideal.ofBits .f32 0x358637BD#32) * x14 (ix1 x) := by
    unfold val_main_v142 val_main_v141 val_main_v140 val_main_v139 val_main_v138 val_main_v137 val_main_v136 val_main_v134 val_main_v132 val_main_v131 val_main_v130
    revert hm
    generalize val_main_v129 (F := Ideal) x0 x1 x2 x3 x4 x5 x6 x7 x8 x9 x10 x11 x12 x13 = s
    intro hm
    pointwise [val_main_v133, val_main_v135, val_main_cst_7, val_main_cst_8, val_main_cst_9]
    simp only [hm]
  unfold val_main_v148 val_main_v147 val_main_v146 val_main_v145 val_main_v144
  revert hn
  generalize val_main_v142 (F := Ideal) x0 x1 x2 x3 x4 x5 x6 x7 x8 x9 x10 x11 x12 x13 x14 = s
  intro hn
  pointwise [val_main_v143, val_main_v94, val_main_v95, val_main_v84, val_main_cst_10]
  rw [hn]
  unfold normed renorm Cert.Proj.hidden
  rw [latent_modRow b t]

end Cert.Merge.Reference

end
-- ==== Proof.Merge.RefRoute.lean ====
/- The merge's reference: the router's weights. -/
module

public import proofs.«01_k».proof.Proof.Merge.RefNorm

@[expose] public section

set_option maxRecDepth 16384

noncomputable section

namespace Cert.Merge.Reference

open Idealize.ShloMosaic Idealize.ShloMosaic.TcCoe Idealize.SL.Sem Cert.Reference4Ideal Cert.Reference4Ideal.Read Cert.Proj Cert.Attn

variable (x0 : FVec Ideal S8x4352x1024 .f32) (x1 : FVec Ideal S9x1x6144 .f32) (x2 x3 x4 x5 x6 x7 x8 : FVec Ideal S8x4352x1024 .bf16)
  (x9 : FVec Ideal S3x1024 .f32) (x10 x11 x12 x13 : FVec Ideal S1024x1024 .f32) (x14 : FVec Ideal S1024 .f32) (x15 : FVec Ideal S1024x16 .f32)

/-- The router's scores of the context rows. -/
theorem context_scores_at (b : Fin 8) (t : Fin 256) (e : Fin 16) :
    val_main_v72 (F := Ideal) x0 x1 x2 x3 x4 x5 x6 x7 x8 x9 x10 x11 x12 x13 x14 x15 (ix3 b t e) = proj (normed x0 x1 x2 x3 x4 x5 x6 x7 x8 x9 x10 x11 x12 x13 x14 b (⟨t.val, by omega⟩ : Fin 4352)) (fun d => x15 (ix2 d e)) := by
  have hn := context_normed_at x0 x1 x2 x3 x4 x5 x6 x7 x8 x9 x10 x11 x12 x13 x14 b t
  unfold val_main_v72
  revert hn
  generalize val_main_v71 (F := Ideal) x0 x1 x2 x3 x4 x5 x6 x7 x8 x9 x10 x11 x12 x13 x14 = s
  intro hn
  pointwise
  unfold proj
  exact Finset.sum_congr rfl fun d _ => Ideal.mul_congr (hn d) rfl

/-- The largest of a row, as the reference's reduction reads at an index. -/
theorem context_max_at (s : FVec Ideal S8x256x16 .f32) (z : FVec Ideal S_ .f32) (b : Fin 8) (t : Fin 256) :
    (Host.reduce FloatOps.maximumf s z Gen.reducesTo_S8x256x16_S8x256_d2 Gen.h_S_ : FVec Ideal S8x256 .f32) (ix2 b t)
      = Finset.univ.fold max (z (Shape.Idx.first Gen.h_S_)) fun j => s (ix3 b t j) := by
  pointwise

/-- The largest score of a context row. -/
theorem context_largest_at (b : Fin 8) (t : Fin 256) (s : Fin 16 → EReal)
    (hs : ∀ e, val_main_v72 (F := Ideal) x0 x1 x2 x3 x4 x5 x6 x7 x8 x9 x10 x11 x12 x13 x14 x15 (ix3 b t e) = s e) :
    val_main_v75 (F := Ideal) x0 x1 x2 x3 x4 x5 x6 x7 x8 x9 x10 x11 x12 x13 x14 x15 (ix2 b t) = rowMax s := by
  have e := context_max_at (val_main_v72 (F := Ideal) x0 x1 x2 x3 x4 x5 x6 x7 x8 x9 x10 x11 x12 x13 x14 x15) (val_main_cst_3 (F := Ideal)) b t
  simp only [hs] at e
  have e0 : val_main_cst_3 (F := Ideal) (Shape.Idx.first Gen.h_S_) = ⊥ := ofBits_neg_inf
  have e1 : val_main_v74 (F := Ideal) (ix2 b t) = ⊥ := by
    unfold val_main_v74 val_main_cst_4
    pointwise [ofBits_neg_inf]
  rw [e0] at e
  rw [val_main_v75_apply, e1]
  exact (congrArg (max ⊥) e).trans (max_eq_right bot_le)

/-- A softmax of given scores, as the reference computes it on the context rows. -/
theorem context_softmax_at (b : Fin 8) (t : Fin 256) (s : Fin 16 → EReal)
    (hs : ∀ e, val_main_v72 (F := Ideal) x0 x1 x2 x3 x4 x5 x6 x7 x8 x9 x10 x11 x12 x13 x14 x15 (ix3 b t e) = s e) (e : Fin 16) :
    val_main_v83 (F := Ideal) x0 x1 x2 x3 x4 x5 x6 x7 x8 x9 x10 x11 x12 x13 x14 x15 (ix3 b t e) = softmax s e := by
  have hm := context_largest_at x0 x1 x2 x3 x4 x5 x6 x7 x8 x9 x10 x11 x12 x13 x14 x15 b t s hs
  have hw : ∀ e, val_main_v79 (F := Ideal) x0 x1 x2 x3 x4 x5 x6 x7 x8 x9 x10 x11 x12 x13 x14 x15 (ix3 b t e) = Ideal.exp (s e - rowMax s) := by
    intro e
    have he := hs e
    unfold val_main_v79 val_main_v78 val_main_v77 val_main_v76
    revert he hm
    generalize val_main_v72 (F := Ideal) x0 x1 x2 x3 x4 x5 x6 x7 x8 x9 x10 x11 x12 x13 x14 x15 = l
    generalize val_main_v75 (F := Ideal) x0 x1 x2 x3 x4 x5 x6 x7 x8 x9 x10 x11 x12 x13 x14 x15 = M
    intro hm he
    pointwise
    rw [he, hm]
  unfold val_main_v83 val_main_v82 val_main_v81 val_main_v80
  revert hw
  generalize val_main_v79 (F := Ideal) x0 x1 x2 x3 x4 x5 x6 x7 x8 x9 x10 x11 x12 x13 x14 x15 = w
  intro hw
  pointwise [val_main_cst_5]
  simp only [hw, zero_add]
  rfl

/-- The router's weights of the context rows. -/
theorem context_chance_at (b : Fin 8) (t : Fin 256) (e : Fin 16) :
    val_main_v83 (F := Ideal) x0 x1 x2 x3 x4 x5 x6 x7 x8 x9 x10 x11 x12 x13 x14 x15 (ix3 b t e) = chance x0 x1 x2 x3 x4 x5 x6 x7 x8 x9 x10 x11 x12 x13 x14 x15 b e (⟨t.val, by omega⟩ : Fin 4352) :=
  context_softmax_at x0 x1 x2 x3 x4 x5 x6 x7 x8 x9 x10 x11 x12 x13 x14 x15 b t _ (context_scores_at x0 x1 x2 x3 x4 x5 x6 x7 x8 x9 x10 x11 x12 x13 x14 x15 b t) e

/-- The router's scores of the latent rows. -/
theorem latent_scores_at (b : Fin 8) (t : Fin 4096) (e : Fin 16) :
    val_main_v149 (F := Ideal) x0 x1 x2 x3 x4 x5 x6 x7 x8 x9 x10 x11 x12 x13 x14 x15 (ix3 b t e) = proj (normed x0 x1 x2 x3 x4 x5 x6 x7 x8 x9 x10 x11 x12 x13 x14 b (⟨256 + t.val, by omega⟩ : Fin 4352)) (fun d => x15 (ix2 d e)) := by
  have hn := latent_normed_at x0 x1 x2 x3 x4 x5 x6 x7 x8 x9 x10 x11 x12 x13 x14 b t
  unfold val_main_v149
  revert hn
  generalize val_main_v148 (F := Ideal) x0 x1 x2 x3 x4 x5 x6 x7 x8 x9 x10 x11 x12 x13 x14 = s
  intro hn
  pointwise
  unfold proj
  exact Finset.sum_congr rfl fun d _ => Ideal.mul_congr (hn d) rfl

/-- The largest of a row, as the reference's reduction reads at an index. -/
theorem latent_max_at (s : FVec Ideal S8x4096x16 .f32) (z : FVec Ideal S_ .f32) (b : Fin 8) (t : Fin 4096) :
    (Host.reduce FloatOps.maximumf s z Gen.reducesTo_S8x4096x16_S8x4096_d2 Gen.h_S_ : FVec Ideal S8x4096 .f32) (ix2 b t)
      = Finset.univ.fold max (z (Shape.Idx.first Gen.h_S_)) fun j => s (ix3 b t j) := by
  pointwise

/-- The largest score of a latent row. -/
theorem latent_largest_at (b : Fin 8) (t : Fin 4096) (s : Fin 16 → EReal)
    (hs : ∀ e, val_main_v149 (F := Ideal) x0 x1 x2 x3 x4 x5 x6 x7 x8 x9 x10 x11 x12 x13 x14 x15 (ix3 b t e) = s e) :
    val_main_v152 (F := Ideal) x0 x1 x2 x3 x4 x5 x6 x7 x8 x9 x10 x11 x12 x13 x14 x15 (ix2 b t) = rowMax s := by
  have e := latent_max_at (val_main_v149 (F := Ideal) x0 x1 x2 x3 x4 x5 x6 x7 x8 x9 x10 x11 x12 x13 x14 x15) (val_main_cst_11 (F := Ideal)) b t
  simp only [hs] at e
  have e0 : val_main_cst_11 (F := Ideal) (Shape.Idx.first Gen.h_S_) = ⊥ := ofBits_neg_inf
  have e1 : val_main_v151 (F := Ideal) (ix2 b t) = ⊥ := by
    unfold val_main_v151 val_main_cst_12
    pointwise [ofBits_neg_inf]
  rw [e0] at e
  rw [val_main_v152_apply, e1]
  exact (congrArg (max ⊥) e).trans (max_eq_right bot_le)

/-- A softmax of given scores, as the reference computes it on the latent rows. -/
theorem latent_softmax_at (b : Fin 8) (t : Fin 4096) (s : Fin 16 → EReal)
    (hs : ∀ e, val_main_v149 (F := Ideal) x0 x1 x2 x3 x4 x5 x6 x7 x8 x9 x10 x11 x12 x13 x14 x15 (ix3 b t e) = s e) (e : Fin 16) :
    val_main_v160 (F := Ideal) x0 x1 x2 x3 x4 x5 x6 x7 x8 x9 x10 x11 x12 x13 x14 x15 (ix3 b t e) = softmax s e := by
  have hm := latent_largest_at x0 x1 x2 x3 x4 x5 x6 x7 x8 x9 x10 x11 x12 x13 x14 x15 b t s hs
  have hw : ∀ e, val_main_v156 (F := Ideal) x0 x1 x2 x3 x4 x5 x6 x7 x8 x9 x10 x11 x12 x13 x14 x15 (ix3 b t e) = Ideal.exp (s e - rowMax s) := by
    intro e
    have he := hs e
    unfold val_main_v156 val_main_v155 val_main_v154 val_main_v153
    revert he hm
    generalize val_main_v149 (F := Ideal) x0 x1 x2 x3 x4 x5 x6 x7 x8 x9 x10 x11 x12 x13 x14 x15 = l
    generalize val_main_v152 (F := Ideal) x0 x1 x2 x3 x4 x5 x6 x7 x8 x9 x10 x11 x12 x13 x14 x15 = M
    intro hm he
    pointwise
    rw [he, hm]
  unfold val_main_v160 val_main_v159 val_main_v158 val_main_v157
  revert hw
  generalize val_main_v156 (F := Ideal) x0 x1 x2 x3 x4 x5 x6 x7 x8 x9 x10 x11 x12 x13 x14 x15 = w
  intro hw
  pointwise [val_main_cst_13]
  simp only [hw, zero_add]
  rfl

/-- The router's weights of the latent rows. -/
theorem latent_chance_at (b : Fin 8) (t : Fin 4096) (e : Fin 16) :
    val_main_v160 (F := Ideal) x0 x1 x2 x3 x4 x5 x6 x7 x8 x9 x10 x11 x12 x13 x14 x15 (ix3 b t e) = chance x0 x1 x2 x3 x4 x5 x6 x7 x8 x9 x10 x11 x12 x13 x14 x15 b e (⟨256 + t.val, by omega⟩ : Fin 4352) :=
  latent_softmax_at x0 x1 x2 x3 x4 x5 x6 x7 x8 x9 x10 x11 x12 x13 x14 x15 b t _ (latent_scores_at x0 x1 x2 x3 x4 x5 x6 x7 x8 x9 x10 x11 x12 x13 x14 x15 b t) e

end Cert.Merge.Reference

end
-- ==== Proof.Merge.RefOut.lean ====
/- The merge's reference: its results. -/
module

public import proofs.«01_k».proof.Proof.Merge.RefRoute

@[expose] public section

set_option maxRecDepth 16384

noncomputable section

namespace Cert.Merge.Reference

open Idealize.ShloMosaic Idealize.ShloMosaic.TcCoe Idealize.SL.Sem Cert.Reference4Ideal Cert.Reference4Ideal.Read Cert.Proj Cert.Attn

variable (x0 : FVec Ideal S8x4352x1024 .f32) (x1 : FVec Ideal S9x1x6144 .f32) (x2 x3 x4 x5 x6 x7 x8 : FVec Ideal S8x4352x1024 .bf16)
  (x9 : FVec Ideal S3x1024 .f32) (x10 x11 x12 x13 : FVec Ideal S1024x1024 .f32) (x14 : FVec Ideal S1024 .f32) (x15 : FVec Ideal S1024x16 .f32)

theorem merged_at (b : Fin 8) (t : Fin 4352) (e : Fin 1024) : val_main_v161 (F := Ideal) x0 x1 x2 x3 x4 x5 x6 x7 x8 x9 x10 x11 x12 x13 (ix3 b t e) = merged x0 x1 x2 x3 x4 x5 x6 x7 x8 x9 x10 x11 x12 x13 b t e := by
  have hc := context_merged_at x0 x1 x2 x3 x4 x5 x6 x7 x8 x9 x10 x11 x12 x13 b
  have hl := latent_merged_at x0 x1 x2 x3 x4 x5 x6 x7 x8 x9 x10 x11 x12 x13 b
  unfold val_main_v161
  revert hc hl
  generalize val_main_v52 (F := Ideal) x0 x1 x2 x3 x4 x5 x6 x7 x8 x9 x10 x11 x12 x13 = p
  generalize val_main_v129 (F := Ideal) x0 x1 x2 x3 x4 x5 x6 x7 x8 x9 x10 x11 x12 x13 = q
  intro hc hl
  pointwise
  by_cases h : t.val < 256
  · rw [dif_pos h, hc]
  · rw [dif_neg h, hl]
    have e : 256 + (t.val - 256) = t.val := by omega
    simp only [e]

theorem normed_at (b : Fin 8) (t : Fin 4352) (e : Fin 1024) : val_main_v162 (F := Ideal) x0 x1 x2 x3 x4 x5 x6 x7 x8 x9 x10 x11 x12 x13 x14 (ix3 b t e) = normed x0 x1 x2 x3 x4 x5 x6 x7 x8 x9 x10 x11 x12 x13 x14 b t e := by
  have hc := context_normed_at x0 x1 x2 x3 x4 x5 x6 x7 x8 x9 x10 x11 x12 x13 x14 b
  have hl := latent_normed_at x0 x1 x2 x3 x4 x5 x6 x7 x8 x9 x10 x11 x12 x13 x14 b
  unfold val_main_v162
  revert hc hl
  generalize val_main_v71 (F := Ideal) x0 x1 x2 x3 x4 x5 x6 x7 x8 x9 x10 x11 x12 x13 x14 = p
  generalize val_main_v148 (F := Ideal) x0 x1 x2 x3 x4 x5 x6 x7 x8 x9 x10 x11 x12 x13 x14 = q
  intro hc hl
  pointwise
  by_cases h : t.val < 256
  · rw [dif_pos h, hc]
  · rw [dif_neg h, hl]
    have e : 256 + (t.val - 256) = t.val := by omega
    simp only [e]

theorem chance_at (b : Fin 8) (t : Fin 4352) (e : Fin 16) : val_main_v163 (F := Ideal) x0 x1 x2 x3 x4 x5 x6 x7 x8 x9 x10 x11 x12 x13 x14 x15 (ix3 b t e) = chance x0 x1 x2 x3 x4 x5 x6 x7 x8 x9 x10 x11 x12 x13 x14 x15 b e t := by
  have hc := context_chance_at x0 x1 x2 x3 x4 x5 x6 x7 x8 x9 x10 x11 x12 x13 x14 x15 b
  have hl := latent_chance_at x0 x1 x2 x3 x4 x5 x6 x7 x8 x9 x10 x11 x12 x13 x14 x15 b
  unfold val_main_v163
  revert hc hl
  generalize val_main_v83 (F := Ideal) x0 x1 x2 x3 x4 x5 x6 x7 x8 x9 x10 x11 x12 x13 x14 x15 = p
  generalize val_main_v160 (F := Ideal) x0 x1 x2 x3 x4 x5 x6 x7 x8 x9 x10 x11 x12 x13 x14 x15 = q
  intro hc hl
  pointwise
  by_cases h : t.val < 256
  · rw [dif_pos h, hc]
  · rw [dif_neg h, hl]
    have e : 256 + (t.val - 256) = t.val := by omega
    simp only [e]

theorem res18_eq : val_main_v161 (F := Ideal) x0 x1 x2 x3 x4 x5 x6 x7 x8 x9 x10 x11 x12 x13 = full (merged x0 x1 x2 x3 x4 x5 x6 x7 x8 x9 x10 x11 x12 x13) := by
  funext i
  obtain ⟨b, t, x, rfl⟩ : ∃ (b : Fin 8) (t : Fin 4352) (x : Fin 1024), i = ix3 b t x := ⟨i 0, i 1, i 2, eq_ix3 i⟩
  exact (merged_at x0 x1 x2 x3 x4 x5 x6 x7 x8 x9 x10 x11 x12 x13 b t x).trans (full_at _ _ b t x rfl rfl rfl).symm

theorem narrowed_at (i : S8x4352x1024.Idx) : val_main_v164 (F := Ideal) x0 x1 x2 x3 x4 x5 x6 x7 x8 x9 x10 x11 x12 x13 x14 i = val_main_v162 (F := Ideal) x0 x1 x2 x3 x4 x5 x6 x7 x8 x9 x10 x11 x12 x13 x14 i := by
  rw [val_main_v164_apply]
  generalize val_main_v162 (F := Ideal) x0 x1 x2 x3 x4 x5 x6 x7 x8 x9 x10 x11 x12 x13 x14 = s
  rfl

theorem res19_eq : val_main_v164 (F := Ideal) x0 x1 x2 x3 x4 x5 x6 x7 x8 x9 x10 x11 x12 x13 x14 = full (normed x0 x1 x2 x3 x4 x5 x6 x7 x8 x9 x10 x11 x12 x13 x14) := by
  funext i
  obtain ⟨b, t, x, rfl⟩ : ∃ (b : Fin 8) (t : Fin 4352) (x : Fin 1024), i = ix3 b t x := ⟨i 0, i 1, i 2, eq_ix3 i⟩
  exact (narrowed_at x0 x1 x2 x3 x4 x5 x6 x7 x8 x9 x10 x11 x12 x13 x14 _).trans ((normed_at x0 x1 x2 x3 x4 x5 x6 x7 x8 x9 x10 x11 x12 x13 x14 b t x).trans (full_at _ _ b t x rfl rfl rfl).symm)

theorem turned_at (s : FVec Ideal S8x4352x16 .f32) (h : S8x4352x16.Transposes [0, 2, 1] S8x16x4352) (b : Fin 8) (e : Fin 16) (t : Fin 4352) :
    Idealize.ShloMosaic.transpose S8x16x4352 [0, 2, 1] s h (ix3 b e t) = s (ix3 b t e) := by
  pointwise

theorem res20_eq : val_main_v165 (F := Ideal) x0 x1 x2 x3 x4 x5 x6 x7 x8 x9 x10 x11 x12 x13 x14 x15 = third (chance x0 x1 x2 x3 x4 x5 x6 x7 x8 x9 x10 x11 x12 x13 x14 x15) := by
  funext i
  obtain ⟨b, e, t, rfl⟩ : ∃ (b : Fin 8) (e : Fin 16) (t : Fin 4352), i = ix3 b e t := ⟨i 0, i 1, i 2, eq_ix3 i⟩
  refine Eq.trans ?_ ((chance_at x0 x1 x2 x3 x4 x5 x6 x7 x8 x9 x10 x11 x12 x13 x14 x15 b t e).trans (third_at _ _ b e t rfl rfl rfl).symm)
  unfold val_main_v165
  exact turned_at _ _ b e t

end Cert.Merge.Reference

end
-- ==== Proof.Merge.Claim.lean ====
/- The merge's claim: the kernel's results are the reference's. -/
module

public import proofs.«01_k».proof.Defs
public import proofs.«01_k».proof.Proof.Merge.Final
public import proofs.«01_k».proof.Proof.Merge.RefOut
public import proofs.«01_k».proof.Proof.Gen.Reference4Ideal.Run
public import Idealize.ShloMosaic.Lib.Claim

@[expose] public section

set_option maxRecDepth 16384

noncomputable section

namespace Cert.Merge

open Idealize.ShloMosaic Idealize.ShloMosaic.TcCoe Idealize.SL.Sem Cert.Attn Cert.Proj Cert.Kernel4Ideal

theorem congr_14 {A0 A1 A2 A3 A4 A5 A6 A7 A8 A9 A10 A11 A12 A13 R : Type} (f : A0 → A1 → A2 → A3 → A4 → A5 → A6 → A7 → A8 → A9 → A10 → A11 → A12 → A13 → R) {a0 b0 : A0} {a1 b1 : A1} {a2 b2 : A2} {a3 b3 : A3} {a4 b4 : A4} {a5 b5 : A5} {a6 b6 : A6} {a7 b7 : A7} {a8 b8 : A8} {a9 b9 : A9} {a10 b10 : A10} {a11 b11 : A11} {a12 b12 : A12} {a13 b13 : A13}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) :
    f a0 a1 a2 a3 a4 a5 a6 a7 a8 a9 a10 a11 a12 a13 = f b0 b1 b2 b3 b4 b5 b6 b7 b8 b9 b10 b11 b12 b13 := by
  rw [h0, h1, h2, h3, h4, h5, h6, h7, h8, h9, h10, h11, h12, h13]

theorem congr_15 {A0 A1 A2 A3 A4 A5 A6 A7 A8 A9 A10 A11 A12 A13 A14 R : Type} (f : A0 → A1 → A2 → A3 → A4 → A5 → A6 → A7 → A8 → A9 → A10 → A11 → A12 → A13 → A14 → R) {a0 b0 : A0} {a1 b1 : A1} {a2 b2 : A2} {a3 b3 : A3} {a4 b4 : A4} {a5 b5 : A5} {a6 b6 : A6} {a7 b7 : A7} {a8 b8 : A8} {a9 b9 : A9} {a10 b10 : A10} {a11 b11 : A11} {a12 b12 : A12} {a13 b13 : A13} {a14 b14 : A14}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    f a0 a1 a2 a3 a4 a5 a6 a7 a8 a9 a10 a11 a12 a13 a14 = f b0 b1 b2 b3 b4 b5 b6 b7 b8 b9 b10 b11 b12 b13 b14 := by
  rw [h0, h1, h2, h3, h4, h5, h6, h7, h8, h9, h10, h11, h12, h13, h14]

theorem congr_16 {A0 A1 A2 A3 A4 A5 A6 A7 A8 A9 A10 A11 A12 A13 A14 A15 R : Type} (f : A0 → A1 → A2 → A3 → A4 → A5 → A6 → A7 → A8 → A9 → A10 → A11 → A12 → A13 → A14 → A15 → R) {a0 b0 : A0} {a1 b1 : A1} {a2 b2 : A2} {a3 b3 : A3} {a4 b4 : A4} {a5 b5 : A5} {a6 b6 : A6} {a7 b7 : A7} {a8 b8 : A8} {a9 b9 : A9} {a10 b10 : A10} {a11 b11 : A11} {a12 b12 : A12} {a13 b13 : A13} {a14 b14 : A14} {a15 b15 : A15}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    f a0 a1 a2 a3 a4 a5 a6 a7 a8 a9 a10 a11 a12 a13 a14 a15 = f b0 b1 b2 b3 b4 b5 b6 b7 b8 b9 b10 b11 b12 b13 b14 b15 := by
  rw [h0, h1, h2, h3, h4, h5, h6, h7, h8, h9, h10, h11, h12, h13, h14, h15]

set_option maxHeartbeats 4000000 in
theorem algebraic : Cert.algebraic_Kernel4Ideal_Reference4Ideal
    (hKernel4Ideal := Cert.Kernel4Ideal.Gen.facts) (hReference4Ideal := Cert.Reference4Ideal.Gen.facts) := by
  intro m g m' g' _ hagree
  refine ⟨fun c => full (merged (Array.aX m c) (Array.aM m c) (Array.aA m c) (Array.aCb m c) (Array.aCu m c) (Array.aAtt m c) (Array.aGa m c) (Array.aGb m c) (Array.aGc m c) (Array.aCw m c) (Array.aWa m c) (Array.aWb m c) (Array.aWc m c) (Array.aWo m c)), fun c => full (normed (Array.aX m c) (Array.aM m c) (Array.aA m c) (Array.aCb m c) (Array.aCu m c) (Array.aAtt m c) (Array.aGa m c) (Array.aGb m c) (Array.aGc m c) (Array.aCw m c) (Array.aWa m c) (Array.aWb m c) (Array.aWc m c) (Array.aWo m c) (Array.aG m c)),
    fun c => third (chance (Array.aX m c) (Array.aM m c) (Array.aA m c) (Array.aCb m c) (Array.aCu m c) (Array.aAtt m c) (Array.aGa m c) (Array.aGb m c) (Array.aGc m c) (Array.aCw m c) (Array.aWa m c) (Array.aWb m c) (Array.aWc m c) (Array.aWo m c) (Array.aG m c) (Array.aR m c)), ?_, ?_⟩
  · refine (θ_run _ _ _).mono (fun r h c => ?_) (Cert.Kernel4Ideal.Value.run_blocks m g)
    obtain ⟨h18, h19, h20, hr⟩ := h c
    exact ⟨h18.trans (Array.final18 m c), h19.trans (Array.final19 m c), h20.trans (Array.final20 m c), hr⟩
  · refine (θ_run _ _ _).mono (fun r h c => ?_) (Cert.Reference4Ideal.Value.run m' g')
    obtain ⟨h18, h19, h20, hr⟩ := h c
    obtain ⟨e0, e1, e2, e3, e4, e5, e6, e7, e8, e9, e10, e11, e12, e13, e14, e15⟩ := hagree c
    refine ⟨?_, ?_, ?_, hr⟩
    · exact (h18.trans (Cert.Reference4Ideal.Read.val_main_v161_eq _)).trans ((Reference.res18_eq _ _ _ _ _ _ _ _ _ _ _ _ _ _).trans (congr_14 (fun a0 a1 a2 a3 a4 a5 a6 a7 a8 a9 a10 a11 a12 a13 => full (merged a0 a1 a2 a3 a4 a5 a6 a7 a8 a9 a10 a11 a12 a13)) e0 e1 e2 e3 e4 e5 e6 e7 e8 e9 e10 e11 e12 e13))
    · exact (h19.trans (Cert.Reference4Ideal.Read.val_main_v164_eq _)).trans ((Reference.res19_eq _ _ _ _ _ _ _ _ _ _ _ _ _ _ _).trans (congr_15 (fun a0 a1 a2 a3 a4 a5 a6 a7 a8 a9 a10 a11 a12 a13 a14 => full (normed a0 a1 a2 a3 a4 a5 a6 a7 a8 a9 a10 a11 a12 a13 a14)) e0 e1 e2 e3 e4 e5 e6 e7 e8 e9 e10 e11 e12 e13 e14))
    · exact (h20.trans (Cert.Reference4Ideal.Read.val_main_v165_eq _)).trans ((Reference.res20_eq _ _ _ _ _ _ _ _ _ _ _ _ _ _ _ _).trans (congr_16 (fun a0 a1 a2 a3 a4 a5 a6 a7 a8 a9 a10 a11 a12 a13 a14 a15 => third (chance a0 a1 a2 a3 a4 a5 a6 a7 a8 a9 a10 a11 a12 a13 a14 a15)) e0 e1 e2 e3 e4 e5 e6 e7 e8 e9 e10 e11 e12 e13 e14 e15))

end Cert.Merge

end
-- ==== Proof.Scatter.Row.lean ====
/- The last layer's residual of one token, by coordinates: the experts' rows it is scattered from, and the final norm. -/
module

public import proofs.«01_k».proof.Proof.Proj.Row

@[expose] public section

noncomputable section

namespace Cert.Scatter

open Idealize.ShloMosaic Cert.Attn Cert.Proj

/-- The row a token occupies among an expert's rows; zero when it occupies none. -/
def slotRow (v : BitVec 32) (y : Fin 512 → EReal) : EReal := if h : v.toNat < 512 then y ⟨v.toNat, h⟩ else 0

/-- The experts' rows of a token, weighted and summed. -/
def scatterRow (v : Fin 16 → BitVec 32) (a : Fin 16 → EReal) (y : Fin 16 → Fin 512 → Fin 1024 → EReal) (d : Fin 1024) : EReal :=
  ∑ e, a e * slotRow (v e) (fun j => y e j d)

/-- A row divided by its root mean square, times the gain. -/
def normRow (x g : Fin 1024 → EReal) (d : Fin 1024) : EReal :=
  x d * Ideal.rsqrt (Ideal.div (∑ k, x k * x k) (Ideal.ofBits .f32 0x44800000#32) + Ideal.ofBits .f32 0x358637BD#32) * g d

/-- A sum over the slots that keeps one slot's row is that row. -/
theorem sum_select (v : BitVec 32) (y : Fin 512 → EReal) :
    (∑ x : Fin 512, Scalar.select (IntOp.cmpi .eq v (BitVec.ofNat 32 x.val)) (y x) (0 : EReal)) = slotRow v y := by
  have hs : ∀ x : Fin 512, Scalar.select (IntOp.cmpi .eq v (BitVec.ofNat 32 x.val)) (y x) (0 : EReal) = if v.toNat = x.val then y x else 0 := by
    intro x
    have hx : (BitVec.ofNat 32 x.val).toNat = x.val := by rw [BitVec.toNat_ofNat]; exact Nat.mod_eq_of_lt (by omega)
    by_cases h : v.toNat = x.val
    · have hv : v = BitVec.ofNat 32 x.val := BitVec.eq_of_toNat_eq (h.trans hx.symm)
      rw [if_pos h, hv]
      simp [Scalar.select, IntOp.cmpi]
    · have hv : v ≠ BitVec.ofNat 32 x.val := fun he => h ((congrArg BitVec.toNat he).trans hx)
      rw [if_neg h]
      show (if BitVec.ofBool (v == BitVec.ofNat 32 x.val) = 1#1 then y x else 0) = 0
      rw [beq_eq_false_iff_ne.2 hv]
      exact if_neg (by decide)
  rw [Finset.sum_congr rfl fun x _ => hs x]
  unfold slotRow
  by_cases h : v.toNat < 512
  · rw [dif_pos h, Finset.sum_eq_single (⟨v.toNat, h⟩ : Fin 512)]
    · exact if_pos rfl
    · exact fun b _ hb => if_neg fun he => hb (Fin.ext he.symm)
    · exact fun hn => absurd (Finset.mem_univ _) hn
  · rw [dif_neg h]
    exact Finset.sum_eq_zero fun x _ => if_neg fun he => h (lt_of_eq_of_lt he x.isLt)

/-- Sixteen terms, one after another. -/
theorem sum_sixteen (f : Fin 16 → EReal) :
    ∑ e, f e = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

end Cert.Scatter

end
-- ==== Proof.Scatter.Block.lean ====
/- The block the last layer's residual writes, by coordinates. -/
module

public import proofs.«01_k».proof.Proof.Gen.Kernel5Ideal.Value
public import proofs.«01_k».proof.Proof.Scatter.Row
public import Idealize.ShloMosaic.Lib.Pipeline.ValueKit

@[expose] public section

set_option maxRecDepth 16384

noncomputable section

namespace Cert.Scatter.Block

open Idealize.ShloMosaic Idealize.ShloMosaic.TcCoe Idealize.SL.Sem Cert.Kernel5Ideal Cert.Kernel5Ideal.Gen Cert.Scatter

/-- An expert's rows among the staged ones. -/
theorem expert_at (x : FVec Ideal S16x512x1024 .bf16) (e : Nat) (he : e < 16)
    (inb : ∀ a : Fin S16x512x1024.rank, (![e, 0, 0] : Fin S16x512x1024.rank → Nat) a + S1x512x1024.size a ≤ S16x512x1024.size a) (j : Fin 512) (d : Fin 1024) :
    View.ld (Val := Elt Ideal) (e' := .bf16) x (Rect.unit (s := S16x512x1024) ![e, 0, 0] S1x512x1024.size inb) (ix3 0 j d) = x (ix3 ⟨e, he⟩ j d) := by
  rw [View.ld_unit]
  pointwise []

/-- The experts' weighted rows one after another. -/
theorem first_at (x3 : IVec S1x256x16 32) (x4 : FVec Ideal S1x256x16 .f32) (y0 y1 : FVec Ideal S1x512x1024 .bf16) (r : Fin 256) (d : Fin 1024) :
    k0_pay5 (F := Ideal) x3 x4 y0 y1 (ix2 r d)
      = x4 (ix3 0 r 0) * slotRow (x3 (ix3 0 r 0)) (fun j => y0 (ix3 0 j d))
        + x4 (ix3 0 r 1) * slotRow (x3 (ix3 0 r 1)) (fun j => y1 (ix3 0 j d)) := by
  pointwise [k0_pay5, k0_pay3, k0_pay4]
  simp only [sum_select, zero_add]

theorem step6_at (v3 : IVec S256x16 32) (v5 : FVec Ideal S256x16 .f32) (s : FVec Ideal S256x1024 .f32) (y0 y1 y2 : FVec Ideal S1x512x1024 .bf16)
    (r : Fin 256) (d : Fin 1024) :
    k0_pay6 (F := Ideal) v3 v5 (iota .tc S256x512 32 [1] iota_S256x512_d1_w32) s y0 y1 y2 (ix2 r d)
      = s (ix2 r d) + v5 (ix2 r 2) * slotRow (v3 (ix2 r 2)) (fun j => y0 (ix3 0 j d))
        + v5 (ix2 r 3) * slotRow (v3 (ix2 r 3)) (fun j => y1 (ix3 0 j d))
        + v5 (ix2 r 4) * slotRow (v3 (ix2 r 4)) (fun j => y2 (ix3 0 j d)) := by
  pointwise [k0_pay6]
  simp only [sum_select]

theorem step7_at (v3 : IVec S256x16 32) (v5 : FVec Ideal S256x16 .f32) (s : FVec Ideal S256x1024 .f32) (y0 y1 y2 : FVec Ideal S1x512x1024 .bf16)
    (r : Fin 256) (d : Fin 1024) :
    k0_pay7 (F := Ideal) v3 v5 (iota .tc S256x512 32 [1] iota_S256x512_d1_w32) s y0 y1 y2 (ix2 r d)
      = s (ix2 r d) + v5 (ix2 r 5) * slotRow (v3 (ix2 r 5)) (fun j => y0 (ix3 0 j d))
        + v5 (ix2 r 6) * slotRow (v3 (ix2 r 6)) (fun j => y1 (ix3 0 j d))
        + v5 (ix2 r 7) * slotRow (v3 (ix2 r 7)) (fun j => y2 (ix3 0 j d)) := by
  pointwise [k0_pay7]
  simp only [sum_select]

theorem step8_at (v3 : IVec S256x16 32) (v5 : FVec Ideal S256x16 .f32) (s : FVec Ideal S256x1024 .f32) (y0 y1 y2 : FVec Ideal S1x512x1024 .bf16)
    (r : Fin 256) (d : Fin 1024) :
    k0_pay8 (F := Ideal) v3 v5 (iota .tc S256x512 32 [1] iota_S256x512_d1_w32) s y0 y1 y2 (ix2 r d)
      = s (ix2 r d) + v5 (ix2 r 8) * slotRow (v3 (ix2 r 8)) (fun j => y0 (ix3 0 j d))
        + v5 (ix2 r 9) * slotRow (v3 (ix2 r 9)) (fun j => y1 (ix3 0 j d))
        + v5 (ix2 r 10) * slotRow (v3 (ix2 r 10)) (fun j => y2 (ix3 0 j d)) := by
  pointwise [k0_pay8]
  simp only [sum_select]

theorem step9_at (v3 : IVec S256x16 32) (v5 : FVec Ideal S256x16 .f32) (s : FVec Ideal S256x1024 .f32) (y0 y1 y2 : FVec Ideal S1x512x1024 .bf16)
    (r : Fin 256) (d : Fin 1024) :
    k0_pay9 (F := Ideal) v3 v5 (iota .tc S256x512 32 [1] iota_S256x512_d1_w32) s y0 y1 y2 (ix2 r d)
      = s (ix2 r d) + v5 (ix2 r 11) * slotRow (v3 (ix2 r 11)) (fun j => y0 (ix3 0 j d))
        + v5 (ix2 r 12) * slotRow (v3 (ix2 r 12)) (fun j => y1 (ix3 0 j d))
        + v5 (ix2 r 13) * slotRow (v3 (ix2 r 13)) (fun j => y2 (ix3 0 j d)) := by
  pointwise [k0_pay9]
  simp only [sum_select]

theorem last_at (v1 : FVec Ideal S1x6144 .f32) (v3 : IVec S256x16 32) (v5 : FVec Ideal S256x16 .f32) (s : FVec Ideal S256x1024 .f32)
    (y0 y1 : FVec Ideal S1x512x1024 .bf16) (x0 : FVec Ideal S1x256x1024 .f32) (r : Fin 256) (d : Fin 1024) :
    k0_pay10 (F := Ideal) v1 v3 v5 (iota .tc S256x512 32 [1] iota_S256x512_d1_w32) s y0 y1 x0 (ix2 r d)
      = x0 (ix3 0 r d) + v1 (ix2 0 ⟨5120 + d.val, by omega⟩)
        * (s (ix2 r d) + v5 (ix2 r 14) * slotRow (v3 (ix2 r 14)) (fun j => y0 (ix3 0 j d))
          + v5 (ix2 r 15) * slotRow (v3 (ix2 r 15)) (fun j => y1 (ix3 0 j d))) := by
  pointwise [k0_pay10]
  simp only [sum_select]

theorem scale_at (v1 : FVec Ideal S1x6144 .f32) (v3 : IVec S256x16 32) (v5 : FVec Ideal S256x16 .f32) (v6 : IVec S256x512 32) (s : FVec Ideal S256x1024 .f32)
    (y0 y1 : FVec Ideal S1x512x1024 .bf16) (x0 : FVec Ideal S1x256x1024 .f32) (r : Fin 256) :
    k0_pay11 (F := Ideal) v1 v3 v5 v6 s y0 y1 x0 (ix2 r 0)
      = Ideal.rsqrt (Ideal.div (∑ k : Fin 1024, k0_pay10 (F := Ideal) v1 v3 v5 v6 s y0 y1 x0 (ix2 r k) * k0_pay10 (F := Ideal) v1 v3 v5 v6 s y0 y1 x0 (ix2 r k))
          (Ideal.ofBits .f32 0x44800000#32) + Ideal.ofBits .f32 0x358637BD#32) := by
  unfold k0_pay11
  generalize k0_pay10 (F := Ideal) v1 v3 v5 v6 s y0 y1 x0 = z
  pointwise []

theorem norm_at (z : FVec Ideal S256x1024 .f32) (q : FVec Ideal S256x1 .f32) (x5 : FVec Ideal S1x1024 .f32) (r : Fin 256) (d : Fin 1024) :
    k0_pay1 (F := Ideal) z q x5 (ix3 0 r d) = z (ix2 r d) * q (ix2 r 0) * x5 (ix2 0 d) := by
  pointwise [k0_pay1]

/-- The modulation's row, the tokens' slots and their weights. -/
theorem mod_at (x0 : FVec Ideal S1x256x1024 .f32) (x1 : FVec Ideal S1x1x6144 .f32) (x2 : FVec Ideal S16x512x1024 .bf16) (x3 : IVec S1x256x16 32)
    (x4 : FVec Ideal S1x256x16 .f32) (x5 : FVec Ideal S1x1024 .f32) (j : Fin 6144) :
    k0_pay13 (F := Ideal) x0 x1 x2 x3 x4 x5 (ix2 0 j) = x1 (ix3 0 0 j) := by
  unfold k0_pay13
  rw [show View.ld (Val := Elt Ideal) (e' := .f32) x1 r0_0 = x1 from View.ld_unit_lit (Val := Elt Ideal) (e := .f32) (S := S1x1x6144) (off := ![0, 0, 0]) _ x1 (by decide)]
  pointwise [k0_pay2]

theorem pos_at (x0 : FVec Ideal S1x256x1024 .f32) (x1 : FVec Ideal S1x1x6144 .f32) (x2 : FVec Ideal S16x512x1024 .bf16) (x3 : IVec S1x256x16 32)
    (x4 : FVec Ideal S1x256x16 .f32) (x5 : FVec Ideal S1x1024 .f32) (r : Fin 256) (e : Fin 16) :
    k0_pay14 (F := Ideal) x0 x1 x2 x3 x4 x5 (ix2 r e) = x3 (ix3 0 r e) := by
  unfold k0_pay14
  rw [show View.ld (Val := Elt Ideal) (e' := .i32) x3 r0_1 = x3 from View.ld_unit_lit (Val := Elt Ideal) (e := .i32) (S := S1x256x16) (off := ![0, 0, 0]) _ x3 (by decide)]
  pointwise [k0_pay3]

theorem aff_at (x0 : FVec Ideal S1x256x1024 .f32) (x1 : FVec Ideal S1x1x6144 .f32) (x2 : FVec Ideal S16x512x1024 .bf16) (x3 : IVec S1x256x16 32)
    (x4 : FVec Ideal S1x256x16 .f32) (x5 : FVec Ideal S1x1024 .f32) (r : Fin 256) (e : Fin 16) :
    k0_pay15 (F := Ideal) x0 x1 x2 x3 x4 x5 (ix2 r e) = x4 (ix3 0 r e) := by
  unfold k0_pay15
  rw [show View.ld (Val := Elt Ideal) (e' := .f32) x4 r0_1 = x4 from View.ld_unit_lit (Val := Elt Ideal) (e := .f32) (S := S1x256x16) (off := ![0, 0, 0]) _ x4 (by decide)]
  pointwise [k0_pay4]

/-- A token's residual. -/
def resRow (x0 : FVec Ideal S1x256x1024 .f32) (x1 : FVec Ideal S1x1x6144 .f32) (x2 : FVec Ideal S16x512x1024 .bf16) (x3 : IVec S1x256x16 32)
    (x4 : FVec Ideal S1x256x16 .f32) (r : Fin 256) (d : Fin 1024) : EReal :=
  x0 (ix3 0 r d) + x1 (ix3 0 0 ⟨5120 + d.val, by omega⟩)
    * scatterRow (fun e => x3 (ix3 0 r e)) (fun e => x4 (ix3 0 r e)) (fun e j d => x2 (ix3 e j d)) d

/-- The block by coordinates. -/
theorem out_at (x0 : FVec Ideal S1x256x1024 .f32) (x1 : FVec Ideal S1x1x6144 .f32) (x2 : FVec Ideal S16x512x1024 .bf16) (x3 : IVec S1x256x16 32)
    (x4 : FVec Ideal S1x256x16 .f32) (x5 : FVec Ideal S1x1024 .f32) (r : Fin 256) (d : Fin 1024) :
    out0_6 (F := Ideal) x0 x1 x2 x3 x4 x5 (ix3 0 r d) = normRow (resRow x0 x1 x2 x3 x4 r) (fun d => x5 (ix2 0 d)) d := by
  have hres : ∀ k : Fin 1024, k0_pay10 (F := Ideal) (k0_pay13 (F := Ideal) x0 x1 x2 x3 x4 x5) (k0_pay14 (F := Ideal) x0 x1 x2 x3 x4 x5) (k0_pay15 (F := Ideal) x0 x1 x2 x3 x4 x5)
      (k0_pay12 (F := Ideal) x0 x1 x2 x3 x4 x5) (k0_pay16 (F := Ideal) x0 x1 x2 x3 x4 x5) (View.ld (Val := Elt Ideal) (e' := .bf16) x2 r0_16) (View.ld (Val := Elt Ideal) (e' := .bf16) x2 r0_17) x0 (ix2 r k)
        = resRow x0 x1 x2 x3 x4 r k := by
    intro k
    unfold k0_pay12
    rw [last_at]
    unfold k0_pay16 k0_pay12
    rw [step9_at, step8_at, step7_at, step6_at, first_at]
    unfold resRow scatterRow
    rw [sum_sixteen]
    have h0 : ∀ j : Fin 512, View.ld (Val := Elt Ideal) (e' := .bf16) x2 r0_2 (ix3 0 j k) = x2 (ix3 0 j k) := fun j => expert_at x2 0 (by decide) _ j k
    have h1 : ∀ j : Fin 512, View.ld (Val := Elt Ideal) (e' := .bf16) x2 r0_3 (ix3 0 j k) = x2 (ix3 1 j k) := fun j => expert_at x2 1 (by decide) _ j k
    have h2 : ∀ j : Fin 512, View.ld (Val := Elt Ideal) (e' := .bf16) x2 r0_4 (ix3 0 j k) = x2 (ix3 2 j k) := fun j => expert_at x2 2 (by decide) _ j k
    have h3 : ∀ j : Fin 512, View.ld (Val := Elt Ideal) (e' := .bf16) x2 r0_5 (ix3 0 j k) = x2 (ix3 3 j k) := fun j => expert_at x2 3 (by decide) _ j k
    have h4 : ∀ j : Fin 512, View.ld (Val := Elt Ideal) (e' := .bf16) x2 r0_6 (ix3 0 j k) = x2 (ix3 4 j k) := fun j => expert_at x2 4 (by decide) _ j k
    have h5 : ∀ j : Fin 512, View.ld (Val := Elt Ideal) (e' := .bf16) x2 r0_7 (ix3 0 j k) = x2 (ix3 5 j k) := fun j => expert_at x2 5 (by decide) _ j k
    have h6 : ∀ j : Fin 512, View.ld (Val := Elt Ideal) (e' := .bf16) x2 r0_8 (ix3 0 j k) = x2 (ix3 6 j k) := fun j => expert_at x2 6 (by decide) _ j k
    have h7 : ∀ j : Fin 512, View.ld (Val := Elt Ideal) (e' := .bf16) x2 r0_9 (ix3 0 j k) = x2 (ix3 7 j k) := fun j => expert_at x2 7 (by decide) _ j k
    have h8 : ∀ j : Fin 512, View.ld (Val := Elt Ideal) (e' := .bf16) x2 r0_10 (ix3 0 j k) = x2 (ix3 8 j k) := fun j => expert_at x2 8 (by decide) _ j k
    have h9 : ∀ j : Fin 512, View.ld (Val := Elt Ideal) (e' := .bf16) x2 r0_11 (ix3 0 j k) = x2 (ix3 9 j k) := fun j => expert_at x2 9 (by decide) _ j k
    have h10 : ∀ j : Fin 512, View.ld (Val := Elt Ideal) (e' := .bf16) x2 r0_12 (ix3 0 j k) = x2 (ix3 10 j k) := fun j => expert_at x2 10 (by decide) _ j k
    have h11 : ∀ j : Fin 512, View.ld (Val := Elt Ideal) (e' := .bf16) x2 r0_13 (ix3 0 j k) = x2 (ix3 11 j k) := fun j => expert_at x2 11 (by decide) _ j k
    have h12 : ∀ j : Fin 512, View.ld (Val := Elt Ideal) (e' := .bf16) x2 r0_14 (ix3 0 j k) = x2 (ix3 12 j k) := fun j => expert_at x2 12 (by decide) _ j k
    have h13 : ∀ j : Fin 512, View.ld (Val := Elt Ideal) (e' := .bf16) x2 r0_15 (ix3 0 j k) = x2 (ix3 13 j k) := fun j => expert_at x2 13 (by decide) _ j k
    have h14 : ∀ j : Fin 512, View.ld (Val := Elt Ideal) (e' := .bf16) x2 r0_16 (ix3 0 j k) = x2 (ix3 14 j k) := fun j => expert_at x2 14 (by decide) _ j k
    have h15 : ∀ j : Fin 512, View.ld (Val := Elt Ideal) (e' := .bf16) x2 r0_17 (ix3 0 j k) = x2 (ix3 15 j k) := fun j => expert_at x2 15 (by decide) _ j k
    have hx3 : ∀ e : Fin 16, View.ld (Val := Elt Ideal) (e' := .i32) x3 r0_1 (ix3 0 r e) = x3 (ix3 0 r e) := fun e => congrFun (View.ld_unit_lit (Val := Elt Ideal) (e := .i32) (S := S1x256x16) (off := ![0, 0, 0]) _ x3 (by decide)) _
    have hx4 : ∀ e : Fin 16, View.ld (Val := Elt Ideal) (e' := .f32) x4 r0_1 (ix3 0 r e) = x4 (ix3 0 r e) := fun e => congrFun (View.ld_unit_lit (Val := Elt Ideal) (e := .f32) (S := S1x256x16) (off := ![0, 0, 0]) _ x4 (by decide)) _
    simp only [hx3, hx4, mod_at, pos_at, aff_at, h0, h1, h2, h3, h4, h5, h6, h7, h8, h9, h10, h11, h12, h13, h14, h15]
  unfold out0_6
  frame_out
  rw [norm_at, scale_at]
  simp only [hres]
  rfl

end Cert.Scatter.Block

end
-- ==== Proof.Scatter.Spec.lean ====
/- The model's result as a function of the last layer's arguments. -/
module

public import proofs.«01_k».proof.Proof.Scatter.Row

@[expose] public section

set_option maxRecDepth 16384

noncomputable section

namespace Cert.Scatter

open Idealize.ShloMosaic

/-- The shapes of the arguments and of the result. -/
abbrev Stream : Shape := ⟨3, ![8, 4352, 1024]⟩
abbrev Modulation : Shape := ⟨3, ![9, 1, 6144]⟩
abbrev Rows : Shape := ⟨3, ![16, 4096, 1024]⟩
abbrev Slots : Shape := ⟨3, ![8, 16, 4096]⟩
abbrev Weights : Shape := ⟨3, ![8, 16, 4352]⟩
abbrev Gain : Shape := ⟨1, ![1024]⟩
abbrev Latent : Shape := ⟨3, ![8, 4096, 1024]⟩

variable (x1 : FVec Ideal Stream .f32) (mod : FVec Ideal Modulation .f32) (ys : FVec Ideal Rows .bf16) (pos : IVec Slots 32)
  (aff : FVec Ideal Weights .f32) (g : FVec Ideal Gain .f32)

/-- A latent token's row among the stream's. -/
abbrev late (t : Fin 4096) : Fin 4352 := ⟨256 + t.val, by omega⟩

/-- A sample's row among an expert's rows. -/
abbrev place (b : Fin 8) (j : Fin 512) : Fin 4096 := ⟨b.val * 512 + j.val, by omega⟩

/-- A latent token's residual. -/
def residual (b : Fin 8) (t : Fin 4096) (d : Fin 1024) : EReal :=
  x1 (ix3 b (late t) d) + mod (ix3 ⟨b.val, by omega⟩ 0 ⟨5120 + d.val, by omega⟩)
    * scatterRow (fun e => pos (ix3 b e t)) (fun e => aff (ix3 b e (late t))) (fun e j d => ys (ix3 e (place b j) d)) d

/-- The latent tokens' residuals, each divided by its root mean square, times the gain. -/
def result : FVec Ideal Latent .f32 := fun i =>
  normRow (residual x1 mod ys pos aff (i 0) (i 1)) (fun d => g (ix1 d)) (i 2)

/-- The result at an index whose coordinates are known. -/
theorem result_at (i : Latent.Idx) (b : Fin 8) (t : Fin 4096) (d : Fin 1024)
    (h0 : (i 0).val = b.val) (h1 : (i 1).val = t.val) (h2 : (i 2).val = d.val) :
    result x1 mod ys pos aff g i = normRow (residual x1 mod ys pos aff b t) (fun d => g (ix1 d)) d := by
  obtain rfl : i 0 = b := Fin.ext h0
  obtain rfl : i 1 = t := Fin.ext h1
  obtain rfl : i 2 = d := Fin.ext h2
  rfl

end Cert.Scatter

end
-- ==== Proof.Scatter.Array.lean ====
/- The last layer's result array after the run. -/
module

public import proofs.«01_k».proof.Proof.Scatter.Block
public import proofs.«01_k».proof.Proof.Scatter.Spec

@[expose] public section

set_option maxRecDepth 16384

noncomputable section

namespace Cert.Scatter.Array

open Idealize.ShloMosaic Idealize.ShloMosaic.TcCoe Idealize.SL.Sem Cert.Kernel5Ideal Cert.Kernel5Ideal.Gen Cert.Scatter.Block
open Idealize.ShloMosaic.Pipeline (Dat)

/-- Which block of its array each window holds at a point: the sample and the tile are the point's digits. -/
theorem idx : ∀ t : Fin cfg0.N, win0_0.index t = ![t.val / 16, t.val % 16 + 1, 0]
    ∧ win0_1.index t = ![t.val / 16, 0, 0] ∧ win0_2.index t = ![0, t.val / 16, 0] ∧ win0_3.index t = ![t.val / 16, t.val % 16, 0]
    ∧ win0_4.index t = ![t.val / 16, t.val % 16 + 1, 0] ∧ win0_5.index t = ![0, 0] ∧ win0_6.index t = ![t.val / 16, t.val % 16, 0] ∧ t.val < 128 :=
  (by decide +kernel : ∀ t : Fin grid0.N, _)

/-- The sample of a point. -/
abbrev batch (t : Fin cfg0.N) : Fin 8 := ⟨t.val / 16, by have := (idx t).2.2.2.2.2.2.2; omega⟩

/-- A latent token of a point's tile. -/
abbrev token (t : Fin cfg0.N) (r : Fin 256) : Fin 4096 := ⟨t.val % 16 * 256 + r.val, by omega⟩

variable (m : (ℓ : Loc nD τ sig) → Buf (Elt Ideal) ℓ) (c : Dev nD)

abbrev aX : FVec Ideal S8x4352x1024 .f32 := m ((c : Thread nD τ).loc main_arg0)
abbrev aM : FVec Ideal S9x1x6144 .f32 := m ((c : Thread nD τ).loc main_arg1)
abbrev aY : FVec Ideal S16x4096x1024 .bf16 := m ((c : Thread nD τ).loc main_arg2)
abbrev aP : IVec S8x16x4096 32 := m ((c : Thread nD τ).loc main_arg3)
abbrev aA : FVec Ideal S8x16x4352 .f32 := m ((c : Thread nD τ).loc main_arg4)
abbrev aG : FVec Ideal S1024 .f32 := m ((c : Thread nD τ).loc main_arg5)

theorem x_block (t : Fin cfg0.N) (r : Fin 256) (d : Fin 1024) :
    (iblk m c 0 t : FVec Ideal S1x256x1024 .f32) (ix3 0 r d) = aX m c (ix3 (batch t) (late (token t r)) d) := by
  refine Eq.trans ?_ (congrFun (V_main_arg0 m c) _)
  blk_ext [iblk, idx t]

theorem mod_block (t : Fin cfg0.N) (j : Fin 6144) :
    (iblk m c 1 t : FVec Ideal S1x1x6144 .f32) (ix3 0 0 j) = aM m c (ix3 ⟨(batch t).val, by have := (batch t).isLt; omega⟩ 0 j) := by
  refine Eq.trans ?_ (congrFun (V_main_arg1 m c) _)
  blk_ext [iblk, idx t]

theorem rows_block (t : Fin cfg0.N) (e : Fin 16) (j : Fin 512) (d : Fin 1024) :
    (iblk m c 2 t : FVec Ideal S16x512x1024 .bf16) (ix3 e j d) = aY m c (ix3 e (place (batch t) j) d) := by
  refine Eq.trans ?_ (congrFun (V_main_arg2 m c) _)
  blk_ext [iblk, idx t]

theorem slot_block (t : Fin cfg0.N) (r : Fin 256) (e : Fin 16) :
    (iblk m c 3 t : IVec S1x256x16 32) (ix3 0 r e) = aP m c (ix3 (batch t) e (token t r)) := by
  have h : (V m c main_v0 : IVec S8x4096x16 32) = transpose S8x4096x16 [0, 2, 1] (aP m c) transposes_S8x16x4096_S8x4096x16_0_2_1 := by
    unfold_abbrev_sides
    after_results
  refine Eq.trans ?_ ((congrFun h (ix3 (batch t) (token t r) e)).trans (by pointwise))
  blk_ext [iblk, idx t]

theorem weight_block (t : Fin cfg0.N) (r : Fin 256) (e : Fin 16) :
    (iblk m c 4 t : FVec Ideal S1x256x16 .f32) (ix3 0 r e) = aA m c (ix3 (batch t) e (late (token t r))) := by
  have h : (V m c main_v1 : FVec Ideal S8x4352x16 .f32) = transpose S8x4352x16 [0, 2, 1] (aA m c) transposes_S8x16x4352_S8x4352x16_0_2_1 := by
    unfold_abbrev_sides
    after_results
  refine Eq.trans ?_ ((congrFun h (ix3 (batch t) (late (token t r)) e)).trans (by pointwise))
  blk_ext [iblk, idx t]

theorem gain_block (t : Fin cfg0.N) (d : Fin 1024) : (iblk m c 5 t : FVec Ideal S1x1024 .f32) (ix2 0 d) = aG m c (ix1 d) := by
  have h : (V m c main_v2 : FVec Ideal S1x1024 .f32) = broadcastInDim S1x1024 ![1] bcast_S1024_S1x1024_1 (aG m c) := by
    unfold_abbrev_sides
    after_results
  refine Eq.trans ?_ ((congrFun h (ix2 0 d)).trans (by pointwise))
  blk_ext [iblk, idx t]

theorem res_block (t : Fin cfg0.N) (r : Fin 256) :
    resRow (iblk m c 0 t) (iblk m c 1 t) (iblk m c 2 t) (iblk m c 3 t) (iblk m c 4 t) r
      = residual (aX m c) (aM m c) (aY m c) (aP m c) (aA m c) (batch t) (token t r) := by
  funext d
  unfold resRow residual
  simp only [x_block, mod_block, rows_block, slot_block, weight_block]

/-- The result array after the run. -/
theorem final : (dats m 0 c).arrAt 6 cfg0.N = result (aX m c) (aM m c) (aY m c) (aP m c) (aA m c) (aG m c) := by
  refine (dats m 0 c).arrAt_eq_of_covers 6 _ (by decide +kernel) fun t hf y => ?_
  obtain ⟨r, x, rfl⟩ : ∃ (r : Fin 256) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (result_at _ _ _ _ _ _ (((cfg0.win 6).blk t).view.emb (ix3 0 r x)) (batch t) (token t r) x ?_ ?_ ?_).symm
  · blk_simp
    rw [after0_6]
    refine (Block.out_at _ _ _ _ _ _ r x).trans ?_
    rw [res_block]
    simp only [gain_block]
  all_goals blk_simp [idx t] <;> dsimp only <;> omega

end Cert.Scatter.Array

end
-- ==== Proof.Scatter.Words.lean ====
/- The words the last layer's reference finds its rows by. -/
module

public import proofs.«01_k».proof.Proof.Scatter.Row

@[expose] public section

noncomputable section

namespace Cert.Scatter

open Idealize.ShloMosaic

theorem toInt_small (v : BitVec 32) (h : v.toNat < 2147483648) : v.toInt = v.toNat := by
  rw [BitVec.toInt_eq_toNat_cond]
  exact if_pos (by omega)

theorem toInt_large (v : BitVec 32) (h : ¬v.toNat < 2147483648) : v.toInt < 0 := by
  rw [BitVec.toInt_eq_toNat_cond, if_neg (by omega)]
  have := v.isLt
  omega

/-- A slot in range is left alone by the clipping. -/
theorem clip_eq (v : BitVec 32) (h : v.toNat < 512) : IntOp.minsi 511#32 (IntOp.maxsi 0#32 v) = v := by
  have h1 : v.slt 0#32 = false := by
    rw [BitVec.slt_eq_decide, toInt_small v (by omega)]
    exact decide_eq_false (by simp)
  have hm : IntOp.maxsi 0#32 v = v := by
    unfold IntOp.maxsi
    rw [h1]
    rfl
  rw [hm]
  unfold IntOp.minsi
  by_cases h2 : (511#32).slt v = true
  · rw [BitVec.slt_eq_decide, toInt_small v (by omega)] at h2
    have h3 := of_decide_eq_true h2
    have : (511#32).toInt = 511 := by decide
    omega
  · rw [if_neg h2]

/-- A value kept only where the slot is in range. -/
theorem kept (v : BitVec 32) (a : EReal) :
    Scalar.select (IntOp.andi (IntOp.cmpi .sge v 0#32) (IntOp.cmpi .slt v 512#32)) a (0 : EReal) = if v.toNat < 512 then a else 0 := by
  have e0 : (0#32).toInt = 0 := by decide
  have e5 : (512#32).toInt = 512 := by decide
  have h0 : IntOp.cmpi .sge v 0#32 = BitVec.ofBool (decide ((0 : Int) ≤ v.toInt)) := by
    show BitVec.ofBool ((0#32).sle v) = _
    rw [BitVec.sle_eq_decide, e0]
  have h5 : IntOp.cmpi .slt v 512#32 = BitVec.ofBool (decide (v.toInt < 512)) := by
    show BitVec.ofBool (v.slt 512#32) = _
    rw [BitVec.slt_eq_decide, e5]
  rw [h0, h5]
  by_cases h : v.toNat < 512
  · have hi := toInt_small v (by omega)
    rw [if_pos h, decide_eq_true (by omega), decide_eq_true (by omega)]
    rfl
  · rw [if_neg h]
    by_cases hl : v.toNat < 2147483648
    · have hi := toInt_small v hl
      rw [decide_eq_true (by omega), decide_eq_false (by omega)]
      rfl
    · have hi := toInt_large v hl
      rw [decide_eq_false (by omega), decide_eq_true (by omega)]
      rfl

/-- The word of a row's number. -/
theorem word_eq (e : Fin 16) (b : Fin 8) (v : BitVec 32) (h : v.toNat < 512) :
    (BitVec.ofNat 32 e.val * 8#32 + BitVec.ofNat 32 b.val) * 512#32 + v = BitVec.ofNat 32 ((e.val * 8 + b.val) * 512 + v.toNat) := by
  apply BitVec.eq_of_toNat_eq
  simp only [BitVec.toNat_add, BitVec.toNat_mul, BitVec.toNat_ofNat]
  omega

/-- A choice by the sign of a small word. -/
theorem below (v a : BitVec 32) (h : v.toNat < 2147483648) : Scalar.select (IntOp.cmpi .slt v 0#32) a v = v := by
  have h1 : IntOp.cmpi .slt v 0#32 = 0#1 := by
    show BitVec.ofBool (v.slt 0#32) = _
    rw [BitVec.slt_eq_decide, toInt_small v h]
    exact congrArg BitVec.ofBool (decide_eq_false (by simp))
  rw [h1]
  exact if_neg (by decide)

end Cert.Scatter

end
-- ==== Proof.Scatter.Reference.lean ====
/- The last layer's reference, read operation by operation. -/
module

public import proofs.«01_k».proof.Proof.Gen.Reference5Ideal.Read
public import proofs.«01_k».proof.Proof.Scatter.Spec
public import proofs.«01_k».proof.Proof.Scatter.Words
public import Idealize.ShloMosaic.Lib.Pipeline.ValueKit
public import Idealize.ShloMosaic.Lib.Routing.Ops

@[expose] public section

set_option maxRecDepth 16384

noncomputable section

namespace Cert.Scatter.Reference

open Idealize.ShloMosaic Idealize.ShloMosaic.TcCoe Idealize.SL.Sem Cert.Reference5Ideal Cert.Reference5Ideal.Read

variable (x1 : FVec Ideal S8x4352x1024 .f32) (mod : FVec Ideal S9x1x6144 .f32) (ys : FVec Ideal S16x4096x1024 .bf16) (pos : IVec S8x16x4096 32)
  (aff : FVec Ideal S8x16x4352 .f32) (g : FVec Ideal S1024 .f32)

/-- The word a token's row is found by. -/
theorem word_at (b : Fin 8) (e : Fin 16) (t : Fin 4096) :
    val_main_v14 (F := Ideal) pos (ix3 b e t)
      = (BitVec.ofNat 32 e.val * 8#32 + BitVec.ofNat 32 b.val) * 512#32 + IntOp.minsi 511#32 (IntOp.maxsi 0#32 (pos (ix3 b e t))) := by
  pointwise [val_main_v14, val_main_v13, val_main_v12, val_main_call0_v4, val_main_call0_v3, val_main_call0_v2, val_main_call0_v1, val_main_call0_v0,
    val_main_c_1, val_main_c_2, val_main_v11, val_main_v10, val_main_c_0, val_main_v9, val_main_v8, val_main_v7, val_main_v6, val_main_v5, val_main_c,
    val_main_v4, val_main_v3, val_main_v2, val_main_v1]
  rfl

/-- A token's place among all tokens, expert by expert. -/
abbrev flat (b : Fin 8) (e : Fin 16) (t : Fin 4096) : Fin 524288 := ⟨(b.val * 16 + e.val) * 4096 + t.val, by omega⟩

theorem flatWord_at (b : Fin 8) (e : Fin 16) (t : Fin 4096) :
    val_main_v17 (F := Ideal) pos (ix1 (flat b e t)) = val_main_v14 (F := Ideal) pos (ix3 b e t) := by
  rw [val_main_v17_apply]
  refine congrArg _ (funext fun a => Fin.ext ?_)
  match a with
  | ⟨0, _⟩ => show ((b.val * 16 + e.val) * 4096 + t.val) / 65536 = b.val; omega
  | ⟨1, _⟩ => show ((b.val * 16 + e.val) * 4096 + t.val) / 4096 % 16 = e.val; omega
  | ⟨2, _⟩ => show ((b.val * 16 + e.val) * 4096 + t.val) % 4096 = t.val; omega

/-- The row's number, for a slot in range. -/
theorem column_at (b : Fin 8) (e : Fin 16) (t : Fin 4096) (h : (pos (ix3 b e t)).toNat < 512) :
    val_main_v23 (F := Ideal) pos (ix2 (flat b e t) 0) = BitVec.ofNat 32 ((e.val * 8 + b.val) * 512 + (pos (ix3 b e t)).toNat) := by
  have hw : val_main_v17 (F := Ideal) pos (ix1 (flat b e t)) = BitVec.ofNat 32 ((e.val * 8 + b.val) * 512 + (pos (ix3 b e t)).toNat) := by
    rw [flatWord_at, word_at, clip_eq _ h, word_eq _ _ _ h]
  rw [val_main_v23_apply, show idx_main_v23 (ix2 (flat b e t) 0) = ix1 (flat b e t) from by
    funext a; match a with | ⟨0, _⟩ => rfl]
  unfold val_main_v22 val_main_v21 val_main_v19
  revert hw
  generalize val_main_v17 (F := Ideal) pos = z
  intro hw
  pointwise [val_main_v18, val_main_v20, val_main_c_3, val_main_c_4]
  rw [hw]
  have hn : (BitVec.ofNat 32 ((e.val * 8 + b.val) * 512 + (pos (ix3 b e t)).toNat)).toNat = (e.val * 8 + b.val) * 512 + (pos (ix3 b e t)).toNat := by
    rw [BitVec.toNat_ofNat]
    omega
  exact below _ _ (by rw [hn]; omega)

/-- The rows found. -/
theorem found_at (b : Fin 8) (e : Fin 16) (t : Fin 4096) (d : Fin 1024) (h : (pos (ix3 b e t)).toNat < 512) :
    val_main_v25 (F := Ideal) ys pos (ix4 b e t d) = ys (ix3 e (place b ⟨(pos (ix3 b e t)).toNat, h⟩) d) := by
  rw [val_main_v25_apply]
  refine (congrArg _ (?_ : idx_main_v25 (ix4 b e t d) = ix2 (flat b e t) d)).trans ?_
  · funext a
    refine Fin.ext ?_
    match a with
    | ⟨0, _⟩ => show (((b.val * 16 + e.val) * 4096 + t.val) * 1024 + d.val) / 1024 = (b.val * 16 + e.val) * 4096 + t.val; omega
    | ⟨1, _⟩ => show (((b.val * 16 + e.val) * 4096 + t.val) * 1024 + d.val) % 1024 = d.val; omega
  unfold val_main_v24
  refine (Routing.gather_row gather_S65536x1024_S524288x1_S524288x1024_1_0_n_n_0_1_11024 rfl rfl rfl rfl rfl _ _ (flat b e t) d
    ⟨(e.val * 8 + b.val) * 512 + (pos (ix3 b e t)).toNat, by omega⟩ (column_at pos b e t h) (by decide)).trans ?_
  rw [val_main_v16_apply]
  show ys _ = ys _
  refine congrArg ys (funext fun a => Fin.ext ?_)
  match a with
  | ⟨0, _⟩ => show (((e.val * 8 + b.val) * 512 + (pos (ix3 b e t)).toNat) * 1024 + d.val) / 4194304 = e.val; omega
  | ⟨1, _⟩ =>
    show (((e.val * 8 + b.val) * 512 + (pos (ix3 b e t)).toNat) * 1024 + d.val) / 1024 % 4096 = b.val * 512 + (pos (ix3 b e t)).toNat
    omega
  | ⟨2, _⟩ => show (((e.val * 8 + b.val) * 512 + (pos (ix3 b e t)).toNat) * 1024 + d.val) % 1024 = d.val; omega

/-- An expert's weighted row of a token. -/
theorem term_at (b : Fin 8) (e : Fin 16) (t : Fin 4096) (d : Fin 1024) :
    val_main_v36 (F := Ideal) ys pos aff (ix4 b e t d)
      = aff (ix3 b e (late t)) * slotRow (pos (ix3 b e t)) (fun j => ys (ix3 e (place b j) d)) := by
  have hf := found_at ys pos b e t d
  unfold val_main_v36 val_main_v35
  revert hf
  generalize val_main_v25 (F := Ideal) ys pos = z
  intro hf
  pointwise [val_main_call1_v1, val_main_call1_v2, val_main_call1_v0, val_main_cst, val_main_v31, val_main_v30, val_main_v29, val_main_v28, val_main_v27,
    val_main_v26, val_main_c_5, val_main_c_6, val_main_v34, val_main_v33, val_main_v32]
  have hz : id (constant (F := Ideal) S_ .f32 0x00000000#32) ix0 = (0 : EReal) := by
    show constant (F := Ideal) S_ .f32 0x00000000#32 ix0 = (0 : EReal)
    pointwise
  refine (congrArg _ hz).trans ((kept _ _).trans ?_)
  unfold slotRow
  by_cases h : (pos (ix3 b e t)).toNat < 512
  · rw [if_pos h, dif_pos h, hf h]
    exact mul_comm _ _
  · rw [if_neg h, dif_neg h]
    exact (mul_zero _).symm

theorem residual_at (b : Fin 8) (t : Fin 4096) (d : Fin 1024) :
    val_main_v41 (F := Ideal) x1 mod ys pos aff (ix3 b t d) = residual x1 mod ys pos aff b t d := by
  have ht := fun e => term_at ys pos aff b e t d
  unfold val_main_v41 val_main_v40 val_main_v37
  revert ht
  generalize val_main_v36 (F := Ideal) ys pos aff = z
  intro ht
  pointwise [val_main_v39, val_main_v38, val_main_v0, val_main_cst_7]
  simp only [ht]
  unfold residual scatterRow
  rfl

theorem reference_at (b : Fin 8) (t : Fin 4096) (d : Fin 1024) :
    val_main_v54 (F := Ideal) x1 mod ys pos aff g (ix3 b t d) = normRow (residual x1 mod ys pos aff b t) (fun d => g (ix1 d)) d := by
  have hr := residual_at x1 mod ys pos aff b t
  unfold val_main_v54 val_main_v51 val_main_v50 val_main_v49 val_main_v48 val_main_v46 val_main_v44 val_main_v43 val_main_v42
  revert hr
  generalize val_main_v41 (F := Ideal) x1 mod ys pos aff = z
  intro hr
  pointwise [val_main_v53, val_main_v52, val_main_v47, val_main_v45, val_main_cst_8, val_main_cst_9, val_main_cst_10]
  simp only [hr]
  rfl

/-- The reference's result is `result` of its arguments. -/
theorem reference_eq : val_main_v54 (F := Ideal) x1 mod ys pos aff g = result x1 mod ys pos aff g := by
  funext i
  rw [eq_ix3 i]
  exact reference_at x1 mod ys pos aff g _ _ _

end Cert.Scatter.Reference

end
-- ==== Proof.Scatter.Claim.lean ====
/- The last layer's claim: the kernel's result is the reference's. -/
module

public import proofs.«01_k».proof.Defs
public import proofs.«01_k».proof.Proof.Scatter.Array
public import proofs.«01_k».proof.Proof.Scatter.Reference
public import proofs.«01_k».proof.Proof.Gen.Reference5Ideal.Run
public import Idealize.ShloMosaic.Lib.Claim

@[expose] public section

set_option maxRecDepth 16384

noncomputable section

namespace Cert.Scatter

open Idealize.ShloMosaic Idealize.ShloMosaic.TcCoe Idealize.SL.Sem

theorem algebraic : Cert.algebraic_Kernel5Ideal_Reference5Ideal
    (hKernel5Ideal := Cert.Kernel5Ideal.Gen.facts) (hReference5Ideal := Cert.Reference5Ideal.Gen.facts) := by
  intro m g m' g' _ hagree
  refine ⟨fun c => result (Array.aX m c) (Array.aM m c) (Array.aY m c) (Array.aP m c) (Array.aA m c) (Array.aG m c), ?_, ?_⟩
  · refine (θ_run _ _ _).mono (fun r h c => ?_) (Cert.Kernel5Ideal.Value.run_blocks m g)
    obtain ⟨h0, h1⟩ := h c
    exact ⟨h0.trans (Array.final m c), h1⟩
  · refine (θ_run _ _ _).mono (fun r h c => ?_) (Cert.Reference5Ideal.Value.run m' g')
    obtain ⟨h0, h1⟩ := h c
    obtain ⟨e0, e1, e2, e3, e4, e5⟩ := hagree c
    refine ⟨h0.trans ?_, h1⟩
    rw [Cert.Reference5Ideal.Read.val_main_v54_eq, Reference.reference_eq, e0, e1, e2, e3, e4, e5]

end Cert.Scatter

end
-- ==== Proof.Gather.Row.lean ====
/- The rows gathered for one expert of one sample, by coordinates. -/
module

public import Idealize.ShloMosaic.Lib.IdealHost
public import proofs.«01_k».proof.Proof.Ffn.Row

@[expose] public section

noncomputable section

namespace Cert.Gather

open Idealize.ShloMosaic

/-- A token's number where the token's slot is the one asked for, and zero elsewhere. -/
def here (v : BitVec 32) (s : Fin 512) (x : EReal) : EReal := Scalar.select (IntOp.cmpi .eq v (BitVec.ofNat 32 s.val)) x 0

/-- The tokens whose slot is the one asked for, summed. -/
def picked (v : Fin 4096 → BitVec 32) (s : Fin 512) (x : Fin 4096 → EReal) : EReal := ∑ t, here (v t) s (x t)

/-- A token of a chunk. -/
abbrev at512 (k : Fin 8) (j : Fin 512) : Fin 4096 := ⟨k.val * 512 + j.val, by omega⟩

/-- A chunk of the sum. -/
def chunk (v : Fin 4096 → BitVec 32) (s : Fin 512) (x : Fin 4096 → EReal) (k : Fin 8) : EReal := ∑ j, here (v (at512 k j)) s (x (at512 k j))

/-- The sum chunk by chunk. -/
theorem picked_eq (v : Fin 4096 → BitVec 32) (s : Fin 512) (x : Fin 4096 → EReal) :
    picked v s x = chunk v s x 0 + chunk v s x 1 + chunk v s x 2 + chunk v s x 3 + chunk v s x 4 + chunk v s x 5 + chunk v s x 6 + chunk v s x 7 := by
  rw [← Fin.sum_univ_eight (chunk v s x)]
  unfold picked chunk
  refine ((Fintype.sum_equiv (finProdFinEquiv (m := 8) (n := 512)) (fun p => here (v (at512 p.1 p.2)) s (x (at512 p.1 p.2)))
    (fun t => here (v t) s (x t)) fun p => ?_).symm).trans (Fintype.sum_prod_type _)
  have h : at512 p.1 p.2 = (finProdFinEquiv (m := 8) (n := 512)) p := Fin.ext (by
    show p.1.val * 512 + p.2.val = p.2.val + 512 * p.1.val
    omega)
  exact congrArg (fun t => here (v t) s (x t)) h

/-- The shapes of the arguments and of the result. -/
abbrev Stream : Shape := ⟨3, ![8, 4352, 1024]⟩
abbrev Slots : Shape := ⟨3, ![8, 16, 4096]⟩
abbrev Rows : Shape := ⟨3, ![16, 4096, 1024]⟩

/-- A latent token's row among the stream's. -/
abbrev late (t : Fin 4096) : Fin 4352 := ⟨256 + t.val, by omega⟩

variable (h : FVec Ideal Stream .bf16) (pos : IVec Slots 32)

/-- An expert's row for one slot of one sample. -/
def rowOf (e : Fin 16) (b : Fin 8) (s : Fin 512) (d : Fin 1024) : EReal :=
  picked (fun t => pos (ix3 b e t)) s (fun t => h (ix3 b (late t) d))

/-- Every expert's rows, sample by sample. -/
def result : FVec Ideal Rows .bf16 := fun i =>
  rowOf h pos (i 0) ⟨(i 1).val / 512, by have h1 : (i 1).val < 4096 := (i 1).isLt; omega⟩ ⟨(i 1).val % 512, by omega⟩ (i 2)

/-- The result at an index whose coordinates are known. -/
theorem result_at (i : Rows.Idx) (e : Fin 16) (b : Fin 8) (s : Fin 512) (d : Fin 1024)
    (h0 : (i 0).val = e.val) (h1 : (i 1).val = b.val * 512 + s.val) (h2 : (i 2).val = d.val) :
    result h pos i = rowOf h pos e b s d := by
  obtain rfl : i 0 = e := Fin.ext h0
  obtain rfl : i 2 = d := Fin.ext h2
  unfold result
  congr 1
  · exact Fin.ext (by show (i 1).val / 512 = b.val; omega)
  · exact Fin.ext (by show (i 1).val % 512 = s.val; omega)

end Cert.Gather

end
-- ==== Proof.Gather.Block.lean ====
/- The block of gathered rows the kernel writes, by coordinates. -/
module

public import proofs.«01_k».proof.Proof.Gen.Kernel6Ideal.Value
public import proofs.«01_k».proof.Proof.Gather.Row
public import Idealize.ShloMosaic.Lib.Pipeline.ValueKit

@[expose] public section

set_option maxRecDepth 16384

noncomputable section

namespace Cert.Gather.Block

open Idealize.ShloMosaic Idealize.ShloMosaic.TcCoe Idealize.SL.Sem Cert.Kernel6Ideal Cert.Kernel6Ideal.Gen Cert.Gather

/-- A chunk of the stream's rows. -/
theorem rows_at (x : FVec Ideal S1x4352x1024 .bf16) (o : Nat) (ho : o + 512 ≤ 4352)
    (inb : ∀ a : Fin S1x4352x1024.rank, (![0, o, 0] : Fin S1x4352x1024.rank → Nat) a + S1x512x1024.size a ≤ S1x4352x1024.size a)
    (j : Fin 512) (d : Fin 1024) :
    View.ld (Val := Elt Ideal) (e' := .bf16) x (Rect.unit (s := S1x4352x1024) ![0, o, 0] S1x512x1024.size inb) (ix3 0 j d)
      = x (ix3 0 ⟨o + j.val, by omega⟩ d) := by
  rw [View.ld_unit]
  pointwise []

/-- The chunks one after another. -/
theorem first_at (p : IVec S1x1x1x4096 32) (y0 y1 : FVec Ideal S1x512x1024 .bf16) (s : Fin 512) (d : Fin 1024) :
    k0_pay3 (F := Ideal) p y0 y1 (ix2 s d)
      = (∑ j, here (p (ix4 0 0 0 (at512 0 j))) s (y0 (ix3 0 j d))) + ∑ j, here (p (ix4 0 0 0 (at512 1 j))) s (y1 (ix3 0 j d)) := by
  have e : ∀ j : Fin 512, at512 0 j = ⟨j.val, by omega⟩ := fun j => Fin.ext (by show 0 * 512 + j.val = j.val; omega)
  simp only [e]
  pointwise [k0_pay3, k0_pay2]
  rfl

theorem third_at (p : IVec S1x1x1x4096 32) (s : Fin 512) (j : Fin 512) :
    k0_pay4 (F := Ideal) p (ix2 s j) = here (p (ix4 0 0 0 (at512 2 j))) s 1 := by
  pointwise [k0_pay4, k0_pay2]
  rfl

theorem middle_at (v : IVec S1x4096 32) (z : FVec Ideal S512x1024 .f32) (w : FVec Ideal S512x512 .bf16) (y2 y3 y4 y5 : FVec Ideal S1x512x1024 .bf16)
    (s : Fin 512) (d : Fin 1024) :
    k0_pay5 (F := Ideal) v z w y2 y3 y4 y5 (ix2 s d)
      = z (ix2 s d) + (∑ j, w (ix2 s j) * y2 (ix3 0 j d)) + (∑ j, here (v (ix2 0 (at512 3 j))) s (y3 (ix3 0 j d)))
        + (∑ j, here (v (ix2 0 (at512 4 j))) s (y4 (ix3 0 j d))) + ∑ j, here (v (ix2 0 (at512 5 j))) s (y5 (ix3 0 j d)) := by
  pointwise [k0_pay5]
  rfl

theorem last_at (v : IVec S1x4096 32) (z : FVec Ideal S512x1024 .f32) (y6 y7 : FVec Ideal S1x512x1024 .bf16) (s : Fin 512) (d : Fin 1024) :
    k0_pay1 (F := Ideal) v z (iota .tc S512x512 32 [0] iota_S512x512_d0_w32) (k0_pay6 v) y6 y7 (ix3 0 s d)
      = z (ix2 s d) + (∑ j, here (v (ix2 0 (at512 6 j))) s (y6 (ix3 0 j d))) + ∑ j, here (v (ix2 0 (at512 7 j))) s (y7 (ix3 0 j d)) := by
  pointwise [k0_pay1, k0_pay6]
  rfl

theorem slots_at (x0 : FVec Ideal S1x4352x1024 .bf16) (x1 : IVec S1x1x1x4096 32) (t : Fin 4096) :
    k0_pay7 (F := Ideal) x0 x1 (ix2 0 t) = x1 (ix4 0 0 0 t) := by
  unfold k0_pay7
  rw [show View.ld (Val := Elt Ideal) (e' := .i32) x1 r0_0 = x1 from
    View.ld_unit_lit (Val := Elt Ideal) (e := .i32) (S := S1x1x1x4096) (off := ![0, 0, 0, 0]) _ x1 (by decide)]
  pointwise [k0_pay2]

theorem here_one (v : BitVec 32) (s : Fin 512) (x : EReal) : here v s 1 * x = here v s x := by
  unfold here Scalar.select
  split
  · exact one_mul x
  · exact zero_mul x

/-- The block by coordinates. -/
theorem out_at (x0 : FVec Ideal S1x4352x1024 .bf16) (x1 : IVec S1x1x1x4096 32) (s : Fin 512) (d : Fin 1024) :
    out0_2 (F := Ideal) x0 x1 (ix3 0 s d) = picked (fun t => x1 (ix4 0 0 0 t)) s (fun t => x0 (ix3 0 (late t) d)) := by
  rw [picked_eq]
  unfold out0_2
  frame_out
  rw [last_at, middle_at]
  have h0 : ∀ j : Fin 512, View.ld (Val := Elt Ideal) (e' := .bf16) x0 r0_1 (ix3 0 j d) = x0 (ix3 0 (late (at512 0 j)) d) := fun j =>
    (rows_at x0 256 (by decide) _ j d).trans (congrArg (fun t => x0 (ix3 0 t d)) (Fin.ext (by show 256 + j.val = 256 + (0 * 512 + j.val); omega)))
  have h1 : ∀ j : Fin 512, View.ld (Val := Elt Ideal) (e' := .bf16) x0 r0_2 (ix3 0 j d) = x0 (ix3 0 (late (at512 1 j)) d) := fun j =>
    (rows_at x0 768 (by decide) _ j d).trans (congrArg (fun t => x0 (ix3 0 t d)) (Fin.ext (by show 768 + j.val = 256 + (1 * 512 + j.val); omega)))
  have h2 : ∀ j : Fin 512, View.ld (Val := Elt Ideal) (e' := .bf16) x0 r0_3 (ix3 0 j d) = x0 (ix3 0 (late (at512 2 j)) d) := fun j =>
    (rows_at x0 1280 (by decide) _ j d).trans (congrArg (fun t => x0 (ix3 0 t d)) (Fin.ext (by show 1280 + j.val = 256 + (2 * 512 + j.val); omega)))
  have h3 : ∀ j : Fin 512, View.ld (Val := Elt Ideal) (e' := .bf16) x0 r0_4 (ix3 0 j d) = x0 (ix3 0 (late (at512 3 j)) d) := fun j =>
    (rows_at x0 1792 (by decide) _ j d).trans (congrArg (fun t => x0 (ix3 0 t d)) (Fin.ext (by show 1792 + j.val = 256 + (3 * 512 + j.val); omega)))
  have h4 : ∀ j : Fin 512, View.ld (Val := Elt Ideal) (e' := .bf16) x0 r0_5 (ix3 0 j d) = x0 (ix3 0 (late (at512 4 j)) d) := fun j =>
    (rows_at x0 2304 (by decide) _ j d).trans (congrArg (fun t => x0 (ix3 0 t d)) (Fin.ext (by show 2304 + j.val = 256 + (4 * 512 + j.val); omega)))
  have h5 : ∀ j : Fin 512, View.ld (Val := Elt Ideal) (e' := .bf16) x0 r0_6 (ix3 0 j d) = x0 (ix3 0 (late (at512 5 j)) d) := fun j =>
    (rows_at x0 2816 (by decide) _ j d).trans (congrArg (fun t => x0 (ix3 0 t d)) (Fin.ext (by show 2816 + j.val = 256 + (5 * 512 + j.val); omega)))
  have h6 : ∀ j : Fin 512, View.ld (Val := Elt Ideal) (e' := .bf16) x0 r0_7 (ix3 0 j d) = x0 (ix3 0 (late (at512 6 j)) d) := fun j =>
    (rows_at x0 3328 (by decide) _ j d).trans (congrArg (fun t => x0 (ix3 0 t d)) (Fin.ext (by show 3328 + j.val = 256 + (6 * 512 + j.val); omega)))
  have h7 : ∀ j : Fin 512, View.ld (Val := Elt Ideal) (e' := .bf16) x0 r0_8 (ix3 0 j d) = x0 (ix3 0 (late (at512 7 j)) d) := fun j =>
    (rows_at x0 3840 (by decide) _ j d).trans (congrArg (fun t => x0 (ix3 0 t d)) (Fin.ext (by show 3840 + j.val = 256 + (7 * 512 + j.val); omega)))
  simp only [slots_at, h3, h4, h5, h6, h7, h2]
  rw [first_at]
  simp only [h0, h1, third_at, here_one]
  rfl

end Cert.Gather.Block

end
-- ==== Proof.Gather.Array.lean ====
/- The gather's result array after the run. -/
module

public import proofs.«01_k».proof.Proof.Gather.Block

@[expose] public section

set_option maxRecDepth 16384

noncomputable section

namespace Cert.Gather.Array

open Idealize.ShloMosaic Idealize.ShloMosaic.TcCoe Idealize.SL.Sem Cert.Kernel6Ideal Cert.Kernel6Ideal.Gen
open Idealize.ShloMosaic.Pipeline (Dat)

/-- Which block of its array each window holds at a point: the sample and the expert are the point's digits. -/
theorem idx : ∀ t : Fin cfg0.N, win0_0.index t = ![t.val / 16, 0, 0] ∧ win0_1.index t = ![t.val / 16, t.val % 16, 0, 0]
    ∧ win0_2.index t = ![t.val % 16, t.val / 16, 0] ∧ t.val < 128 :=
  (by decide +kernel : ∀ t : Fin grid0.N, _)

/-- The sample and the expert of a point. -/
abbrev batch (t : Fin cfg0.N) : Fin 8 := ⟨t.val / 16, by have := (idx t).2.2.2; omega⟩
abbrev expert (t : Fin cfg0.N) : Fin 16 := ⟨t.val % 16, by omega⟩

variable (m : (ℓ : Loc nD τ sig) → Buf (Elt Ideal) ℓ) (c : Dev nD)

abbrev aH : FVec Ideal S8x4352x1024 .bf16 := m ((c : Thread nD τ).loc main_arg0)
abbrev aP : IVec S8x16x4096 32 := m ((c : Thread nD τ).loc main_arg1)

theorem rows_block (t : Fin cfg0.N) (r : Fin 4352) (d : Fin 1024) :
    (iblk m c 0 t : FVec Ideal S1x4352x1024 .bf16) (ix3 0 r d) = aH m c (ix3 (batch t) r d) := by
  refine Eq.trans ?_ (congrFun (V_main_arg0 m c) _)
  blk_ext [iblk, idx t]

theorem slot_block (t : Fin cfg0.N) (r : Fin 4096) :
    (iblk m c 1 t : IVec S1x1x1x4096 32) (ix4 0 0 0 r) = aP m c (ix3 (batch t) (expert t) r) := by
  have h : (V m c main_v0 : IVec S8x16x1x4096 32) = shapeCast S8x16x1x4096 (aP m c) shapeCasts_S8x16x4096_S8x16x1x4096 := by
    unfold_abbrev_sides
    after_results
    rfl
  refine Eq.trans ?_ ((congrFun h (ix4 (batch t) (expert t) 0 r)).trans (by pointwise))
  blk_ext [iblk, idx t]

/-- The result array after the run. -/
theorem final : (dats m 0 c).arrAt 2 cfg0.N = result (aH m c) (aP m c) := by
  refine (dats m 0 c).arrAt_eq_of_covers 2 _ (by decide +kernel) fun t hf y => ?_
  obtain ⟨r, x, rfl⟩ : ∃ (r : Fin 512) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (result_at _ _ (((cfg0.win 2).blk t).view.emb (ix3 0 r x)) (expert t) (batch t) r x ?_ ?_ ?_).symm
  · blk_simp
    rw [after0_2]
    refine (Block.out_at _ _ r x).trans ?_
    simp only [rowOf, rows_block, slot_block]
  all_goals blk_simp [idx t] <;> dsimp only <;> omega

end Cert.Gather.Array

end
-- ==== Proof.Gather.Reference.lean ====
/- The gather's reference, read operation by operation. -/
module

public import proofs.«01_k».proof.Proof.Gen.Reference6Ideal.Read
public import proofs.«01_k».proof.Proof.Gather.Row
public import Idealize.ShloMosaic.Lib.Pipeline.ValueKit

@[expose] public section

set_option maxRecDepth 16384

noncomputable section

namespace Cert.Gather.Reference

open Idealize.ShloMosaic Idealize.ShloMosaic.TcCoe Idealize.SL.Sem Cert.Reference6Ideal Cert.Reference6Ideal.Read

variable (h : FVec Ideal S8x4352x1024 .bf16) (pos : IVec S8x16x4096 32)

/-- The constant zero. -/
theorem zero_word (j : S_.Idx) : constant (F := Ideal) S_ .f32 0x00000000#32 j = (0 : EReal) := by
  pointwise

/-- A token of the sample, kept where its slot is the one asked for. -/
theorem term_at (i : S8x16x512x4096x1024.Idx) (b : Fin 8) (e : Fin 16) (s : Fin 512) (t : Fin 4096) (d : Fin 1024)
    (h0 : (i 0).val = b.val) (h1 : (i 1).val = e.val) (h2 : (i 2).val = s.val) (h3 : (i 3).val = t.val) (h4 : (i 4).val = d.val) :
    val_main_v10 (F := Ideal) h pos i = here (pos (ix3 b e t)) s (h (ix3 b (late t) d)) := by
  obtain rfl : i 0 = b := Fin.ext h0
  obtain rfl : i 1 = e := Fin.ext h1
  obtain rfl : i 2 = s := Fin.ext h2
  obtain rfl : i 3 = t := Fin.ext h3
  obtain rfl : i 4 = d := Fin.ext h4
  have hz : val_main_call0_v3 (F := Ideal) i = (0 : EReal) := by
    rw [val_main_call0_v3_apply]
    exact zero_word (idx_main_call0_v3 i)
  have hs : val_main_call0_v1 (F := Ideal) pos i = IntOp.cmpi .eq (pos (ix3 (i 0) (i 1) (i 3))) (BitVec.ofNat 32 (i 2).val) := by
    rw [val_main_call0_v1_apply, val_main_v8_apply, val_main_v7_apply, val_main_v5_apply, val_main_v2_apply, val_main_v6_apply, val_main_v4_apply,
      val_main_v3_apply]
    refine congrArg₂ _ (congrArg pos (funext fun a => ?_)) rfl
    match a with
    | ⟨0, _⟩ => rfl
    | ⟨1, _⟩ => rfl
    | ⟨2, _⟩ => rfl
  have hx : val_main_call0_v2 (F := Ideal) h i = h (ix3 (i 0) (late (i 3)) (i 4)) := by
    rw [val_main_call0_v2_apply, val_main_v9_apply, val_main_v1_apply, val_main_v0_apply]
    refine congrArg h (funext fun a => ?_)
    match a with
    | ⟨0, _⟩ => rfl
    | ⟨1, _⟩ => rfl
    | ⟨2, _⟩ => rfl
  rw [val_main_v10_apply, hs, hx, hz]
  rfl

/-- The reference's result is `result` of its arguments. -/
theorem reference_eq : val_main_v14 (F := Ideal) h pos = result h pos := by
  funext i
  show val_main_v13 (F := Ideal) h pos i = _
  rw [val_main_v13_apply, val_main_v12_apply, val_main_v11_apply]
  refine (congrArg₂ (· + ·) (zero_word _) rfl).trans ((zero_add _).trans ?_)
  unfold result rowOf picked
  have h0 : (i 0).val < 16 := (i 0).isLt
  have h1 : (i 1).val < 4096 := (i 1).isLt
  have h2 : (i 2).val < 1024 := (i 2).isLt
  refine Finset.sum_congr rfl fun t _ => term_at h pos _ _ _ _ _ _ ?_ ?_ ?_ ?_ ?_
  · show (((i 0).val * 4096 + (i 1).val) * 1024 + (i 2).val) / 524288 % 8 = (i 1).val / 512
    omega
  · show (((i 0).val * 4096 + (i 1).val) * 1024 + (i 2).val) / 4194304 = (i 0).val
    omega
  · show (((i 0).val * 4096 + (i 1).val) * 1024 + (i 2).val) / 1024 % 512 = (i 1).val % 512
    omega
  · rfl
  · show (((i 0).val * 4096 + (i 1).val) * 1024 + (i 2).val) % 1024 = (i 2).val
    omega

end Cert.Gather.Reference

end
-- ==== Proof.Gather.Claim.lean ====
/- The gather's claim: the kernel's result is the reference's. -/
module

public import proofs.«01_k».proof.Defs
public import proofs.«01_k».proof.Proof.Gather.Array
public import proofs.«01_k».proof.Proof.Gather.Reference
public import proofs.«01_k».proof.Proof.Gen.Reference6Ideal.Run
public import Idealize.ShloMosaic.Lib.Claim

@[expose] public section

set_option maxRecDepth 16384

noncomputable section

namespace Cert.Gather

open Idealize.ShloMosaic Idealize.ShloMosaic.TcCoe Idealize.SL.Sem

theorem algebraic : Cert.algebraic_Kernel6Ideal_Reference6Ideal
    (hKernel6Ideal := Cert.Kernel6Ideal.Gen.facts) (hReference6Ideal := Cert.Reference6Ideal.Gen.facts) := by
  intro m g m' g' _ hagree
  refine ⟨fun c => result (Array.aH m c) (Array.aP m c), ?_, ?_⟩
  · refine (θ_run _ _ _).mono (fun r h c => ?_) (Cert.Kernel6Ideal.Value.run_blocks m g)
    obtain ⟨h0, h1⟩ := h c
    exact ⟨h0.trans (Array.final m c), h1⟩
  · refine (θ_run _ _ _).mono (fun r h c => ?_) (Cert.Reference6Ideal.Value.run m' g')
    obtain ⟨h0, h1⟩ := h c
    obtain ⟨e0, e1⟩ := hagree c
    refine ⟨h0.trans ?_, h1⟩
    rw [Cert.Reference6Ideal.Read.val_main_v14_eq, Reference.reference_eq, e0, e1]

end Cert.Gather

end
-- ==== Proof.Modulation.Row.lean ====
/- The modulation's vectors, by coordinates. -/
module

public import proofs.«01_k».proof.Proof.Ffn.Row

@[expose] public section

noncomputable section

namespace Cert.Modulation

open Idealize.ShloMosaic Cert.Ffn

/-- A column of a conditioning row through the weights, plus the bias. -/
def column (c w : Fin 1024 → EReal) (b : EReal) : EReal := (∑ d, silu (c d) * w d) + b

/-- The shapes of the arguments and of the result. -/
abbrev Cond : Shape := ⟨2, ![16, 1024]⟩
abbrev Weights : Shape := ⟨3, ![2, 1024, 6144]⟩
abbrev Bias : Shape := ⟨2, ![2, 6144]⟩
abbrev Vectors : Shape := ⟨3, ![2, 16, 6144]⟩

variable (cv : FVec Ideal Cond .f32) (w : FVec Ideal Weights .f32) (bias : FVec Ideal Bias .f32)

/-- Every conditioning row through every layer's weights. -/
def result : FVec Ideal Vectors .f32 := fun i =>
  column (fun d => cv (ix2 (i 1) d)) (fun d => w (ix3 (i 0) d (i 2))) (bias (ix2 (i 0) (i 2)))

/-- The result at an index whose coordinates are known. -/
theorem result_at (i : Vectors.Idx) (l : Fin 2) (r : Fin 16) (n : Fin 6144)
    (h0 : (i 0).val = l.val) (h1 : (i 1).val = r.val) (h2 : (i 2).val = n.val) :
    result cv w bias i = column (fun d => cv (ix2 r d)) (fun d => w (ix3 l d n)) (bias (ix2 l n)) := by
  obtain rfl : i 0 = l := Fin.ext h0
  obtain rfl : i 1 = r := Fin.ext h1
  obtain rfl : i 2 = n := Fin.ext h2
  rfl

end Cert.Modulation

end
-- ==== Proof.Modulation.Array.lean ====
/- The modulation's result array after the run. -/
module

public import proofs.«01_k».proof.Proof.Gen.Kernel7Ideal.Value
public import proofs.«01_k».proof.Proof.Modulation.Row
public import Idealize.ShloMosaic.Lib.Pipeline.ValueKit

@[expose] public section

set_option maxRecDepth 16384

noncomputable section

namespace Cert.Modulation.Array

open Idealize.ShloMosaic Idealize.ShloMosaic.TcCoe Idealize.SL.Sem Cert.Kernel7Ideal Cert.Kernel7Ideal.Gen
open Idealize.ShloMosaic.Pipeline (Dat)

/-- The block by coordinates. -/
theorem block_at (x0 : FVec Ideal S16x1024 .f32) (x1 : FVec Ideal S1x1024x1024 .f32) (x2 : FVec Ideal S1x1x1024 .f32) (r : Fin 16) (n : Fin 1024) :
    k0_pay1 (F := Ideal) x0 x1 x2 (ix3 0 r n) = column (fun d => x0 (ix2 r d)) (fun d => x1 (ix3 0 d n)) (x2 (ix3 0 0 n)) := by
  pointwise [k0_pay1]
  simp only [zero_sub]
  rfl

/-- Which block of its array each window holds at a point: the layer and the tile are the point's digits. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] ∧ t.val < 12 :=
  (by decide +kernel : ∀ t : Fin grid0.N, _)

/-- The layer of a point. -/
abbrev layer (t : Fin cfg0.N) : Fin 2 := ⟨t.val / 6, by have := (idx t).2.2.2.2; omega⟩

/-- A column of a point's tile. -/
abbrev place (t : Fin cfg0.N) (n : Fin 1024) : Fin 6144 := ⟨t.val % 6 * 1024 + n.val, by omega⟩

variable (m : (ℓ : Loc nD τ sig) → Buf (Elt Ideal) ℓ) (c : Dev nD)

abbrev aC : FVec Ideal S16x1024 .f32 := m ((c : Thread nD τ).loc main_arg0)
abbrev aW : FVec Ideal S2x1024x6144 .f32 := m ((c : Thread nD τ).loc main_arg1)
abbrev aB : FVec Ideal S2x6144 .f32 := m ((c : Thread nD τ).loc main_arg2)

theorem cond_block (t : Fin cfg0.N) (r : Fin 16) (d : Fin 1024) : (iblk m c 0 t : FVec Ideal S16x1024 .f32) (ix2 r d) = aC m c (ix2 r d) := by
  refine Eq.trans ?_ (congrFun (V_main_arg0 m c) _)
  blk_ext [iblk, idx t]

theorem weight_block (t : Fin cfg0.N) (d n : Fin 1024) :
    (iblk m c 1 t : FVec Ideal S1x1024x1024 .f32) (ix3 0 d n) = aW m c (ix3 (layer t) d (place t n)) := by
  refine Eq.trans ?_ (congrFun (V_main_arg1 m c) _)
  blk_ext [iblk, idx t]

theorem bias_block (t : Fin cfg0.N) (n : Fin 1024) :
    (iblk m c 2 t : FVec Ideal S1x1x1024 .f32) (ix3 0 0 n) = aB m c (ix2 (layer t) (place t n)) := by
  have h : (V m c main_v0 : FVec Ideal S2x1x6144 .f32) = shapeCast S2x1x6144 (aB m c) shapeCasts_S2x6144_S2x1x6144 := by
    unfold_abbrev_sides
    after_results
    rfl
  refine Eq.trans ?_ ((congrFun h (ix3 (layer t) 0 (place t n))).trans (by pointwise))
  blk_ext [iblk, idx t]

/-- The result array after the run. -/
theorem final : (dats m 0 c).arrAt 3 cfg0.N = result (aC m c) (aW m c) (aB m c) := by
  refine (dats m 0 c).arrAt_eq_of_covers 3 _ (by decide +kernel) fun t hf y => ?_
  obtain ⟨r, x, rfl⟩ : ∃ (r : Fin 16) (x : Fin 1024), y = ix3 0 r x := ⟨y 1, y 2, by
    have e : y = ix3 (y 0) (y 1) (y 2) := eq_ix3 y
    have e0 : y 0 = (0 : Fin 1) := Subsingleton.elim (α := Fin 1) _ _
    rw [e0] at e
    exact e⟩
  refine Eq.trans ?_ (result_at _ _ _ (((cfg0.win 3).blk t).view.emb (ix3 0 r x)) (layer t) r (place t x) ?_ ?_ ?_).symm
  · blk_simp
    rw [after0_3]
    unfold out0_3
    frame_out
    refine (block_at _ _ _ r x).trans ?_
    simp only [cond_block, weight_block, bias_block]
  all_goals blk_simp [idx t] <;> dsimp only <;> omega

end Cert.Modulation.Array

end
-- ==== Proof.Modulation.Reference.lean ====
/- The modulation's reference, read operation by operation. -/
module

public import proofs.«01_k».proof.Proof.Gen.Reference7Ideal.Read
public import proofs.«01_k».proof.Proof.Modulation.Row
public import Idealize.ShloMosaic.Lib.Pipeline.ValueKit

@[expose] public section

set_option maxRecDepth 16384

noncomputable section

namespace Cert.Modulation.Reference

open Idealize.ShloMosaic Idealize.ShloMosaic.TcCoe Idealize.SL.Sem Cert.Reference7Ideal Cert.Reference7Ideal.Read Cert.Ffn

variable (cv : FVec Ideal S16x1024 .f32) (w : FVec Ideal S2x1024x6144 .f32) (bias : FVec Ideal S2x6144 .f32)

theorem silu_at (r : Fin 16) (d : Fin 1024) : val_main_v0 (F := Ideal) cv (ix2 r d) = silu (cv (ix2 r d)) := by
  unfold val_main_v0 val_main_call0_v5 val_main_call0_v3 val_main_call0_v1 val_main_call0_v0
  pointwise [val_main_call0_v4, val_main_call0_v2, val_main_call0_cst, val_main_call0_cst_0]
  rfl

theorem reference_at (l : Fin 2) (r : Fin 16) (n : Fin 6144) :
    val_main_v5 (F := Ideal) cv w bias (ix3 l r n) = column (fun d => cv (ix2 r d)) (fun d => w (ix3 l d n)) (bias (ix2 l n)) := by
  have hs := silu_at cv r
  unfold val_main_v5 val_main_v2 val_main_v1
  revert hs
  generalize val_main_v0 (F := Ideal) cv = s
  intro hs
  pointwise [val_main_v4, val_main_v3]
  simp only [hs]
  unfold column
  exact congrArg (· + _) (Finset.sum_congr rfl fun d _ => mul_comm _ _)

/-- The reference's result is `result` of its arguments. -/
theorem reference_eq : val_main_v5 (F := Ideal) cv w bias = result cv w bias := by
  funext i
  rw [eq_ix3 i]
  exact reference_at cv w bias _ _ _

end Cert.Modulation.Reference

end
-- ==== Proof.Modulation.Claim.lean ====
/- The modulation's claim: the kernel's result is the reference's. -/
module

public import proofs.«01_k».proof.Defs
public import proofs.«01_k».proof.Proof.Modulation.Array
public import proofs.«01_k».proof.Proof.Modulation.Reference
public import proofs.«01_k».proof.Proof.Gen.Reference7Ideal.Run
public import Idealize.ShloMosaic.Lib.Claim

@[expose] public section

set_option maxRecDepth 16384

noncomputable section

namespace Cert.Modulation

open Idealize.ShloMosaic Idealize.ShloMosaic.TcCoe Idealize.SL.Sem

theorem algebraic : Cert.algebraic_Kernel7Ideal_Reference7Ideal
    (hKernel7Ideal := Cert.Kernel7Ideal.Gen.facts) (hReference7Ideal := Cert.Reference7Ideal.Gen.facts) := by
  intro m g m' g' _ hagree
  refine ⟨fun c => result (Array.aC m c) (Array.aW m c) (Array.aB m c), ?_, ?_⟩
  · refine (θ_run _ _ _).mono (fun r h c => ?_) (Cert.Kernel7Ideal.Value.run_blocks m g)
    obtain ⟨h0, h1⟩ := h c
    exact ⟨h0.trans (Array.final m c), h1⟩
  · refine (θ_run _ _ _).mono (fun r h c => ?_) (Cert.Reference7Ideal.Value.run m' g')
    obtain ⟨h0, h1⟩ := h c
    obtain ⟨e0, e1, e2⟩ := hagree c
    refine ⟨h0.trans ?_, h1⟩
    rw [Cert.Reference7Ideal.Read.val_main_v5_eq, Reference.reference_eq, e0, e1, e2]

end Cert.Modulation

end
-- ==== Proof.lean ====
/- The certificate: every program runs and keeps its arguments, the idealizations rewrite nothing, and each
   call's values are its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Attn.Claim
public import proofs.«01_k».proof.Proof.Ffn.Claim
public import proofs.«01_k».proof.Proof.Proj.Claim
public import proofs.«01_k».proof.Proof.Merge.Claim
public import proofs.«01_k».proof.Proof.Scatter.Claim
public import proofs.«01_k».proof.Proof.Gather.Claim
public import proofs.«01_k».proof.Proof.Modulation.Claim
public import Idealize.ShloMosaic.Adequacy
public import Idealize.ShloMosaic.Init

@[expose] public section

noncomputable section

namespace Cert.Proof

open Idealize.ShloMosaic Idealize.SL.Sem

theorem frame_ReferenceIdeal : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

theorem frame_Reference2Ideal : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run (F := Ideal) m g)

theorem frame_Reference3Ideal : Cert.quiescent_Reference3Ideal (hReference3Ideal := Cert.Reference3Ideal.Gen.facts) := by
  intro m g _
  exact (θ_run Cert.Reference3Ideal.defs _ _).mono
    (fun r h => ⟨fun c => (h c).2.2.2.2.2.2.2.2.2.2.2.2.2, sem_eq_zero_of_no_sems (by decide) r.2⟩)
    (Cert.Reference3Ideal.Value.run (F := Ideal) m g)

theorem frame_Reference4Ideal : Cert.quiescent_Reference4Ideal (hReference4Ideal := Cert.Reference4Ideal.Gen.facts) := by
  intro m g _
  exact (θ_run Cert.Reference4Ideal.defs _ _).mono
    (fun r h => ⟨fun c => (h c).2.2.2, sem_eq_zero_of_no_sems (by decide) r.2⟩)
    (Cert.Reference4Ideal.Value.run (F := Ideal) m g)

theorem frame_Reference5Ideal : Cert.quiescent_Reference5Ideal (hReference5Ideal := Cert.Reference5Ideal.Gen.facts) := by
  intro m g _
  exact (θ_run Cert.Reference5Ideal.defs _ _).mono (fun r h => ⟨fun c => (h c).2, sem_eq_zero_of_no_sems (by decide) r.2⟩)
    (Cert.Reference5Ideal.Value.run (F := Ideal) m g)

theorem frame_Reference6Ideal : Cert.quiescent_Reference6Ideal (hReference6Ideal := Cert.Reference6Ideal.Gen.facts) := by
  intro m g _
  exact (θ_run Cert.Reference6Ideal.defs _ _).mono (fun r h => ⟨fun c => (h c).2, sem_eq_zero_of_no_sems (by decide) r.2⟩)
    (Cert.Reference6Ideal.Value.run (F := Ideal) m g)

theorem frame_Reference7Ideal : Cert.quiescent_Reference7Ideal (hReference7Ideal := Cert.Reference7Ideal.Gen.facts) := by
  intro m g _
  exact (θ_run Cert.Reference7Ideal.defs _ _).mono (fun r h => ⟨fun c => (h c).2, sem_eq_zero_of_no_sems (by decide) r.2⟩)
    (Cert.Reference7Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Attn.preFacts, Cert.Proj.preFacts,
    fun m ρ _ => Cert.Kernel.Gen.frame m ρ, fun m ρ _ => Cert.KernelIdeal.Gen.frame m ρ, fun m ρ _ => Cert.KernelIdeal.Gen.frame m ρ,
    frame_ReferenceIdeal, fun m ρ _ => frame_ReferenceIdeal m ρ trivial,
    fun m ρ _ => Cert.Kernel2.Gen.frame m ρ, fun m ρ _ => Cert.Kernel2Ideal.Gen.frame m ρ, frame_Reference2Ideal,
    fun m ρ _ => Cert.Kernel3.Gen.frame m ρ, fun m ρ _ => Cert.Kernel3Ideal.Gen.frame m ρ, fun m ρ _ => Cert.Kernel3Ideal.Gen.frame m ρ,
    frame_Reference3Ideal, fun m ρ _ => frame_Reference3Ideal m ρ trivial,
    fun m ρ _ => Cert.Kernel4.Gen.frame m ρ, fun m ρ _ => Cert.Kernel4Ideal.Gen.frame m ρ, frame_Reference4Ideal,
    fun m ρ _ => Cert.Kernel5.Gen.frame m ρ, fun m ρ _ => Cert.Kernel5Ideal.Gen.frame m ρ, frame_Reference5Ideal,
    fun m ρ _ => Cert.Kernel6.Gen.frame m ρ, fun m ρ _ => Cert.Kernel6Ideal.Gen.frame m ρ, frame_Reference6Ideal,
    fun m ρ _ => Cert.Kernel7.Gen.frame m ρ, fun m ρ _ => Cert.Kernel7Ideal.Gen.frame m ρ, frame_Reference7Ideal,
    trivial, Cert.Attn.algebraic, trivial, Cert.Ffn.algebraic, trivial, Cert.Proj.algebraic, trivial, Cert.Merge.algebraic,
    trivial, Cert.Scatter.algebraic, trivial, Cert.Gather.algebraic, trivial, Cert.Modulation.algebraic⟩

end Cert.Proof

end
